-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "inv_dqk" .f32 0x3BAAAAAB#32 ((1 / 192 : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v26_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v26_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v76) = v0 c
          ∧ r.2.mem ((c.tc : Thread Cert.Reference3Ideal.nD Cert.Reference3Ideal.τ).loc Cert.Reference3Ideal.main_v78) = v1 c
          ∧ r.2.mem ((c.tc : Thread Cert.Reference3Ideal.nD Cert.Reference3Ideal.τ).loc Cert.Reference3Ideal.main_v80) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  IdealRules.named_const.Statement Cert.Kernel4Ideal.κ "inv_dqk" .f32 0x3BAAAAAB#32 ((1 / 192 : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v81) = v0 c
          ∧ r.2.mem ((c.tc : Thread Cert.Reference5Ideal.nD Cert.Reference5Ideal.τ).loc Cert.Reference5Ideal.main_v82) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S1 : Shape := ⟨1, ![1]⟩
abbrev S12x16x256x4224 : Shape := ⟨4, ![12, 16, 256, 4224]⟩
abbrev S12x16x4224x256 : Shape := ⟨4, ![12, 16, 4224, 256]⟩
abbrev S12x16x128x4224 : Shape := ⟨4, ![12, 16, 128, 4224]⟩
abbrev S_ : Shape := ⟨0, ![]⟩

class Facts : Prop where
  bcast_S_S12x16x256x4224 : S_.BroadcastsInDim S12x16x256x4224 (![] : Fin 0 → Fin S12x16x256x4224.rank)
  bcast_S_S12x16x4224x256 : S_.BroadcastsInDim S12x16x4224x256 (![] : Fin 0 → Fin S12x16x4224x256.rank)

variable [Facts]

def fn {F : FTy → Type} [FloatOps F] (main_arg0 : IVec S1 32) (main_arg1 : FVec F S12x16x256x4224 .bf16) (main_arg2 : FVec F S12x16x4224x256 .bf16) (main_arg3 : FVec F S12x16x128x4224 .bf16) : IVec S12x16x256x4224 1 × IVec S12x16x256x4224 1 × IVec S12x16x4224x256 1 × IVec S12x16x4224x256 1 :=
  let main_cst : FVec F S_ .bf16 := constant S_ .bf16 0x7F80#16
  let main_v0 : FVec F S12x16x256x4224 .bf16 := broadcastInDim S12x16x256x4224 ![] bcast_S_S12x16x256x4224 main_cst
  let main_v1 : IVec S12x16x256x4224 1 := cmpf .olt main_arg1 main_v0
  let main_cst_0 : FVec F S_ .bf16 := constant S_ .bf16 0xFF80#16
  let main_v2 : FVec F S12x16x256x4224 .bf16 := broadcastInDim S12x16x256x4224 ![] bcast_S_S12x16x256x4224 main_cst_0
  let main_v3 : IVec S12x16x256x4224 1 := cmpf .ogt main_arg1 main_v2
  let main_cst_1 : FVec F S_ .bf16 := constant S_ .bf16 0x7F80#16
  let main_v4 : FVec F S12x16x4224x256 .bf16 := broadcastInDim S12x16x4224x256 ![] bcast_S_S12x16x4224x256 main_cst_1
  let main_v5 : IVec S12x16x4224x256 1 := cmpf .olt main_arg2 main_v4
  let main_cst_2 : FVec F S_ .bf16 := constant S_ .bf16 0xFF80#16
  let main_v6 : FVec F S12x16x4224x256 .bf16 := broadcastInDim S12x16x4224x256 ![] bcast_S_S12x16x4224x256 main_cst_2
  let main_v7 : IVec S12x16x4224x256 1 := cmpf .ogt main_arg2 main_v6
  (main_v1, main_v3, main_v5, main_v7)
-- ==== Kernel.lean ====
abbrev S1 : Shape := ⟨1, ![1]⟩
abbrev S12x16x256x4224 : Shape := ⟨4, ![12, 16, 256, 4224]⟩
abbrev S12x16x4224x256 : Shape := ⟨4, ![12, 16, 4224, 256]⟩
abbrev S12x16x128x4224 : Shape := ⟨4, ![12, 16, 128, 4224]⟩
abbrev S12x4096x2048 : Shape := ⟨3, ![12, 4096, 2048]⟩
abbrev S1x1x256x4096 : Shape := ⟨4, ![1, 1, 256, 4096]⟩
abbrev S1x1x4224x256 : Shape := ⟨4, ![1, 1, 4224, 256]⟩
abbrev S1x1x128x4224 : Shape := ⟨4, ![1, 1, 128, 4224]⟩
abbrev S1x4096x128 : Shape := ⟨3, ![1, 4096, 128]⟩
abbrev S128x1 : Shape := ⟨2, ![128, 1]⟩
abbrev S1x512 : Shape := ⟨2, ![1, 512]⟩
abbrev S128x512 : Shape := ⟨2, ![128, 512]⟩
abbrev S1x1x1024x256 : Shape := ⟨4, ![1, 1, 1024, 256]⟩
abbrev S1024x256 : Shape := ⟨2, ![1024, 256]⟩
abbrev S1x1x256x512 : Shape := ⟨4, ![1, 1, 256, 512]⟩
abbrev S256x512 : Shape := ⟨2, ![256, 512]⟩
abbrev S1024x512 : Shape := ⟨2, ![1024, 512]⟩
abbrev S512 : Shape := ⟨1, ![512]⟩
abbrev S1x1x128x1024 : Shape := ⟨4, ![1, 1, 128, 1024]⟩
abbrev S128x1024 : Shape := ⟨2, ![128, 1024]⟩
abbrev S1x1x128x256 : Shape := ⟨4, ![1, 1, 128, 256]⟩
abbrev S128x256 : Shape := ⟨2, ![128, 256]⟩
abbrev S1x1x128x128 : Shape := ⟨4, ![1, 1, 128, 128]⟩
abbrev S128x128 : Shape := ⟨2, ![128, 128]⟩
abbrev S512x128 : Shape := ⟨2, ![512, 128]⟩
abbrev S1x512x128 : Shape := ⟨3, ![1, 512, 128]⟩

abbrev nBuf : Space → Nat
  | .hbm => 5
  | .vmem => 8
  | .smem => 1
  | _ => 0

abbrev bufTy : (tb : Table) → Fin (tcTables nBuf tb) → BufTy
  | .hbm, ⟨0, _⟩ => ⟨S1, .i32⟩
  | .hbm, ⟨1, _⟩ => ⟨S12x16x256x4224, .bf16⟩
  | .hbm, ⟨2, _⟩ => ⟨S12x16x4224x256, .bf16⟩
  | .hbm, ⟨3, _⟩ => ⟨S12x16x128x4224, .bf16⟩
  | .hbm, ⟨4, _⟩ => ⟨S12x4096x2048, .bf16⟩
  | .local _ .vmem, ⟨0, _⟩ => ⟨S1x1x256x4096, .bf16⟩
  | .local _ .vmem, ⟨1, _⟩ => ⟨S1x1x256x4096, .bf16⟩
  | .local _ .vmem, ⟨2, _⟩ => ⟨S1x1x4224x256, .bf16⟩
  | .local _ .vmem, ⟨3, _⟩ => ⟨S1x1x4224x256, .bf16⟩
  | .local _ .vmem, ⟨4, _⟩ => ⟨S1x1x128x4224, .bf16⟩
  | .local _ .vmem, ⟨5, _⟩ => ⟨S1x1x128x4224, .bf16⟩
  | .local _ .vmem, ⟨6, _⟩ => ⟨S1x4096x128, .bf16⟩
  | .local _ .vmem, ⟨7, _⟩ => ⟨S1x4096x128, .bf16⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![12, 16, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128x4224 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S1 : Shape := ⟨1, ![1]⟩
abbrev S12x16x256x4224 : Shape := ⟨4, ![12, 16, 256, 4224]⟩
abbrev S12x16x4224x256 : Shape := ⟨4, ![12, 16, 4224, 256]⟩
abbrev S12x16x128x4224 : Shape := ⟨4, ![12, 16, 128, 4224]⟩
abbrev S12x16x256x4096 : Shape := ⟨4, ![12, 16, 256, 4096]⟩
abbrev S12x16x16x256 : Shape := ⟨4, ![12, 16, 16, 256]⟩
abbrev S12x16x4096x256 : Shape := ⟨4, ![12, 16, 4096, 256]⟩
abbrev S12x16x4112x256 : Shape := ⟨4, ![12, 16, 4112, 256]⟩
abbrev S12x16x128x16 : Shape := ⟨4, ![12, 16, 128, 16]⟩
abbrev S12x16x128x4096 : Shape := ⟨4, ![12, 16, 128, 4096]⟩
abbrev S12x16x128x4112 : Shape := ⟨4, ![12, 16, 128, 4112]⟩
abbrev S12x16x4096x4112 : Shape := ⟨4, ![12, 16, 4096, 4112]⟩
abbrev S_ : Shape := ⟨0, ![]⟩
abbrev S12x16x4096 : Shape := ⟨3, ![12, 16, 4096]⟩
abbrev S12x16x4096x1 : Shape := ⟨4, ![12, 16, 4096, 1]⟩
abbrev S12x4096x16x128 : Shape := ⟨4, ![12, 4096, 16, 128]⟩
abbrev S12x4096x2048 : Shape := ⟨3, ![12, 4096, 2048]⟩

abbrev nBuf : Space → Nat
  | .hbm => 37
  | .vmem => 0
  | .smem => 0
  | _ => 0

abbrev bufTy : (tb : Table) → Fin (tcTables nBuf tb) → BufTy
  | .hbm, ⟨0, _⟩ => ⟨S1, .i32⟩
  | .hbm, ⟨1, _⟩ => ⟨S12x16x256x4224, .bf16⟩
  | .hbm, ⟨2, _⟩ => ⟨S12x16x4224x256, .bf16⟩
  | .hbm, ⟨3, _⟩ => ⟨S12x16x128x4224, .bf16⟩
  | .hbm, ⟨4, _⟩ => ⟨S12x16x256x4224, .f32⟩
  | .hbm, ⟨5, _⟩ => ⟨S12x16x256x4096, .f32⟩
  | .hbm, ⟨6, _⟩ => ⟨S12x16x4224x256, .f32⟩
  | .hbm, ⟨7, _⟩ => ⟨S12x16x128x4224, .f32⟩
  | .hbm, ⟨8, _⟩ => ⟨S12x16x16x256, .f32⟩
  | .hbm, ⟨9, _⟩ => ⟨S12x16x4096x256, .f32⟩
  | .hbm, ⟨10, _⟩ => ⟨S12x16x4112x256, .f32⟩
  | .hbm, ⟨11, _⟩ => ⟨S12x16x128x16, .f32⟩
  | .hbm, ⟨12, _⟩ => ⟨S12x16x128x4096, .f32⟩
  | .hbm, ⟨13, _⟩ => ⟨S12x16x128x4112, .f32⟩
  | .hbm, ⟨14, _⟩ => ⟨S12x16x4096x4112, .f32⟩
  | .hbm, ⟨15, _⟩ => ⟨S_, .f32⟩
  | .hbm, ⟨16, _⟩ => ⟨S_, .f32⟩
  | .hbm, ⟨17, _⟩ => ⟨S12x16x4096x4112, .f32⟩
  | .hbm, ⟨18, _⟩ => ⟨S12x16x4096x4112, .f32⟩
  | .hbm, ⟨19, _⟩ => ⟨S_, .f32⟩
  | .hbm, ⟨20, _⟩ => ⟨S12x16x4096, .f32⟩
  | .hbm, ⟨21, _⟩ => ⟨S_, .f32⟩
  | .hbm, ⟨22, _⟩ => ⟨S12x16x4096, .f32⟩
  | .hbm, ⟨23, _⟩ => ⟨S12x16x4096, .f32⟩
  | .hbm, ⟨24, _⟩ => ⟨S12x16x4096x1, .f32⟩
  | .hbm, ⟨25, _⟩ => ⟨S12x16x4096x4112, .f32⟩
  | .hbm, ⟨26, _⟩ => ⟨S12x16x4096x4112, .f32⟩
  | .hbm, ⟨27, _⟩ => ⟨S12x16x4096x4112, .f32⟩
  | .hbm, ⟨28, _⟩ => ⟨S_, .f32⟩
  | .hbm, ⟨29, _⟩ => ⟨S12x16x4096, .f32⟩
  | .hbm, ⟨30, _⟩ => ⟨S12x16x4096x1, .f32⟩
  | .hbm, ⟨31, _⟩ => ⟨S12x16x4096x4112, .f32⟩
  | .hbm, ⟨32, _⟩ => ⟨S12x16x4096x4112, .f32⟩
  | .hbm, ⟨33, _⟩ => ⟨S12x16x128x4096, .f32⟩
  | .hbm, ⟨34, _⟩ => ⟨S12x4096x16x128, .f32⟩
  | .hbm, ⟨35, _⟩ => ⟨S12x4096x2048, .f32⟩
  | .hbm, ⟨36, _⟩ => ⟨S12x4096x2048, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel2.lean ====
abbrev S50688x2048 : Shape := ⟨2, ![50688, 2048]⟩
abbrev S50688x1024 : Shape := ⟨2, ![50688, 1024]⟩
abbrev S1x1024 : Shape := ⟨2, ![1, 1024]⟩
abbrev S1024x2048 : Shape := ⟨2, ![1024, 2048]⟩
abbrev S1x256 : Shape := ⟨2, ![1, 256]⟩
abbrev S2048x1024 : Shape := ⟨2, ![2048, 1024]⟩
abbrev S768x2048 : Shape := ⟨2, ![768, 2048]⟩
abbrev S768x1024 : Shape := ⟨2, ![768, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x256 : Shape := ⟨2, ![256, 256]⟩

abbrev nBuf : Space → Nat
  | .hbm => 8
  | .vmem => 12
  | .smem => 0
  | _ => 0

abbrev bufTy : (tb : Table) → Fin (tcTables nBuf tb) → BufTy
  | .hbm, ⟨0, _⟩ => ⟨S50688x2048, .bf16⟩
  | .hbm, ⟨1, _⟩ => ⟨S50688x2048, .bf16⟩
  | .hbm, ⟨2, _⟩ => ⟨S50688x1024, .f32⟩
  | .hbm, ⟨3, _⟩ => ⟨S1x1024, .f32⟩
  | .hbm, ⟨4, _⟩ => ⟨S1024x2048, .bf16⟩
  | .hbm, ⟨5, _⟩ => ⟨S1x256, .f32⟩
  | .hbm, ⟨6, _⟩ => ⟨S2048x1024, .bf16⟩
  | .hbm, ⟨7, _⟩ => ⟨S50688x1024, .f32⟩
  | .local _ .vmem, ⟨0, _⟩ => ⟨S768x2048, .bf16⟩
  | .local _ .vmem, ⟨1, _⟩ => ⟨S768x2048, .bf16⟩
  | .local _ .vmem, ⟨2, _⟩ => ⟨S768x2048, .bf16⟩
  | .local _ .vmem, ⟨3, _⟩ => ⟨S768x2048, .bf16⟩
  | .local _ .vmem, ⟨4, _⟩ => ⟨S768x1024, .f32⟩
  | .local _ .vmem, ⟨5, _⟩ => ⟨S768x1024, .f32⟩
  | .local _ .vmem, ⟨6, _⟩ => ⟨S1x1024, .f32⟩
  | .local _ .vmem, ⟨7, _⟩ => ⟨S1024x2048, .bf16⟩
  | .local _ .vmem, ⟨8, _⟩ => ⟨S1x256, .f32⟩
  | .local _ .vmem, ⟨9, _⟩ => ⟨S2048x1024, .bf16⟩
  | .local _ .vmem, ⟨10, _⟩ => ⟨S768x1024, .f32⟩
  | .local _ .vmem, ⟨11, _⟩ => ⟨S768x1024, .f32⟩
  | _, _ => ⟨S50688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![66], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S50688x2048 : Shape := ⟨2, ![50688, 2048]⟩
abbrev S50688x1024 : Shape := ⟨2, ![50688, 1024]⟩
abbrev S1x1024 : Shape := ⟨2, ![1, 1024]⟩
abbrev S1024x2048 : Shape := ⟨2, ![1024, 2048]⟩
abbrev S1x256 : Shape := ⟨2, ![1, 256]⟩
abbrev S2048x1024 : Shape := ⟨2, ![2048, 1024]⟩
abbrev S_ : Shape := ⟨0, ![]⟩
abbrev S50688 : Shape := ⟨1, ![50688]⟩
abbrev S50688x1 : Shape := ⟨2, ![50688, 1]⟩
abbrev S50688x8x256 : Shape := ⟨3, ![50688, 8, 256]⟩
abbrev S50688x8 : Shape := ⟨2, ![50688, 8]⟩
abbrev S50688x8x1 : Shape := ⟨3, ![50688, 8, 1]⟩
abbrev S1x1x256 : Shape := ⟨3, ![1, 1, 256]⟩

abbrev nBuf : Space → Nat
  | .hbm => 58
  | .vmem => 0
  | .smem => 0
  | _ => 0

abbrev bufTy : (tb : Table) → Fin (tcTables nBuf tb) → BufTy
  | .hbm, ⟨0, _⟩ => ⟨S50688x2048, .bf16⟩
  | .hbm, ⟨1, _⟩ => ⟨S50688x2048, .bf16⟩
  | .hbm, ⟨2, _⟩ => ⟨S50688x1024, .f32⟩
  | .hbm, ⟨3, _⟩ => ⟨S1x1024, .f32⟩
  | .hbm, ⟨4, _⟩ => ⟨S1024x2048, .bf16⟩
  | .hbm, ⟨5, _⟩ => ⟨S1x256, .f32⟩
  | .hbm, ⟨6, _⟩ => ⟨S2048x1024, .bf16⟩
  | .hbm, ⟨7, _⟩ => ⟨S50688x1024, .f32⟩
  | .hbm, ⟨8, _⟩ => ⟨S_, .f32⟩
  | .hbm, ⟨9, _⟩ => ⟨S50688, .f32⟩
  | .hbm, ⟨10, _⟩ => ⟨S50688x1, .f32⟩
  | .hbm, ⟨11, _⟩ => ⟨S_, .f32⟩
  | .hbm, ⟨12, _⟩ => ⟨S50688x1, .f32⟩
  | .hbm, ⟨13, _⟩ => ⟨S50688x1, .f32⟩
  | .hbm, ⟨14, _⟩ => ⟨S_, .f32⟩
  | .hbm, ⟨15, _⟩ => ⟨S50688x1, .f32⟩
  | .hbm, ⟨16, _⟩ => ⟨S50688x1, .f32⟩
  | .hbm, ⟨17, _⟩ => ⟨S50688x1, .f32⟩
  | .hbm, ⟨18, _⟩ => ⟨S50688x1024, .f32⟩
  | .hbm, ⟨19, _⟩ => ⟨S50688x1024, .f32⟩
  | .hbm, ⟨20, _⟩ => ⟨S50688x1024, .f32⟩
  | .hbm, ⟨21, _⟩ => ⟨S50688x1024, .f32⟩
  | .hbm, ⟨22, _⟩ => ⟨S1024x2048, .f32⟩
  | .hbm, ⟨23, _⟩ => ⟨S50688x2048, .f32⟩
  | .hbm, ⟨24, _⟩ => ⟨S50688x2048, .f32⟩
  | .hbm, ⟨25, _⟩ => ⟨S50688x2048, .f32⟩
  | .hbm, ⟨26, _⟩ => ⟨S50688x2048, .f32⟩
  | .hbm, ⟨27, _⟩ => ⟨S50688x8x256, .f32⟩
  | .hbm, ⟨28, _⟩ => ⟨S50688x8x256, .f32⟩
  | .hbm, ⟨29, _⟩ => ⟨S_, .f32⟩
  | .hbm, ⟨30, _⟩ => ⟨S50688x8, .f32⟩
  | .hbm, ⟨31, _⟩ => ⟨S50688x8x1, .f32⟩
  | .hbm, ⟨32, _⟩ => ⟨S_, .f32⟩
  | .hbm, ⟨33, _⟩ => ⟨S50688x8x1, .f32⟩
  | .hbm, ⟨34, _⟩ => ⟨S50688x8x1, .f32⟩
  | .hbm, ⟨35, _⟩ => ⟨S_, .f32⟩
  | .hbm, ⟨36, _⟩ => ⟨S50688x8x1, .f32⟩
  | .hbm, ⟨37, _⟩ => ⟨S50688x8x1, .f32⟩
  | .hbm, ⟨38, _⟩ => ⟨S50688x8x1, .f32⟩
  | .hbm, ⟨39, _⟩ => ⟨S50688x8x256, .f32⟩
  | .hbm, ⟨40, _⟩ => ⟨S50688x8x256, .f32⟩
  | .hbm, ⟨41, _⟩ => ⟨S1x1x256, .f32⟩
  | .hbm, ⟨42, _⟩ => ⟨S50688x8x256, .f32⟩
  | .hbm, ⟨43, _⟩ => ⟨S50688x8x256, .f32⟩
  | .hbm, ⟨44, _⟩ => ⟨S50688x2048, .f32⟩
  | .hbm, ⟨45, _⟩ => ⟨S50688x2048, .f32⟩
  | .hbm, ⟨46, _⟩ => ⟨S50688x2048, .f32⟩
  | .hbm, ⟨47, _⟩ => ⟨S_, .f32⟩
  | .hbm, ⟨48, _⟩ => ⟨S50688x2048, .f32⟩
  | .hbm, ⟨49, _⟩ => ⟨S50688x2048, .f32⟩
  | .hbm, ⟨50, _⟩ => ⟨S_, .f32⟩
  | .hbm, ⟨51, _⟩ => ⟨S50688x2048, .f32⟩
  | .hbm, ⟨52, _⟩ => ⟨S50688x2048, .f32⟩
  | .hbm, ⟨53, _⟩ => ⟨S50688x2048, .f32⟩
  | .hbm, ⟨54, _⟩ => ⟨S50688x2048, .f32⟩
  | .hbm, ⟨55, _⟩ => ⟨S2048x1024, .f32⟩
  | .hbm, ⟨56, _⟩ => ⟨S50688x1024, .f32⟩
  | .hbm, ⟨57, _⟩ => ⟨S50688x1024, .f32⟩
  | _, _ => ⟨S50688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Kernel3.lean ====
abbrev S12x4224x1024 : Shape := ⟨3, ![12, 4224, 1024]⟩
abbrev S1x1024 : Shape := ⟨2, ![1, 1024]⟩
abbrev S1024x2880 : Shape := ⟨2, ![1024, 2880]⟩
abbrev S1x256 : Shape := ⟨2, ![1, 256]⟩
abbrev S256x4096 : Shape := ⟨2, ![256, 4096]⟩
abbrev S192 : Shape := ⟨1, ![192]⟩
abbrev S4224x32 : Shape := ⟨2, ![4224, 32]⟩
abbrev S1024x256 : Shape := ⟨2, ![1024, 256]⟩
abbrev S1024x64 : Shape := ⟨2, ![1024, 64]⟩
abbrev S_ : Shape := ⟨0, ![]⟩
abbrev S1024x128 : Shape := ⟨2, ![1024, 128]⟩
abbrev S1024x384 : Shape := ⟨2, ![1024, 384]⟩
abbrev S1024x2048 : Shape := ⟨2, ![1024, 2048]⟩
abbrev S1024x512 : Shape := ⟨2, ![1024, 512]⟩
abbrev S1024x2560 : Shape := ⟨2, ![1024, 2560]⟩
abbrev S4224x128 : Shape := ⟨2, ![4224, 128]⟩
abbrev S256x16x256 : Shape := ⟨3, ![256, 16, 256]⟩
abbrev S256x16x128 : Shape := ⟨3, ![256, 16, 128]⟩
abbrev S256x2048 : Shape := ⟨2, ![256, 2048]⟩
abbrev S128 : Shape := ⟨1, ![128]⟩
abbrev S1x128 : Shape := ⟨2, ![1, 128]⟩
abbrev S64 : Shape := ⟨1, ![64]⟩
abbrev S12x4224x2560 : Shape := ⟨3, ![12, 4224, 2560]⟩
abbrev S12x16x4224x256 : Shape := ⟨4, ![12, 16, 4224, 256]⟩
abbrev S12x16x128x4224 : Shape := ⟨4, ![12, 16, 128, 4224]⟩
abbrev S1x384x1024 : Shape := ⟨3, ![1, 384, 1024]⟩
abbrev S384x128 : Shape := ⟨2, ![384, 128]⟩
abbrev S1x384x2560 : Shape := ⟨3, ![1, 384, 2560]⟩
abbrev S1x16x384x256 : Shape := ⟨4, ![1, 16, 384, 256]⟩
abbrev S1x16x128x384 : Shape := ⟨4, ![1, 16, 128, 384]⟩
abbrev S384x1024 : Shape := ⟨2, ![384, 1024]⟩
abbrev S384 : Shape := ⟨1, ![384]⟩
abbrev S384x1 : Shape := ⟨2, ![384, 1]⟩
abbrev S384x384 : Shape := ⟨2, ![384, 384]⟩
abbrev S384x256 : Shape := ⟨2, ![384, 256]⟩
abbrev S384x4096 : Shape := ⟨2, ![384, 4096]⟩
abbrev S384x2560 : Shape := ⟨2, ![384, 2560]⟩
abbrev S1x1x384x128 : Shape := ⟨4, ![1, 1, 384, 128]⟩
abbrev S128x384 : Shape := ⟨2, ![128, 384]⟩
abbrev S1x1x128x384 : Shape := ⟨4, ![1, 1, 128, 384]⟩

abbrev nBuf : Space → Nat
  | .hbm => 42
  | .vmem => 21
  | .smem => 0
  | _ => 0

abbrev bufTy : (tb : Table) → Fin (tcTables nBuf tb) → BufTy
  | .hbm, ⟨0, _⟩ => ⟨S12x4224x1024, .f32⟩
  | .hbm, ⟨1, _⟩ => ⟨S1x1024, .f32⟩
  | .hbm, ⟨2, _⟩ => ⟨S1024x2880, .f32⟩
  | .hbm, ⟨3, _⟩ => ⟨S1x256, .f32⟩
  | .hbm, ⟨4, _⟩ => ⟨S256x4096, .f32⟩
  | .hbm, ⟨5, _⟩ => ⟨S192, .f32⟩
  | .hbm, ⟨6, _⟩ => ⟨S4224x32, .f32⟩
  | .hbm, ⟨7, _⟩ => ⟨S4224x32, .f32⟩
  | .hbm, ⟨8, _⟩ => ⟨S1024x256, .f32⟩
  | .hbm, ⟨9, _⟩ => ⟨S1024x64, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x384, .f32⟩
  | .hbm, ⟨14, _⟩ => ⟨S1024x384, .bf16⟩
  | .hbm, ⟨15, _⟩ => ⟨S1024x2048, .f32⟩
  | .hbm, ⟨16, _⟩ => ⟨S1024x512, .f32⟩
  | .hbm, ⟨17, _⟩ => ⟨S1024x2560, .f32⟩
  | .hbm, ⟨18, _⟩ => ⟨S1024x2560, .bf16⟩
  | .hbm, ⟨19, _⟩ => ⟨S_, .f32⟩
  | .hbm, ⟨20, _⟩ => ⟨S4224x32, .f32⟩
  | .hbm, ⟨21, _⟩ => ⟨S4224x128, .f32⟩
  | .hbm, ⟨22, _⟩ => ⟨S4224x32, .f32⟩
  | .hbm, ⟨23, _⟩ => ⟨S4224x128, .f32⟩
  | .hbm, ⟨24, _⟩ => ⟨S4224x128, .f32⟩
  | .hbm, ⟨25, _⟩ => ⟨S256x16x256, .f32⟩
  | .hbm, ⟨26, _⟩ => ⟨S256x16x128, .f32⟩
  | .hbm, ⟨27, _⟩ => ⟨S256x2048, .f32⟩
  | .hbm, ⟨28, _⟩ => ⟨S256x16x128, .f32⟩
  | .hbm, ⟨29, _⟩ => ⟨S256x2048, .f32⟩
  | .hbm, ⟨30, _⟩ => ⟨S256x4096, .f32⟩
  | .hbm, ⟨31, _⟩ => ⟨S256x4096, .bf16⟩
  | .hbm, ⟨32, _⟩ => ⟨S128, .f32⟩
  | .hbm, ⟨33, _⟩ => ⟨S1x128, .f32⟩
  | .hbm, ⟨34, _⟩ => ⟨S64, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S12x4224x2560, .bf16⟩
  | .hbm, ⟨40, _⟩ => ⟨S12x16x4224x256, .bf16⟩
  | .hbm, ⟨41, _⟩ => ⟨S12x16x128x4224, .bf16⟩
  | .local _ .vmem, ⟨0, _⟩ => ⟨S1x384x1024, .f32⟩
  | .local _ .vmem, ⟨1, _⟩ => ⟨S1x384x1024, .f32⟩
  | .local _ .vmem, ⟨2, _⟩ => ⟨S1x1024, .f32⟩
  | .local _ .vmem, ⟨3, _⟩ => ⟨S1024x384, .bf16⟩
  | .local _ .vmem, ⟨4, _⟩ => ⟨S1024x2560, .bf16⟩
  | .local _ .vmem, ⟨5, _⟩ => ⟨S1x256, .f32⟩
  | .local _ .vmem, ⟨6, _⟩ => ⟨S256x4096, .bf16⟩
  | .local _ .vmem, ⟨7, _⟩ => ⟨S1x128, .f32⟩
  | .local _ .vmem, ⟨8, _⟩ => ⟨S1x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x128, .f32⟩
  | .local _ .vmem, ⟨13, _⟩ => ⟨S384x128, .f32⟩
  | .local _ .vmem, ⟨14, _⟩ => ⟨S384x128, .f32⟩
  | .local _ .vmem, ⟨15, _⟩ => ⟨S1x384x2560, .bf16⟩
  | .local _ .vmem, ⟨16, _⟩ => ⟨S1x384x2560, .bf16⟩
  | .local _ .vmem, ⟨17, _⟩ => ⟨S1x16x384x256, .bf16⟩
  | .local _ .vmem, ⟨18, _⟩ => ⟨S1x16x384x256, .bf16⟩
  | .local _ .vmem, ⟨19, _⟩ => ⟨S1x16x128x384, .bf16⟩
  | .local _ .vmem, ⟨20, _⟩ => ⟨S1x16x128x384, .bf16⟩
  | _, _ => ⟨S12x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_0 : Ref sig .tc := ⟨.hbm, 35, rfl⟩
abbrev main_call1_v0 : Ref sig .tc := ⟨.hbm, 36, rfl⟩
abbrev main_v24 : Ref sig .tc := ⟨.hbm, 37, rfl⟩
abbrev main_v25 : Ref sig .tc := ⟨.hbm, 38, rfl⟩
abbrev main_v26_0 : Ref sig .tc := ⟨.hbm, 39, rfl⟩
abbrev main_v26_1 : Ref sig .tc := ⟨.hbm, 40, rfl⟩
abbrev main_v26_2 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![12, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2560 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S384x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x384x2560 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x384x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x128x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel3Ideal.lean ====
variable {F : FTy → Type} [FloatOps F] [Named F]
def κ : String → Option EReal := fun
  | "inv_dqk" => some ((1 / 192 : ℝ) : EReal)
  | _ => none
-- ==== Reference3Ideal.lean ====
abbrev S12x4224x1024 : Shape := ⟨3, ![12, 4224, 1024]⟩
abbrev S1x1024 : Shape := ⟨2, ![1, 1024]⟩
abbrev S1024x2880 : Shape := ⟨2, ![1024, 2880]⟩
abbrev S1x256 : Shape := ⟨2, ![1, 256]⟩
abbrev S256x4096 : Shape := ⟨2, ![256, 4096]⟩
abbrev S192 : Shape := ⟨1, ![192]⟩
abbrev S4224x32 : Shape := ⟨2, ![4224, 32]⟩
abbrev S_ : Shape := ⟨0, ![]⟩
abbrev S12x4224 : Shape := ⟨2, ![12, 4224]⟩
abbrev S12x4224x1 : Shape := ⟨3, ![12, 4224, 1]⟩
abbrev S1x1x1024 : Shape := ⟨3, ![1, 1, 1024]⟩
abbrev S12x4224x2880 : Shape := ⟨3, ![12, 4224, 2880]⟩
abbrev S12x4224x512 : Shape := ⟨3, ![12, 4224, 512]⟩
abbrev S12x4224x256 : Shape := ⟨3, ![12, 4224, 256]⟩
abbrev S1x1x256 : Shape := ⟨3, ![1, 1, 256]⟩
abbrev S12x4224x64 : Shape := ⟨3, ![12, 4224, 64]⟩
abbrev S12x4224x2048 : Shape := ⟨3, ![12, 4224, 2048]⟩
abbrev S12x4224x4096 : Shape := ⟨3, ![12, 4224, 4096]⟩
abbrev S12x4224x16x256 : Shape := ⟨4, ![12, 4224, 16, 256]⟩
abbrev S12x4224x16x128 : Shape := ⟨4, ![12, 4224, 16, 128]⟩
abbrev S12x4224x1x64 : Shape := ⟨4, ![12, 4224, 1, 64]⟩
abbrev S12x4224x16x64 : Shape := ⟨4, ![12, 4224, 16, 64]⟩
abbrev S12x4224x16x192 : Shape := ⟨4, ![12, 4224, 16, 192]⟩
abbrev S12x4224x16 : Shape := ⟨3, ![12, 4224, 16]⟩
abbrev S12x4224x16x1 : Shape := ⟨4, ![12, 4224, 16, 1]⟩
abbrev S1x1x1x192 : Shape := ⟨4, ![1, 1, 1, 192]⟩
abbrev S4224x1x32 : Shape := ⟨3, ![4224, 1, 32]⟩
abbrev S12x4224x16x32 : Shape := ⟨4, ![12, 4224, 16, 32]⟩
abbrev S1x4224x1x32 : Shape := ⟨4, ![1, 4224, 1, 32]⟩
abbrev S12x4224x16x63 : Shape := ⟨4, ![12, 4224, 16, 63]⟩
abbrev S12x4224x2560 : Shape := ⟨3, ![12, 4224, 2560]⟩
abbrev S12x16x4224x256 : Shape := ⟨4, ![12, 16, 4224, 256]⟩
abbrev S12x16x128x4224 : Shape := ⟨4, ![12, 16, 128, 4224]⟩

abbrev nBuf : Space → Nat
  | .hbm => 100
  | .vmem => 0
  | .smem => 0
  | _ => 0

abbrev bufTy : (tb : Table) → Fin (tcTables nBuf tb) → BufTy
  | .hbm, ⟨0, _⟩ => ⟨S12x4224x1024, .f32⟩
  | .hbm, ⟨1, _⟩ => ⟨S1x1024, .f32⟩
  | .hbm, ⟨2, _⟩ => ⟨S1024x2880, .f32⟩
  | .hbm, ⟨3, _⟩ => ⟨S1x256, .f32⟩
  | .hbm, ⟨4, _⟩ => ⟨S256x4096, .f32⟩
  | .hbm, ⟨5, _⟩ => ⟨S192, .f32⟩
  | .hbm, ⟨6, _⟩ => ⟨S4224x32, .f32⟩
  | .hbm, ⟨7, _⟩ => ⟨S4224x32, .f32⟩
  | .hbm, ⟨8, _⟩ => ⟨S12x4224x1024, .f32⟩
  | .hbm, ⟨9, _⟩ => ⟨S_, .f32⟩
  | .hbm, ⟨10, _⟩ => ⟨S12x4224, .f32⟩
  | .hbm, ⟨11, _⟩ => ⟨S12x4224x1, .f32⟩
  | .hbm, ⟨12, _⟩ => ⟨S_, .f32⟩
  | .hbm, ⟨13, _⟩ => ⟨S12x4224x1, .f32⟩
  | .hbm, ⟨14, _⟩ => ⟨S12x4224x1, .f32⟩
  | .hbm, ⟨15, _⟩ => ⟨S_, .f32⟩
  | .hbm, ⟨16, _⟩ => ⟨S12x4224x1, .f32⟩
  | .hbm, ⟨17, _⟩ => ⟨S12x4224x1, .f32⟩
  | .hbm, ⟨18, _⟩ => ⟨S12x4224x1, .f32⟩
  | .hbm, ⟨19, _⟩ => ⟨S12x4224x1024, .f32⟩
  | .hbm, ⟨20, _⟩ => ⟨S12x4224x1024, .f32⟩
  | .hbm, ⟨21, _⟩ => ⟨S1x1x1024, .f32⟩
  | .hbm, ⟨22, _⟩ => ⟨S12x4224x1024, .f32⟩
  | .hbm, ⟨23, _⟩ => ⟨S12x4224x1024, .f32⟩
  | .hbm, ⟨24, _⟩ => ⟨S12x4224x2880, .f32⟩
  | .hbm, ⟨25, _⟩ => ⟨S12x4224x512, .f32⟩
  | .hbm, ⟨26, _⟩ => ⟨S12x4224x256, .f32⟩
  | .hbm, ⟨27, _⟩ => ⟨S12x4224x256, .f32⟩
  | .hbm, ⟨28, _⟩ => ⟨S_, .f32⟩
  | .hbm, ⟨29, _⟩ => ⟨S12x4224, .f32⟩
  | .hbm, ⟨30, _⟩ => ⟨S12x4224x1, .f32⟩
  | .hbm, ⟨31, _⟩ => ⟨S_, .f32⟩
  | .hbm, ⟨32, _⟩ => ⟨S12x4224x1, .f32⟩
  | .hbm, ⟨33, _⟩ => ⟨S12x4224x1, .f32⟩
  | .hbm, ⟨34, _⟩ => ⟨S_, .f32⟩
  | .hbm, ⟨35, _⟩ => ⟨S12x4224x1, .f32⟩
  | .hbm, ⟨36, _⟩ => ⟨S12x4224x1, .f32⟩
  | .hbm, ⟨37, _⟩ => ⟨S12x4224x1, .f32⟩
  | .hbm, ⟨38, _⟩ => ⟨S12x4224x256, .f32⟩
  | .hbm, ⟨39, _⟩ => ⟨S12x4224x256, .f32⟩
  | .hbm, ⟨40, _⟩ => ⟨S1x1x256, .f32⟩
  | .hbm, ⟨41, _⟩ => ⟨S12x4224x256, .f32⟩
  | .hbm, ⟨42, _⟩ => ⟨S12x4224x256, .f32⟩
  | .hbm, ⟨43, _⟩ => ⟨S12x4224x64, .f32⟩
  | .hbm, ⟨44, _⟩ => ⟨S12x4224x2048, .f32⟩
  | .hbm, ⟨45, _⟩ => ⟨S12x4224x4096, .f32⟩
  | .hbm, ⟨46, _⟩ => ⟨S12x4224x16x256, .f32⟩
  | .hbm, ⟨47, _⟩ => ⟨S12x4224x16x128, .f32⟩
  | .hbm, ⟨48, _⟩ => ⟨S12x4224x16x128, .f32⟩
  | .hbm, ⟨49, _⟩ => ⟨S12x4224x1x64, .f32⟩
  | .hbm, ⟨50, _⟩ => ⟨S12x4224x16x64, .f32⟩
  | .hbm, ⟨51, _⟩ => ⟨S12x4224x16x192, .f32⟩
  | .hbm, ⟨52, _⟩ => ⟨S12x4224x16x192, .f32⟩
  | .hbm, ⟨53, _⟩ => ⟨S_, .f32⟩
  | .hbm, ⟨54, _⟩ => ⟨S12x4224x16, .f32⟩
  | .hbm, ⟨55, _⟩ => ⟨S12x4224x16x1, .f32⟩
  | .hbm, ⟨56, _⟩ => ⟨S_, .f32⟩
  | .hbm, ⟨57, _⟩ => ⟨S12x4224x16x1, .f32⟩
  | .hbm, ⟨58, _⟩ => ⟨S12x4224x16x1, .f32⟩
  | .hbm, ⟨59, _⟩ => ⟨S_, .f32⟩
  | .hbm, ⟨60, _⟩ => ⟨S12x4224x16x1, .f32⟩
  | .hbm, ⟨61, _⟩ => ⟨S12x4224x16x1, .f32⟩
  | .hbm, ⟨62, _⟩ => ⟨S12x4224x16x1, .f32⟩
  | .hbm, ⟨63, _⟩ => ⟨S12x4224x16x192, .f32⟩
  | .hbm, ⟨64, _⟩ => ⟨S12x4224x16x192, .f32⟩
  | .hbm, ⟨65, _⟩ => ⟨S1x1x1x192, .f32⟩
  | .hbm, ⟨66, _⟩ => ⟨S12x4224x16x192, .f32⟩
  | .hbm, ⟨67, _⟩ => ⟨S12x4224x16x192, .f32⟩
  | .hbm, ⟨68, _⟩ => ⟨S12x4224x16x128, .f32⟩
  | .hbm, ⟨69, _⟩ => ⟨S12x4224x16x64, .f32⟩
  | .hbm, ⟨70, _⟩ => ⟨S4224x1x32, .f32⟩
  | .hbm, ⟨71, _⟩ => ⟨S4224x1x32, .f32⟩
  | .hbm, ⟨72, _⟩ => ⟨S12x4224x16x32, .f32⟩
  | .hbm, ⟨73, _⟩ => ⟨S12x4224x16x32, .f32⟩
  | .hbm, ⟨74, _⟩ => ⟨S1x4224x1x32, .f32⟩
  | .hbm, ⟨75, _⟩ => ⟨S12x4224x16x32, .f32⟩
  | .hbm, ⟨76, _⟩ => ⟨S12x4224x16x32, .f32⟩
  | .hbm, ⟨77, _⟩ => ⟨S1x4224x1x32, .f32⟩
  | .hbm, ⟨78, _⟩ => ⟨S12x4224x16x32, .f32⟩
  | .hbm, ⟨79, _⟩ => ⟨S12x4224x16x32, .f32⟩
  | .hbm, ⟨80, _⟩ => ⟨S12x4224x16x32, .f32⟩
  | .hbm, ⟨81, _⟩ => ⟨S1x4224x1x32, .f32⟩
  | .hbm, ⟨82, _⟩ => ⟨S12x4224x16x32, .f32⟩
  | .hbm, ⟨83, _⟩ => ⟨S12x4224x16x32, .f32⟩
  | .hbm, ⟨84, _⟩ => ⟨S1x4224x1x32, .f32⟩
  | .hbm, ⟨85, _⟩ => ⟨S12x4224x16x32, .f32⟩
  | .hbm, ⟨86, _⟩ => ⟨S12x4224x16x32, .f32⟩
  | .hbm, ⟨87, _⟩ => ⟨S12x4224x16x32, .f32⟩
  | .hbm, ⟨88, _⟩ => ⟨S12x4224x16x64, .f32⟩
  | .hbm, ⟨89, _⟩ => ⟨S_, .f32⟩
  | .hbm, ⟨90, _⟩ => ⟨S12x4224x16x1, .f32⟩
  | .hbm, ⟨91, _⟩ => ⟨S_, .f32⟩
  | .hbm, ⟨92, _⟩ => ⟨S12x4224x16x63, .f32⟩
  | .hbm, ⟨93, _⟩ => ⟨S12x4224x16x256, .f32⟩
  | .hbm, ⟨94, _⟩ => ⟨S12x4224x2560, .f32⟩
  | .hbm, ⟨95, _⟩ => ⟨S12x4224x2560, .bf16⟩
  | .hbm, ⟨96, _⟩ => ⟨S12x16x4224x256, .f32⟩
  | .hbm, ⟨97, _⟩ => ⟨S12x16x4224x256, .bf16⟩
  | .hbm, ⟨98, _⟩ => ⟨S12x16x128x4224, .f32⟩
  | .hbm, ⟨99, _⟩ => ⟨S12x16x128x4224, .bf16⟩
  | _, _ => ⟨S12x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_8 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩

abbrev nD : Nat := 1
abbrev τ : Topo := Topo.v7x

variable {F : FTy → Type} [FloatOps F]
-- ==== Kernel4.lean ====
abbrev S12x4224x2560 : Shape := ⟨3, ![12, 4224, 2560]⟩
abbrev S1x512 : Shape := ⟨2, ![1, 512]⟩
abbrev S512x3072 : Shape := ⟨2, ![512, 3072]⟩
abbrev S192 : Shape := ⟨1, ![192]⟩
abbrev S_ : Shape := ⟨0, ![]⟩
abbrev S4224x32 : Shape := ⟨2, ![4224, 32]⟩
abbrev S192x1 : Shape := ⟨2, ![192, 1]⟩
abbrev S192x128 : Shape := ⟨2, ![192, 128]⟩
abbrev S64x128 : Shape := ⟨2, ![64, 128]⟩
abbrev S1 : Shape := ⟨1, ![1]⟩
abbrev S128 : Shape := ⟨1, ![128]⟩
abbrev S3072x512 : Shape := ⟨2, ![3072, 512]⟩
abbrev S128x128 : Shape := ⟨2, ![128, 128]⟩
abbrev S32x4224 : Shape := ⟨2, ![32, 4224]⟩
abbrev S12x16x256x4224 : Shape := ⟨4, ![12, 16, 256, 4224]⟩
abbrev S1x384x512 : Shape := ⟨3, ![1, 384, 512]⟩
abbrev S32x384 : Shape := ⟨2, ![32, 384]⟩
abbrev S1x16x256x384 : Shape := ⟨4, ![1, 16, 256, 384]⟩
abbrev S384x512 : Shape := ⟨2, ![384, 512]⟩
abbrev S384 : Shape := ⟨1, ![384]⟩
abbrev S384x1 : Shape := ⟨2, ![384, 1]⟩
abbrev S512x384 : Shape := ⟨2, ![512, 384]⟩
abbrev S128x384 : Shape := ⟨2, ![128, 384]⟩
abbrev S32x128 : Shape := ⟨2, ![32, 128]⟩
abbrev S64x384 : Shape := ⟨2, ![64, 384]⟩
abbrev S384x384 : Shape := ⟨2, ![384, 384]⟩
abbrev S1x384 : Shape := ⟨2, ![1, 384]⟩
abbrev S1x1x128x384 : Shape := ⟨4, ![1, 1, 128, 384]⟩
abbrev S1x1x32x384 : Shape := ⟨4, ![1, 1, 32, 384]⟩
abbrev S1x1x64x384 : Shape := ⟨4, ![1, 1, 64, 384]⟩

abbrev nBuf : Space → Nat
  | .hbm => 25
  | .vmem => 13
  | .smem => 0
  | _ => 0

abbrev bufTy : (tb : Table) → Fin (tcTables nBuf tb) → BufTy
  | .hbm, ⟨0, _⟩ => ⟨S12x4224x2560, .bf16⟩
  | .hbm, ⟨1, _⟩ => ⟨S1x512, .f32⟩
  | .hbm, ⟨2, _⟩ => ⟨S512x3072, .f32⟩
  | .hbm, ⟨3, _⟩ => ⟨S192, .f32⟩
  | .hbm, ⟨4, _⟩ => ⟨S_, .f32⟩
  | .hbm, ⟨5, _⟩ => ⟨S4224x32, .f32⟩
  | .hbm, ⟨6, _⟩ => ⟨S4224x32, .f32⟩
  | .hbm, ⟨7, _⟩ => ⟨S_, .f32⟩
  | .hbm, ⟨8, _⟩ => ⟨S192, .f32⟩
  | .hbm, ⟨9, _⟩ => ⟨S192, .f32⟩
  | .hbm, ⟨10, _⟩ => ⟨S192x1, .f32⟩
  | .hbm, ⟨11, _⟩ => ⟨S192x128, .f32⟩
  | .hbm, ⟨12, _⟩ => ⟨S_, .f32⟩
  | .hbm, ⟨13, _⟩ => ⟨S64x128, .f32⟩
  | .hbm, ⟨14, _⟩ => ⟨S_, .i32⟩
  | .hbm, ⟨15, _⟩ => ⟨S1, .i32⟩
  | .hbm, ⟨16, _⟩ => ⟨S128, .f32⟩
  | .hbm, ⟨17, _⟩ => ⟨S64x128, .f32⟩
  | .hbm, ⟨18, _⟩ => ⟨S3072x512, .f32⟩
  | .hbm, ⟨19, _⟩ => ⟨S3072x512, .bf16⟩
  | .hbm, ⟨20, _⟩ => ⟨S128x128, .f32⟩
  | .hbm, ⟨21, _⟩ => ⟨S64x128, .f32⟩
  | .hbm, ⟨22, _⟩ => ⟨S32x4224, .f32⟩
  | .hbm, ⟨23, _⟩ => ⟨S32x4224, .f32⟩
  | .hbm, ⟨24, _⟩ => ⟨S12x16x256x4224, .bf16⟩
  | .local _ .vmem, ⟨0, _⟩ => ⟨S1x384x512, .bf16⟩
  | .local _ .vmem, ⟨1, _⟩ => ⟨S1x384x512, .bf16⟩
  | .local _ .vmem, ⟨2, _⟩ => ⟨S1x512, .f32⟩
  | .local _ .vmem, ⟨3, _⟩ => ⟨S3072x512, .bf16⟩
  | .local _ .vmem, ⟨4, _⟩ => ⟨S128x128, .f32⟩
  | .local _ .vmem, ⟨5, _⟩ => ⟨S64x128, .f32⟩
  | .local _ .vmem, ⟨6, _⟩ => ⟨S32x384, .f32⟩
  | .local _ .vmem, ⟨7, _⟩ => ⟨S32x384, .f32⟩
  | .local _ .vmem, ⟨8, _⟩ => ⟨S32x384, .f32⟩
  | .local _ .vmem, ⟨9, _⟩ => ⟨S32x384, .f32⟩
  | .local _ .vmem, ⟨10, _⟩ => ⟨S64x128, .f32⟩
  | .local _ .vmem, ⟨11, _⟩ => ⟨S1x16x256x384, .bf16⟩
  | .local _ .vmem, ⟨12, _⟩ => ⟨S1x16x256x384, .bf16⟩
  | _, _ => ⟨S12x4224x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![12, 11], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x256x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4Ideal.lean ====
variable {F : FTy → Type} [FloatOps F] [Named F]
def κ : String → Option EReal := fun
  | "inv_dqk" => some ((1 / 192 : ℝ) : EReal)
  | _ => none
-- ==== Reference4Ideal.lean ====
abbrev S12x4224x2560 : Shape := ⟨3, ![12, 4224, 2560]⟩
abbrev S1x512 : Shape := ⟨2, ![1, 512]⟩
abbrev S512x3072 : Shape := ⟨2, ![512, 3072]⟩
abbrev S192 : Shape := ⟨1, ![192]⟩
abbrev S_ : Shape := ⟨0, ![]⟩
abbrev S4224x32 : Shape := ⟨2, ![4224, 32]⟩
abbrev S12x4224x512 : Shape := ⟨3, ![12, 4224, 512]⟩
abbrev S12x4224 : Shape := ⟨2, ![12, 4224]⟩
abbrev S12x4224x1 : Shape := ⟨3, ![12, 4224, 1]⟩
abbrev S1x1x512 : Shape := ⟨3, ![1, 1, 512]⟩
abbrev S12x4224x3072 : Shape := ⟨3, ![12, 4224, 3072]⟩
abbrev S12x4224x16x192 : Shape := ⟨4, ![12, 4224, 16, 192]⟩
abbrev S12x4224x16 : Shape := ⟨3, ![12, 4224, 16]⟩
abbrev S12x4224x16x1 : Shape := ⟨4, ![12, 4224, 16, 1]⟩
abbrev S1x1x1x192 : Shape := ⟨4, ![1, 1, 1, 192]⟩
abbrev S12x4224x16x128 : Shape := ⟨4, ![12, 4224, 16, 128]⟩
abbrev S12x4224x16x64 : Shape := ⟨4, ![12, 4224, 16, 64]⟩
abbrev S4224x1x32 : Shape := ⟨3, ![4224, 1, 32]⟩
abbrev S12x4224x16x32 : Shape := ⟨4, ![12, 4224, 16, 32]⟩
abbrev S1x4224x1x32 : Shape := ⟨4, ![1, 4224, 1, 32]⟩
abbrev S12x4224x16x63 : Shape := ⟨4, ![12, 4224, 16, 63]⟩
abbrev S12x4224x16x256 : Shape := ⟨4, ![12, 4224, 16, 256]⟩
abbrev S12x16x256x4224 : Shape := ⟨4, ![12, 16, 256, 4224]⟩

abbrev nBuf : Space → Nat
  | .hbm => 74
  | .vmem => 0
  | .smem => 0
  | _ => 0

abbrev bufTy : (tb : Table) → Fin (tcTables nBuf tb) → BufTy
  | .hbm, ⟨0, _⟩ => ⟨S12x4224x2560, .bf16⟩
  | .hbm, ⟨1, _⟩ => ⟨S1x512, .f32⟩
  | .hbm, ⟨2, _⟩ => ⟨S512x3072, .f32⟩
  | .hbm, ⟨3, _⟩ => ⟨S192, .f32⟩
  | .hbm, ⟨4, _⟩ => ⟨S_, .f32⟩
  | .hbm, ⟨5, _⟩ => ⟨S4224x32, .f32⟩
  | .hbm, ⟨6, _⟩ => ⟨S4224x32, .f32⟩
  | .hbm, ⟨7, _⟩ => ⟨S12x4224x2560, .f32⟩
  | .hbm, ⟨8, _⟩ => ⟨S12x4224x512, .f32⟩
  | .hbm, ⟨9, _⟩ => ⟨S12x4224x512, .f32⟩
  | .hbm, ⟨10, _⟩ => ⟨S_, .f32⟩
  | .hbm, ⟨11, _⟩ => ⟨S12x4224, .f32⟩
  | .hbm, ⟨12, _⟩ => ⟨S12x4224x1, .f32⟩
  | .hbm, ⟨13, _⟩ => ⟨S_, .f32⟩
  | .hbm, ⟨14, _⟩ => ⟨S12x4224x1, .f32⟩
  | .hbm, ⟨15, _⟩ => ⟨S12x4224x1, .f32⟩
  | .hbm, ⟨16, _⟩ => ⟨S_, .f32⟩
  | .hbm, ⟨17, _⟩ => ⟨S12x4224x1, .f32⟩
  | .hbm, ⟨18, _⟩ => ⟨S12x4224x1, .f32⟩
  | .hbm, ⟨19, _⟩ => ⟨S12x4224x1, .f32⟩
  | .hbm, ⟨20, _⟩ => ⟨S12x4224x512, .f32⟩
  | .hbm, ⟨21, _⟩ => ⟨S12x4224x512, .f32⟩
  | .hbm, ⟨22, _⟩ => ⟨S1x1x512, .f32⟩
  | .hbm, ⟨23, _⟩ => ⟨S12x4224x512, .f32⟩
  | .hbm, ⟨24, _⟩ => ⟨S12x4224x512, .f32⟩
  | .hbm, ⟨25, _⟩ => ⟨S12x4224x3072, .f32⟩
  | .hbm, ⟨26, _⟩ => ⟨S12x4224x16x192, .f32⟩
  | .hbm, ⟨27, _⟩ => ⟨S12x4224x16x192, .f32⟩
  | .hbm, ⟨28, _⟩ => ⟨S_, .f32⟩
  | .hbm, ⟨29, _⟩ => ⟨S12x4224x16, .f32⟩
  | .hbm, ⟨30, _⟩ => ⟨S12x4224x16x1, .f32⟩
  | .hbm, ⟨31, _⟩ => ⟨S_, .f32⟩
  | .hbm, ⟨32, _⟩ => ⟨S12x4224x16x1, .f32⟩
  | .hbm, ⟨33, _⟩ => ⟨S12x4224x16x1, .f32⟩
  | .hbm, ⟨34, _⟩ => ⟨S_, .f32⟩
  | .hbm, ⟨35, _⟩ => ⟨S12x4224x16x1, .f32⟩
  | .hbm, ⟨36, _⟩ => ⟨S12x4224x16x1, .f32⟩
  | .hbm, ⟨37, _⟩ => ⟨S12x4224x16x1, .f32⟩
  | .hbm, ⟨38, _⟩ => ⟨S12x4224x16x192, .f32⟩
  | .hbm, ⟨39, _⟩ => ⟨S12x4224x16x192, .f32⟩
  | .hbm, ⟨40, _⟩ => ⟨S1x1x1x192, .f32⟩
  | .hbm, ⟨41, _⟩ => ⟨S12x4224x16x192, .f32⟩
  | .hbm, ⟨42, _⟩ => ⟨S12x4224x16x192, .f32⟩
  | .hbm, ⟨43, _⟩ => ⟨S12x4224x16x128, .f32⟩
  | .hbm, ⟨44, _⟩ => ⟨S12x4224x16x64, .f32⟩
  | .hbm, ⟨45, _⟩ => ⟨S4224x1x32, .f32⟩
  | .hbm, ⟨46, _⟩ => ⟨S4224x1x32, .f32⟩
  | .hbm, ⟨47, _⟩ => ⟨S12x4224x16x32, .f32⟩
  | .hbm, ⟨48, _⟩ => ⟨S12x4224x16x32, .f32⟩
  | .hbm, ⟨49, _⟩ => ⟨S1x4224x1x32, .f32⟩
  | .hbm, ⟨50, _⟩ => ⟨S12x4224x16x32, .f32⟩
  | .hbm, ⟨51, _⟩ => ⟨S12x4224x16x32, .f32⟩
  | .hbm, ⟨52, _⟩ => ⟨S1x4224x1x32, .f32⟩
  | .hbm, ⟨53, _⟩ => ⟨S12x4224x16x32, .f32⟩
  | .hbm, ⟨54, _⟩ => ⟨S12x4224x16x32, .f32⟩
  | .hbm, ⟨55, _⟩ => ⟨S12x4224x16x32, .f32⟩
  | .hbm, ⟨56, _⟩ => ⟨S1x4224x1x32, .f32⟩
  | .hbm, ⟨57, _⟩ => ⟨S12x4224x16x32, .f32⟩
  | .hbm, ⟨58, _⟩ => ⟨S12x4224x16x32, .f32⟩
  | .hbm, ⟨59, _⟩ => ⟨S1x4224x1x32, .f32⟩
  | .hbm, ⟨60, _⟩ => ⟨S12x4224x16x32, .f32⟩
  | .hbm, ⟨61, _⟩ => ⟨S12x4224x16x32, .f32⟩
  | .hbm, ⟨62, _⟩ => ⟨S12x4224x16x32, .f32⟩
  | .hbm, ⟨63, _⟩ => ⟨S12x4224x16x64, .f32⟩
  | .hbm, ⟨64, _⟩ => ⟨S12x4224x16x192, .f32⟩
  | .hbm, ⟨65, _⟩ => ⟨S_, .f32⟩
  | .hbm, ⟨66, _⟩ => ⟨S12x4224x16x192, .f32⟩
  | .hbm, ⟨67, _⟩ => ⟨S12x4224x16x192, .f32⟩
  | .hbm, ⟨68, _⟩ => ⟨S12x4224x16x1, .f32⟩
  | .hbm, ⟨69, _⟩ => ⟨S_, .f32⟩
  | .hbm, ⟨70, _⟩ => ⟨S12x4224x16x63, .f32⟩
  | .hbm, ⟨71, _⟩ => ⟨S12x4224x16x256, .f32⟩
  | .hbm, ⟨72, _⟩ => ⟨S12x16x256x4224, .f32⟩
  | .hbm, ⟨73, _⟩ => ⟨S12x16x256x4224, .bf16⟩
  | _, _ => ⟨S12x4224x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel5.lean ====
abbrev S12x4224x1024 : Shape := ⟨3, ![12, 4224, 1024]⟩
abbrev S1x1024 : Shape := ⟨2, ![1, 1024]⟩
abbrev S1024x6176 : Shape := ⟨2, ![1024, 6176]⟩
abbrev S5x4096 : Shape := ⟨2, ![5, 4096]⟩
abbrev S1024x32 : Shape := ⟨2, ![1024, 32]⟩
abbrev S1024x2x2x8 : Shape := ⟨4, ![1024, 2, 2, 8]⟩
abbrev S1024x1x1x8 : Shape := ⟨4, ![1024, 1, 1, 8]⟩
abbrev S1024x8 : Shape := ⟨2, ![1024, 8]⟩
abbrev S1024x16 : Shape := ⟨2, ![1024, 16]⟩
abbrev S_ : Shape := ⟨0, ![]⟩
abbrev S1024x128 : Shape := ⟨2, ![1024, 128]⟩
abbrev S8x4096 : Shape := ⟨2, ![8, 4096]⟩
abbrev S1024x4096 : Shape := ⟨2, ![1024, 4096]⟩
abbrev S1024x256 : Shape := ⟨2, ![1024, 256]⟩
abbrev S12x4224x4096 : Shape := ⟨3, ![12, 4224, 4096]⟩
abbrev S12x4224x256 : Shape := ⟨3, ![12, 4224, 256]⟩
abbrev S1x8x1024 : Shape := ⟨3, ![1, 8, 1024]⟩
abbrev S1x704x1024 : Shape := ⟨3, ![1, 704, 1024]⟩
abbrev S1x704x4096 : Shape := ⟨3, ![1, 704, 4096]⟩
abbrev S1x704x256 : Shape := ⟨3, ![1, 704, 256]⟩
abbrev S4x720x1024 : Shape := ⟨3, ![4, 720, 1024]⟩
abbrev S8x1024 : Shape := ⟨2, ![8, 1024]⟩
abbrev S704x1024 : Shape := ⟨2, ![704, 1024]⟩
abbrev S720x1024 : Shape := ⟨2, ![720, 1024]⟩
abbrev S720 : Shape := ⟨1, ![720]⟩
abbrev S720x1 : Shape := ⟨2, ![720, 1]⟩
abbrev S720x256 : Shape := ⟨2, ![720, 256]⟩
abbrev S704x256 : Shape := ⟨2, ![704, 256]⟩
abbrev S1024x1024 : Shape := ⟨2, ![1024, 1024]⟩
abbrev S1x720x1024 : Shape := ⟨3, ![1, 720, 1024]⟩
abbrev S1x80x128 : Shape := ⟨3, ![1, 80, 128]⟩
abbrev S80x128 : Shape := ⟨2, ![80, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S1x64x128 : Shape := ⟨3, ![1, 64, 128]⟩

abbrev nBuf : Space → Nat
  | .hbm => 31
  | .vmem => 15
  | .smem => 0
  | _ => 0

abbrev bufTy : (tb : Table) → Fin (tcTables nBuf tb) → BufTy
  | .hbm, ⟨0, _⟩ => ⟨S12x4224x1024, .f32⟩
  | .hbm, ⟨1, _⟩ => ⟨S1x1024, .f32⟩
  | .hbm, ⟨2, _⟩ => ⟨S1024x6176, .f32⟩
  | .hbm, ⟨3, _⟩ => ⟨S5x4096, .f32⟩
  | .hbm, ⟨4, _⟩ => ⟨S1024x32, .f32⟩
  | .hbm, ⟨5, _⟩ => ⟨S1024x2x2x8, .f32⟩
  | .hbm, ⟨6, _⟩ => ⟨S1024x1x1x8, .f32⟩
  | .hbm, ⟨7, _⟩ => ⟨S1024x8, .f32⟩
  | .hbm, ⟨8, _⟩ => ⟨S1024x1x1x8, .f32⟩
  | .hbm, ⟨9, _⟩ => ⟨S1024x8, .f32⟩
  | .hbm, ⟨10, _⟩ => ⟨S1024x16, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x1x1x8, .f32⟩
  | .hbm, ⟨15, _⟩ => ⟨S1024x8, .f32⟩
  | .hbm, ⟨16, _⟩ => ⟨S1024x1x1x8, .f32⟩
  | .hbm, ⟨17, _⟩ => ⟨S1024x8, .f32⟩
  | .hbm, ⟨18, _⟩ => ⟨S1024x16, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S_, .i32⟩
  | .hbm, ⟨23, _⟩ => ⟨S_, .f32⟩
  | .hbm, ⟨24, _⟩ => ⟨S8x4096, .f32⟩
  | .hbm, ⟨25, _⟩ => ⟨S1024x4096, .f32⟩
  | .hbm, ⟨26, _⟩ => ⟨S1024x4096, .bf16⟩
  | .hbm, ⟨27, _⟩ => ⟨S1024x256, .f32⟩
  | .hbm, ⟨28, _⟩ => ⟨S1024x256, .bf16⟩
  | .hbm, ⟨29, _⟩ => ⟨S12x4224x4096, .bf16⟩
  | .hbm, ⟨30, _⟩ => ⟨S12x4224x256, .f32⟩
  | .local _ .vmem, ⟨0, _⟩ => ⟨S1x8x1024, .f32⟩
  | .local _ .vmem, ⟨1, _⟩ => ⟨S1x8x1024, .f32⟩
  | .local _ .vmem, ⟨2, _⟩ => ⟨S1x704x1024, .f32⟩
  | .local _ .vmem, ⟨3, _⟩ => ⟨S1x704x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S1024x4096, .bf16⟩
  | .local _ .vmem, ⟨8, _⟩ => ⟨S1024x256, .bf16⟩
  | .local _ .vmem, ⟨9, _⟩ => ⟨S8x4096, .f32⟩
  | .local _ .vmem, ⟨10, _⟩ => ⟨S1x704x4096, .bf16⟩
  | .local _ .vmem, ⟨11, _⟩ => ⟨S1x704x4096, .bf16⟩
  | .local _ .vmem, ⟨12, _⟩ => ⟨S1x704x256, .f32⟩
  | .local _ .vmem, ⟨13, _⟩ => ⟨S1x704x256, .f32⟩
  | .local _ .vmem, ⟨14, _⟩ => ⟨S4x720x1024, .f32⟩
  | _, _ => ⟨S12x4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_c_1 : Ref sig .tc := ⟨.hbm, 22, rfl⟩
abbrev main_call2_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![12, 6], ![false, false]⟩

def cc0_transform_0 (i : grid0.Coords) : Fin 3 → Nat :=
  let arg0 : BitVec 32 := BitVec.ofNat 32 (i 0).val
  let arg1 : BitVec 32 := BitVec.ofNat 32 (i 1).val
  let c88_i32 : BitVec 32 := 88#32
  let v0 : BitVec 32 := Scalar.muli arg1 c88_i32
  let c528_i32 : BitVec 32 := 528#32
  let v1 : BitVec 32 := Scalar.addi v0 c528_i32
  let c1_i32 : BitVec 32 := 1#32
  let v2 : BitVec 32 := Scalar.subi v1 c1_i32
  let c528_i32_0 : BitVec 32 := 528#32
  let c0_i32 : BitVec 32 := 0#32
  let v3 : BitVec 1 := Scalar.cmpi .eq c528_i32_0 c0_i32
  let c1_i32_1 : BitVec 32 := 1#32
  let v4 : BitVec 32 := Scalar.select v3 c1_i32_1 c528_i32_0
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![arg0.toNat, v12.toNat, c0_i32_5.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c88_i32 : BitVec 32 := 88#32
  let v1 : BitVec 32 := Scalar.muli v0 c88_i32
  let c528_i32 : BitVec 32 := 528#32
  let c0_i32 : BitVec 32 := 0#32
  let v2 : BitVec 1 := Scalar.cmpi .eq c528_i32 c0_i32
  let c1_i32_0 : BitVec 32 := 1#32
  let v3 : BitVec 32 := Scalar.select v2 c1_i32_0 c528_i32
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![arg0.toNat, v11.toNat, c0_i32_4.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x704x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x704x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S12x4224x1024 : Shape := ⟨3, ![12, 4224, 1024]⟩
abbrev S1x1024 : Shape := ⟨2, ![1, 1024]⟩
abbrev S1024x6176 : Shape := ⟨2, ![1024, 6176]⟩
abbrev S5x4096 : Shape := ⟨2, ![5, 4096]⟩
abbrev S_ : Shape := ⟨0, ![]⟩
abbrev S12x4224 : Shape := ⟨2, ![12, 4224]⟩
abbrev S12x4224x1 : Shape := ⟨3, ![12, 4224, 1]⟩
abbrev S1x1x1024 : Shape := ⟨3, ![1, 1, 1024]⟩
abbrev S12x4224x6176 : Shape := ⟨3, ![12, 4224, 6176]⟩
abbrev S12x4224x4096 : Shape := ⟨3, ![12, 4224, 4096]⟩
abbrev S12x2x4096 : Shape := ⟨3, ![12, 2, 4096]⟩
abbrev S12x4222x4096 : Shape := ⟨3, ![12, 4222, 4096]⟩
abbrev S1x4096 : Shape := ⟨2, ![1, 4096]⟩
abbrev S4096 : Shape := ⟨1, ![4096]⟩
abbrev S1x1x4096 : Shape := ⟨3, ![1, 1, 4096]⟩
abbrev S12x1x4096 : Shape := ⟨3, ![12, 1, 4096]⟩
abbrev S12x4223x4096 : Shape := ⟨3, ![12, 4223, 4096]⟩
abbrev S12x0x4096 : Shape := ⟨3, ![12, 0, 4096]⟩
abbrev S12x4224x8x128 : Shape := ⟨4, ![12, 4224, 8, 128]⟩
abbrev S12x4224x8 : Shape := ⟨3, ![12, 4224, 8]⟩
abbrev S12x4224x8x1 : Shape := ⟨4, ![12, 4224, 8, 1]⟩
abbrev S12x4224x2048 : Shape := ⟨3, ![12, 4224, 2048]⟩
abbrev S12x4224x32 : Shape := ⟨3, ![12, 4224, 32]⟩
abbrev S12x4224x2x2x8 : Shape := ⟨5, ![12, 4224, 2, 2, 8]⟩
abbrev S12x4224x2x16 : Shape := ⟨4, ![12, 4224, 2, 16]⟩
abbrev S12x4224x2x128 : Shape := ⟨4, ![12, 4224, 2, 128]⟩
abbrev S12x4224x256 : Shape := ⟨3, ![12, 4224, 256]⟩

abbrev nBuf : Space → Nat
  | .hbm => 115
  | .vmem => 0
  | .smem => 0
  | _ => 0

abbrev bufTy : (tb : Table) → Fin (tcTables nBuf tb) → BufTy
  | .hbm, ⟨0, _⟩ => ⟨S12x4224x1024, .f32⟩
  | .hbm, ⟨1, _⟩ => ⟨S1x1024, .f32⟩
  | .hbm, ⟨2, _⟩ => ⟨S1024x6176, .f32⟩
  | .hbm, ⟨3, _⟩ => ⟨S5x4096, .f32⟩
  | .hbm, ⟨4, _⟩ => ⟨S12x4224x1024, .f32⟩
  | .hbm, ⟨5, _⟩ => ⟨S_, .f32⟩
  | .hbm, ⟨6, _⟩ => ⟨S12x4224, .f32⟩
  | .hbm, ⟨7, _⟩ => ⟨S12x4224x1, .f32⟩
  | .hbm, ⟨8, _⟩ => ⟨S_, .f32⟩
  | .hbm, ⟨9, _⟩ => ⟨S12x4224x1, .f32⟩
  | .hbm, ⟨10, _⟩ => ⟨S12x4224x1, .f32⟩
  | .hbm, ⟨11, _⟩ => ⟨S_, .f32⟩
  | .hbm, ⟨12, _⟩ => ⟨S12x4224x1, .f32⟩
  | .hbm, ⟨13, _⟩ => ⟨S12x4224x1, .f32⟩
  | .hbm, ⟨14, _⟩ => ⟨S12x4224x1, .f32⟩
  | .hbm, ⟨15, _⟩ => ⟨S12x4224x1024, .f32⟩
  | .hbm, ⟨16, _⟩ => ⟨S12x4224x1024, .f32⟩
  | .hbm, ⟨17, _⟩ => ⟨S1x1x1024, .f32⟩
  | .hbm, ⟨18, _⟩ => ⟨S12x4224x1024, .f32⟩
  | .hbm, ⟨19, _⟩ => ⟨S12x4224x1024, .f32⟩
  | .hbm, ⟨20, _⟩ => ⟨S12x4224x6176, .f32⟩
  | .hbm, ⟨21, _⟩ => ⟨S12x4224x4096, .f32⟩
  | .hbm, ⟨22, _⟩ => ⟨S12x2x4096, .f32⟩
  | .hbm, ⟨23, _⟩ => ⟨S12x4222x4096, .f32⟩
  | .hbm, ⟨24, _⟩ => ⟨S12x4224x4096, .f32⟩
  | .hbm, ⟨25, _⟩ => ⟨S1x4096, .f32⟩
  | .hbm, ⟨26, _⟩ => ⟨S4096, .f32⟩
  | .hbm, ⟨27, _⟩ => ⟨S1x1x4096, .f32⟩
  | .hbm, ⟨28, _⟩ => ⟨S12x4224x4096, .f32⟩
  | .hbm, ⟨29, _⟩ => ⟨S12x4224x4096, .f32⟩
  | .hbm, ⟨30, _⟩ => ⟨S12x1x4096, .f32⟩
  | .hbm, ⟨31, _⟩ => ⟨S12x4223x4096, .f32⟩
  | .hbm, ⟨32, _⟩ => ⟨S12x4224x4096, .f32⟩
  | .hbm, ⟨33, _⟩ => ⟨S1x4096, .f32⟩
  | .hbm, ⟨34, _⟩ => ⟨S4096, .f32⟩
  | .hbm, ⟨35, _⟩ => ⟨S1x1x4096, .f32⟩
  | .hbm, ⟨36, _⟩ => ⟨S12x4224x4096, .f32⟩
  | .hbm, ⟨37, _⟩ => ⟨S12x4224x4096, .f32⟩
  | .hbm, ⟨38, _⟩ => ⟨S12x4224x4096, .f32⟩
  | .hbm, ⟨39, _⟩ => ⟨S12x4224x4096, .f32⟩
  | .hbm, ⟨40, _⟩ => ⟨S12x0x4096, .f32⟩
  | .hbm, ⟨41, _⟩ => ⟨S12x4224x4096, .f32⟩
  | .hbm, ⟨42, _⟩ => ⟨S1x4096, .f32⟩
  | .hbm, ⟨43, _⟩ => ⟨S4096, .f32⟩
  | .hbm, ⟨44, _⟩ => ⟨S1x1x4096, .f32⟩
  | .hbm, ⟨45, _⟩ => ⟨S12x4224x4096, .f32⟩
  | .hbm, ⟨46, _⟩ => ⟨S12x4224x4096, .f32⟩
  | .hbm, ⟨47, _⟩ => ⟨S12x4224x4096, .f32⟩
  | .hbm, ⟨48, _⟩ => ⟨S12x4223x4096, .f32⟩
  | .hbm, ⟨49, _⟩ => ⟨S12x1x4096, .f32⟩
  | .hbm, ⟨50, _⟩ => ⟨S12x4224x4096, .f32⟩
  | .hbm, ⟨51, _⟩ => ⟨S1x4096, .f32⟩
  | .hbm, ⟨52, _⟩ => ⟨S4096, .f32⟩
  | .hbm, ⟨53, _⟩ => ⟨S1x1x4096, .f32⟩
  | .hbm, ⟨54, _⟩ => ⟨S12x4224x4096, .f32⟩
  | .hbm, ⟨55, _⟩ => ⟨S12x4224x4096, .f32⟩
  | .hbm, ⟨56, _⟩ => ⟨S12x4224x4096, .f32⟩
  | .hbm, ⟨57, _⟩ => ⟨S12x4222x4096, .f32⟩
  | .hbm, ⟨58, _⟩ => ⟨S12x2x4096, .f32⟩
  | .hbm, ⟨59, _⟩ => ⟨S12x4224x4096, .f32⟩
  | .hbm, ⟨60, _⟩ => ⟨S1x4096, .f32⟩
  | .hbm, ⟨61, _⟩ => ⟨S4096, .f32⟩
  | .hbm, ⟨62, _⟩ => ⟨S1x1x4096, .f32⟩
  | .hbm, ⟨63, _⟩ => ⟨S12x4224x4096, .f32⟩
  | .hbm, ⟨64, _⟩ => ⟨S12x4224x4096, .f32⟩
  | .hbm, ⟨65, _⟩ => ⟨S12x4224x4096, .f32⟩
  | .hbm, ⟨66, _⟩ => ⟨S12x4224x4096, .f32⟩
  | .hbm, ⟨67, _⟩ => ⟨S12x4224x4096, .f32⟩
  | .hbm, ⟨68, _⟩ => ⟨S_, .f32⟩
  | .hbm, ⟨69, _⟩ => ⟨S12x4224x4096, .f32⟩
  | .hbm, ⟨70, _⟩ => ⟨S12x4224x4096, .f32⟩
  | .hbm, ⟨71, _⟩ => ⟨S_, .f32⟩
  | .hbm, ⟨72, _⟩ => ⟨S12x4224x4096, .f32⟩
  | .hbm, ⟨73, _⟩ => ⟨S12x4224x4096, .f32⟩
  | .hbm, ⟨74, _⟩ => ⟨S12x4224x4096, .f32⟩
  | .hbm, ⟨75, _⟩ => ⟨S12x4224x1024, .f32⟩
  | .hbm, ⟨76, _⟩ => ⟨S12x4224x8x128, .f32⟩
  | .hbm, ⟨77, _⟩ => ⟨S12x4224x8x128, .f32⟩
  | .hbm, ⟨78, _⟩ => ⟨S_, .f32⟩
  | .hbm, ⟨79, _⟩ => ⟨S12x4224x8, .f32⟩
  | .hbm, ⟨80, _⟩ => ⟨S12x4224x8x1, .f32⟩
  | .hbm, ⟨81, _⟩ => ⟨S_, .f32⟩
  | .hbm, ⟨82, _⟩ => ⟨S12x4224x8x1, .f32⟩
  | .hbm, ⟨83, _⟩ => ⟨S12x4224x8x1, .f32⟩
  | .hbm, ⟨84, _⟩ => ⟨S12x4224x8x1, .f32⟩
  | .hbm, ⟨85, _⟩ => ⟨S12x4224x8x128, .f32⟩
  | .hbm, ⟨86, _⟩ => ⟨S12x4224x8x128, .f32⟩
  | .hbm, ⟨87, _⟩ => ⟨S_, .f32⟩
  | .hbm, ⟨88, _⟩ => ⟨S12x4224x8x128, .f32⟩
  | .hbm, ⟨89, _⟩ => ⟨S12x4224x8x128, .f32⟩
  | .hbm, ⟨90, _⟩ => ⟨S12x4224x1024, .f32⟩
  | .hbm, ⟨91, _⟩ => ⟨S12x4224x8x128, .f32⟩
  | .hbm, ⟨92, _⟩ => ⟨S12x4224x8x128, .f32⟩
  | .hbm, ⟨93, _⟩ => ⟨S_, .f32⟩
  | .hbm, ⟨94, _⟩ => ⟨S12x4224x8, .f32⟩
  | .hbm, ⟨95, _⟩ => ⟨S12x4224x8x1, .f32⟩
  | .hbm, ⟨96, _⟩ => ⟨S_, .f32⟩
  | .hbm, ⟨97, _⟩ => ⟨S12x4224x8x1, .f32⟩
  | .hbm, ⟨98, _⟩ => ⟨S12x4224x8x1, .f32⟩
  | .hbm, ⟨99, _⟩ => ⟨S12x4224x8x1, .f32⟩
  | .hbm, ⟨100, _⟩ => ⟨S12x4224x8x128, .f32⟩
  | .hbm, ⟨101, _⟩ => ⟨S12x4224x8x128, .f32⟩
  | .hbm, ⟨102, _⟩ => ⟨S12x4224x1024, .f32⟩
  | .hbm, ⟨103, _⟩ => ⟨S12x4224x1024, .f32⟩
  | .hbm, ⟨104, _⟩ => ⟨S12x4224x2048, .f32⟩
  | .hbm, ⟨105, _⟩ => ⟨S12x4224x4096, .f32⟩
  | .hbm, ⟨106, _⟩ => ⟨S12x4224x32, .f32⟩
  | .hbm, ⟨107, _⟩ => ⟨S12x4224x2x2x8, .f32⟩
  | .hbm, ⟨108, _⟩ => ⟨S12x4224x2x2x8, .f32⟩
  | .hbm, ⟨109, _⟩ => ⟨S12x4224x2x16, .f32⟩
  | .hbm, ⟨110, _⟩ => ⟨S_, .i32⟩
  | .hbm, ⟨111, _⟩ => ⟨S_, .f32⟩
  | .hbm, ⟨112, _⟩ => ⟨S12x4224x2x128, .f32⟩
  | .hbm, ⟨113, _⟩ => ⟨S12x4224x4096, .bf16⟩
  | .hbm, ⟨114, _⟩ => ⟨S12x4224x256, .f32⟩
  | _, _ => ⟨S12x4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_v0 : Ref sig .tc := ⟨.hbm, 30, rfl⟩
abbrev main_call1_v1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call2_v0 : Ref sig .tc := ⟨.hbm, 39, rfl⟩
abbrev main_call2_v1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_call3_v0 : Ref sig .tc := ⟨.hbm, 48, rfl⟩
abbrev main_call3_v1 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call4_v0 : Ref sig .tc := ⟨.hbm, 57, rfl⟩
abbrev main_call4_v1 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_call5_v0 : Ref sig .tc := ⟨.hbm, 66, rfl⟩
abbrev main_call5_v1 : Ref sig .tc := ⟨.hbm, 67, rfl⟩
abbrev main_call5_cst : Ref sig .tc := ⟨.hbm, 68, rfl⟩
abbrev main_call5_v2 : Ref sig .tc := ⟨.hbm, 69, rfl⟩
abbrev main_call5_v3 : Ref sig .tc := ⟨.hbm, 70, rfl⟩
abbrev main_call5_cst_0 : Ref sig .tc := ⟨.hbm, 71, rfl⟩
abbrev main_call5_v4 : Ref sig .tc := ⟨.hbm, 72, rfl⟩
abbrev main_call5_v5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_2 : Ref sig .tc := ⟨.hbm, 78, rfl⟩
abbrev main_v53 : Ref sig .tc := ⟨.hbm, 79, rfl⟩
abbrev main_v54 : Ref sig .tc := ⟨.hbm, 80, rfl⟩
abbrev main_cst_3 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_4 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_5 : Ref sig .tc := ⟨.hbm, 93, rfl⟩
abbrev main_v65 : Ref sig .tc := ⟨.hbm, 94, rfl⟩
abbrev main_v66 : Ref sig .tc := ⟨.hbm, 95, rfl⟩
abbrev main_cst_6 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c : Ref sig .tc := ⟨.hbm, 110, rfl⟩
abbrev main_call6_v0 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩

abbrev nD : Nat := 1
abbrev τ : Topo := Topo.v7x

variable {F : FTy → Type} [FloatOps F]
-- ==== Proof.Attn.Block.lean ====
/- What one grid point of the attention computes, written as plain functions of its blocks of queries,
   keys and values: the scores of a chunk of keys, one step of the bounded softmax, one step of the
   online softmax, and the strips of the output block. Over any values `F`. -/
module

public import proofs.«01_k».proof.Proof.Gen.KernelIdeal.Skeleton
public import Idealize.ShloMosaic.Lib.Pipeline.FrameBody

@[expose] public section

set_option maxRecDepth 16384

noncomputable section

namespace Cert.KernelIdeal.Attn

open Idealize.ShloMosaic Idealize.SL.Sem Cert.KernelIdeal Cert.KernelIdeal.Gen

variable {F : FTy → Type} [FloatOps F]

/-- The scores of a chunk of 1024 keys against a strip of 512 queries. -/
def score (k : Vec F S1x1x1024x256 .bf16) (q : Vec F S1x1x256x512 .bf16) : FVec F S1024x512 .f32 :=
  matmul dot_S1024x256_S256x512_S1024x512_1_0_0_1_n_n none
    (shapeCast S1024x256 k shapeCasts_S1x1x1024x256_S1024x256 : FVec F S1024x256 .bf16)
    (shapeCast S256x512 q shapeCasts_S1x1x256x512_S256x512 : FVec F S256x512 .bf16)
    (constant S1024x512 .f32 0x00000000#32)

/-- What is added to the scores of the last 128 rows: minus infinity on the rows that hold no key. -/
def tailBias : FVec F S128x1 .f32 :=
  select (cmpi .sge (iota .tc S128x1 32 [0] iota_S128x1_d0_w32) (broadcast S128x1 112#32))
    (broadcast S128x1 (Scalar.ofBits .f32 0x00000000#32 : F .f32))
    (broadcast S128x1 (Scalar.ofBits .f32 0xFF800000#32 : F .f32))

/-- The scores of the last 128 rows, whose first 112 hold no key. -/
def scoreTail (k : Vec F S1x1x128x256 .bf16) (q : Vec F S1x1x256x512 .bf16) : FVec F S128x512 .f32 :=
  addf (matmul dot_S128x256_S256x512_S128x512_1_0_0_1_n_n none
    (shapeCast S128x256 k shapeCasts_S1x1x128x256_S128x256 : FVec F S128x256 .bf16)
    (shapeCast S256x512 q shapeCasts_S1x1x256x512_S256x512 : FVec F S256x512 .bf16)
    (constant S128x512 .f32 0x00000000#32))
    (broadcastTo S128x512 tailBias broadcasts_S128x1_S128x512)

/-- The sum of a chunk's weights, query by query. -/
def weightSum (p : FVec F S1024x512 .f32) : FVec F S1x512 .f32 :=
  shapeCast S1x512 (multiReduction .add [0] S512 p 0x00000000#32 reduces_S1024x512_S512 (.inl rfl) rfl : FVec F S512 .f32)
    shapeCasts_S512_S1x512

/-- The sum of the last rows' weights, query by query. -/
def weightSumTail (p : FVec F S128x512 .f32) : FVec F S1x512 .f32 :=
  shapeCast S1x512 (multiReduction .add [0] S512 p 0x00000000#32 reduces_S128x512_S512 (.inl rfl) rfl : FVec F S512 .f32)
    shapeCasts_S512_S1x512

/-- The values of a chunk, weighted. -/
def weighted (v : Vec F S1x1x128x1024 .bf16) (p : FVec F S1024x512 .f32) : FVec F S128x512 .f32 :=
  matmul dot_S128x1024_S1024x512_S128x512_1_0_0_1_n_n none
    (shapeCast S128x1024 v shapeCasts_S1x1x128x1024_S128x1024 : FVec F S128x1024 .bf16)
    (truncf .bf16 p bitsLt_bf16_f32) (constant S128x512 .f32 0x00000000#32)

/-- The values of the last rows, weighted. -/
def weightedTail (v : Vec F S1x1x128x128 .bf16) (p : FVec F S128x512 .f32) : FVec F S128x512 .f32 :=
  matmul dot_S128x128_S128x512_S128x512_1_0_0_1_n_n none
    (shapeCast S128x128 v shapeCasts_S1x1x128x128_S128x128 : FVec F S128x128 .bf16)
    (truncf .bf16 p bitsLt_bf16_f32) (constant S128x512 .f32 0x00000000#32)

/-- The quotient of the weighted values by the weights' sum, one row per query. -/
def quotient (l : FVec F S1x512 .f32) (acc : FVec F S128x512 .f32) : FVec F S1x512x128 .bf16 :=
  shapeCast S1x512x128 (truncf .bf16 (transpose S512x128 [1, 0]
    (divf acc (broadcastTo S128x512 l broadcasts_S1x512_S128x512)) transposes_S128x512_p1_0_S512x128)
    bitsLt_bf16_f32 : FVec F S512x128 .bf16) shapeCasts_S512x128_S1x512x128

/-- The running sums before any chunk. -/
def zeroSum : FVec F S1x512 .f32 := broadcast S1x512 (Scalar.ofBits .f32 0x00000000#32 : F .f32)

/-- The running weighted values before any chunk. -/
def zeroAcc : FVec F S128x512 .f32 := broadcast S128x512 (Scalar.ofBits .f32 0x00000000#32 : F .f32)

/-- The running maximum before any chunk. -/
def startMax : FVec F S1x512 .f32 := broadcast S1x512 (Scalar.ofBits .f32 0xFF800000#32 : F .f32)

/-- The online softmax's new maximum after a chunk with scores `s`. -/
def newMax (m : FVec F S1x512 .f32) (s : FVec F S1024x512 .f32) : FVec F S1x512 .f32 :=
  maximumf m (shapeCast S1x512 (multiReduction .maximumf [0] S512 s 0xFF800000#32 reduces_S1024x512_S512 (.inl rfl) rfl : FVec F S512 .f32)
    shapeCasts_S512_S1x512)

/-- The online softmax's new maximum after the last rows. -/
def newMaxTail (m : FVec F S1x512 .f32) (s : FVec F S128x512 .f32) : FVec F S1x512 .f32 :=
  maximumf m (shapeCast S1x512 (multiReduction .maximumf [0] S512 s 0xFF800000#32 reduces_S128x512_S512 (.inl rfl) rfl : FVec F S512 .f32)
    shapeCasts_S512_S1x512)

/-- The factor that moves a running sum from the maximum `m` to the maximum `m'`. -/
def shift (m m' : FVec F S1x512 .f32) : FVec F S1x512 .f32 := exp2 (subf m m')

/-- A chunk's weights under the maximum `m`. -/
def shifted (m : FVec F S1x512 .f32) (s : FVec F S1024x512 .f32) : FVec F S1024x512 .f32 :=
  exp2 (subf s (broadcastTo S1024x512 m broadcasts_S1x512_S1024x512))

/-- The last rows' weights under the maximum `m`. -/
def shiftedTail (m : FVec F S1x512 .f32) (s : FVec F S128x512 .f32) : FVec F S128x512 .f32 :=
  exp2 (subf s (broadcastTo S128x512 m broadcasts_S1x512_S128x512))

/-- The bounded softmax's running state: the weights' sum and the weighted values. -/
abbrev Sums (F : FTy → Type) [FloatOps F] := FVec F S1x512 .f32 × FVec F S128x512 .f32

/-- The online softmax's running state: the maximum, the weights' sum and the weighted values. -/
abbrev State (F : FTy → Type) [FloatOps F] := FVec F S1x512 .f32 × FVec F S1x512 .f32 × FVec F S128x512 .f32

/-- One chunk of the bounded softmax: weights `2 ^ s`, no maximum taken off. -/
def boundedStep (a : Sums F) (s : FVec F S1024x512 .f32) (v : Vec F S1x1x128x1024 .bf16) : Sums F :=
  (addf a.1 (weightSum (exp2 s)), addf a.2 (weighted v (exp2 s)))

/-- The last rows of the bounded softmax. -/
def boundedTail (a : Sums F) (s : FVec F S128x512 .f32) (v : Vec F S1x1x128x128 .bf16) : Sums F :=
  (addf a.1 (weightSumTail (exp2 s)), addf a.2 (weightedTail v (exp2 s)))

/-- One chunk of the online softmax. -/
def onlineStep (a : State F) (s : FVec F S1024x512 .f32) (v : Vec F S1x1x128x1024 .bf16) : State F :=
  (newMax a.1 s,
   addf (mulf (shift a.1 (newMax a.1 s)) a.2.1) (weightSum (shifted (newMax a.1 s) s)),
   addf (mulf (broadcastTo S128x512 (shift a.1 (newMax a.1 s)) broadcasts_S1x512_S128x512) a.2.2)
     (weighted v (shifted (newMax a.1 s) s)))

/-- The last rows of the online softmax. -/
def onlineTail (a : State F) (s : FVec F S128x512 .f32) (v : Vec F S1x1x128x128 .bf16) : State F :=
  (newMaxTail a.1 s,
   addf (mulf (shift a.1 (newMaxTail a.1 s)) a.2.1) (weightSumTail (shiftedTail (newMaxTail a.1 s) s)),
   addf (mulf (broadcastTo S128x512 (shift a.1 (newMaxTail a.1 s)) broadcasts_S1x512_S128x512) a.2.2)
     (weightedTail v (shiftedTail (newMaxTail a.1 s) s)))

/-- Strip `s` of the query block: 512 queries. -/
def qStrip (x1 : Vec F S1x1x256x4096 .bf16) (s : Fin 8) : Vec F S1x1x256x512 .bf16 :=
  View.ld x1 (Rect.unit (s := S1x1x256x4096) ![0, 0, 0, 512 * s.val] S1x1x256x512.size
    (by intro a; have := s.isLt; fin_cases a <;> simp [S1x1x256x4096, S1x1x256x512] <;> omega))

/-- Chunk `i` of the key block: 1024 rows. -/
def kChunk (x2 : Vec F S1x1x4224x256 .bf16) (i : Fin 4) : Vec F S1x1x1024x256 .bf16 :=
  View.ld x2 (Rect.unit (s := S1x1x4224x256) ![0, 0, 1024 * i.val, 0] S1x1x1024x256.size
    (by intro a; have := i.isLt; fin_cases a <;> simp [S1x1x4224x256, S1x1x1024x256] <;> omega))

/-- The last 128 rows of the key block. -/
def kTail (x2 : Vec F S1x1x4224x256 .bf16) : Vec F S1x1x128x256 .bf16 :=
  View.ld x2 (Rect.unit (s := S1x1x4224x256) ![0, 0, 4096, 0] S1x1x128x256.size inb_S1x1x4224x256_S1x1x128x256_0_0_4096_0)

/-- Chunk `i` of the value block: 1024 columns. -/
def vChunk (x3 : Vec F S1x1x128x4224 .bf16) (i : Fin 4) : Vec F S1x1x128x1024 .bf16 :=
  View.ld x3 (Rect.unit (s := S1x1x128x4224) ![0, 0, 0, 1024 * i.val] S1x1x128x1024.size
    (by intro a; have := i.isLt; fin_cases a <;> simp [S1x1x128x4224, S1x1x128x1024] <;> omega))

/-- The last 128 columns of the value block. -/
def vTail (x3 : Vec F S1x1x128x4224 .bf16) : Vec F S1x1x128x128 .bf16 :=
  View.ld x3 (Rect.unit (s := S1x1x128x4224) ![0, 0, 0, 4096] S1x1x128x128.size inb_S1x1x128x4224_S1x1x128x128_0_0_0_4096)

/-- The bounded softmax's sums over all the keys, for strip `s`. -/
def boundedSums (x1 : Vec F S1x1x256x4096 .bf16) (x2 : Vec F S1x1x4224x256 .bf16) (x3 : Vec F S1x1x128x4224 .bf16)
    (s : Fin 8) : Sums F :=
  boundedTail (boundedStep (boundedStep (boundedStep (boundedStep (zeroSum, zeroAcc)
    (score (kChunk x2 0) (qStrip x1 s)) (vChunk x3 0))
    (score (kChunk x2 1) (qStrip x1 s)) (vChunk x3 1))
    (score (kChunk x2 2) (qStrip x1 s)) (vChunk x3 2))
    (score (kChunk x2 3) (qStrip x1 s)) (vChunk x3 3))
    (scoreTail (kTail x2) (qStrip x1 s)) (vTail x3)

/-- The online softmax's state after all the keys, for strip `s`. -/
def onlineState (x1 : Vec F S1x1x256x4096 .bf16) (x2 : Vec F S1x1x4224x256 .bf16) (x3 : Vec F S1x1x128x4224 .bf16)
    (s : Fin 8) : State F :=
  onlineTail (onlineStep (onlineStep (onlineStep (onlineStep (startMax, zeroSum, zeroAcc)
    (score (kChunk x2 0) (qStrip x1 s)) (vChunk x3 0))
    (score (kChunk x2 1) (qStrip x1 s)) (vChunk x3 1))
    (score (kChunk x2 2) (qStrip x1 s)) (vChunk x3 2))
    (score (kChunk x2 3) (qStrip x1 s)) (vChunk x3 3))
    (scoreTail (kTail x2) (qStrip x1 s)) (vTail x3)

/-- Strip `s` of the output block in the bounded branch. -/
def boundedOut (x1 : Vec F S1x1x256x4096 .bf16) (x2 : Vec F S1x1x4224x256 .bf16) (x3 : Vec F S1x1x128x4224 .bf16)
    (s : Fin 8) : FVec F S1x512x128 .bf16 :=
  quotient (boundedSums x1 x2 x3 s).1 (boundedSums x1 x2 x3 s).2

/-- Strip `s` of the output block in the online branch. -/
def onlineOut (x1 : Vec F S1x1x256x4096 .bf16) (x2 : Vec F S1x1x4224x256 .bf16) (x3 : Vec F S1x1x128x4224 .bf16)
    (s : Fin 8) : FVec F S1x512x128 .bf16 :=
  quotient (onlineState x1 x2 x3 s).2.1 (onlineState x1 x2 x3 s).2.2

/-- A store of strip `s` of the output block. -/
def strip (out : Fin 8 → FVec F S1x512x128 .bf16) (s : Fin 8) : View.Piece (Elt F) S1x4096x128 .bf16 :=
  ⟨Rect.unit (s := S1x4096x128) ![0, 512 * s.val, 0] S1x512x128.size
    (by intro a; have := s.isLt; fin_cases a <;> simp [S1x4096x128, S1x512x128] <;> omega), out s⟩

/-- The eight stores of the output block, the last one first. -/
def strips (out : Fin 8 → FVec F S1x512x128 .bf16) : List (View.Piece (Elt F) S1x4096x128 .bf16) :=
  [strip out 7, strip out 6, strip out 5, strip out 4, strip out 3, strip out 2, strip out 1, strip out 0]

end Cert.KernelIdeal.Attn

end
-- ==== Proof.Attn.Run.lean ====
/- The attention body run on its blocks: one run per branch, each ending with the eight strips of the
   output block stored. -/
module

public import proofs.«01_k».proof.Proof.Attn.Block
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition on the flag: the flag is one. -/
abbrev isBounded (w : BitVec 32) : Prop := (Scalar.cmpi .ne (Scalar.extui (Scalar.cmpi .eq w 1#32)) 0#32) = 1#1

/-- The second branch's condition on the flag: the flag is not one. -/
abbrev isOnline (w : BitVec 32) : Prop := (Scalar.cmpi .ne (Scalar.extui (Scalar.cmpi .ne w 1#32)) 0#32) = 1#1

/-- The flag as the body reads it. -/
abbrev flag (arg3 : Memref sig .tc .smem S1 .i32) (harg3 : arg3.IsWhole) (x0 : Vec F S1 .i32) : BitVec 32 :=
  arg3.view.readAt (Elt F) (Rect.unit (s := S1) ![0] S1.size inb_S1_S1_0).toLoadRect (harg3.unread x0) (Shape.Idx.first (numel1_S1.symm ▸ Nat.one_pos))

/-- Exactly one of the two branches runs. -/
theorem isOnline_iff (w : BitVec 32) : isOnline w ↔ ¬isBounded w := by
  unfold isOnline isBounded
  by_cases h : w = 1#32
  · subst h; decide
  · have h1 : Scalar.cmpi .eq w 1#32 = 0#1 := by
      rw [Scalar.cmpi, IntOp.cmpi]; simp [beq_eq_false_iff_ne.mpr h, bne]
    have h2 : Scalar.cmpi .ne w 1#32 = 1#1 := by
      rw [Scalar.cmpi, IntOp.cmpi]; simp [beq_eq_false_iff_ne.mpr h, bne]
    rw [h1, h2]; decide

set_option maxHeartbeats 4000000 in
/-- The body when the flag is one: from its blocks it ends with the inputs unchanged and the output block written by a list of stores. -/
noncomputable def runBounded (c : Dev nD) (i : grid0.Coords) (arg3 : Memref sig .tc .smem S1 .i32) (harg3 : arg3.IsWhole) (arg4 : Memref sig .tc .vmem S1x1x256x4096 .bf16) (harg4 : arg4.IsWhole) (arg5 : Memref sig .tc .vmem S1x1x4224x256 .bf16) (harg5 : arg5.IsWhole) (arg6 : Memref sig .tc .vmem S1x1x128x4224 .bf16) (harg6 : arg6.IsWhole) (arg7 : Memref sig .tc .vmem S1x4096x128 .bf16) (harg7 : arg7.IsWhole)
    (x0 : Vec F S1 .i32) (x1 : Vec F S1x1x256x4096 .bf16) (x2 : Vec F S1x1x4224x256 .bf16) (x3 : Vec F S1x1x128x4224 .bf16) (hc0 : isBounded (flag arg3 harg3 x0)) (hc1 : ¬isOnline (flag arg3 harg3 x0)) :
    { L4 : List (View.Piece (Elt F) S1x4096x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0_mla_attention i arg3 harg3 arg4 harg4 arg5 harg5 arg6 harg6 arg7 harg7) K } := by
  refine ⟨?_, fun E K => ?run⟩
  case run =>
    simp only [cc0_mla_attention_eq_skeleton]; unfold cc0_mla_attention_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

set_option maxHeartbeats 4000000 in
/-- The body when the flag is not one: from its blocks it ends with the inputs unchanged and the output block written by a list of stores. -/
noncomputable def runOnline (c : Dev nD) (i : grid0.Coords) (arg3 : Memref sig .tc .smem S1 .i32) (harg3 : arg3.IsWhole) (arg4 : Memref sig .tc .vmem S1x1x256x4096 .bf16) (harg4 : arg4.IsWhole) (arg5 : Memref sig .tc .vmem S1x1x4224x256 .bf16) (harg5 : arg5.IsWhole) (arg6 : Memref sig .tc .vmem S1x1x128x4224 .bf16) (harg6 : arg6.IsWhole) (arg7 : Memref sig .tc .vmem S1x4096x128 .bf16) (harg7 : arg7.IsWhole)
    (x0 : Vec F S1 .i32) (x1 : Vec F S1x1x256x4096 .bf16) (x2 : Vec F S1x1x4224x256 .bf16) (x3 : Vec F S1x1x128x4224 .bf16) (hc0 : ¬isBounded (flag arg3 harg3 x0)) (hc1 : isOnline (flag arg3 harg3 x0)) :
    { L4 : List (View.Piece (Elt F) S1x4096x128 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4)) -∗ K ⟨⟩))
          ⊢ wp frame (wpE (defs₀ (F := F)) Variants.none c none) E (cc0_mla_attention i arg3 harg3 arg4 harg4 arg5 harg5 arg6 harg6 arg7 harg7) K } := by
  refine ⟨?_, fun E K => ?run⟩
  case run =>
    simp only [cc0_mla_attention_eq_skeleton]; unfold cc0_mla_attention_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg3.eq_unread hf0; obtain rfl := harg4.eq_unread hf1; obtain rfl := harg5.eq_unread hf2; obtain rfl := harg6.eq_unread hf3
    sl_exec_parts (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact H4

/-- The stores of the bounded branch are the eight strips of the bounded softmax. -/
theorem runBounded_stores (c : Dev nD) (i : grid0.Coords) (arg3 : Memref sig .tc .smem S1 .i32) (harg3 : arg3.IsWhole) (arg4 : Memref sig .tc .vmem S1x1x256x4096 .bf16) (harg4 : arg4.IsWhole) (arg5 : Memref sig .tc .vmem S1x1x4224x256 .bf16) (harg5 : arg5.IsWhole) (arg6 : Memref sig .tc .vmem S1x1x128x4224 .bf16) (harg6 : arg6.IsWhole) (arg7 : Memref sig .tc .vmem S1x4096x128 .bf16) (harg7 : arg7.IsWhole)
    (x0 : Vec F S1 .i32) (x1 : Vec F S1x1x256x4096 .bf16) (x2 : Vec F S1x1x4224x256 .bf16) (x3 : Vec F S1x1x128x4224 .bf16) (hc0 : isBounded (flag arg3 harg3 x0)) (hc1 : ¬isOnline (flag arg3 harg3 x0)) :
    (runBounded c i arg3 harg3 arg4 harg4 arg5 harg5 arg6 harg6 arg7 harg7 x0 x1 x2 x3 hc0 hc1).1 = strips (boundedOut (arg4.view.read (Elt F) (harg4.unread x1)) (arg5.view.read (Elt F) (harg5.unread x2)) (arg6.view.read (Elt F) (harg6.unread x3))) := by
  sl_kernel_rfl

/-- The stores of the online branch are the eight strips of the online softmax. -/
theorem runOnline_stores (c : Dev nD) (i : grid0.Coords) (arg3 : Memref sig .tc .smem S1 .i32) (harg3 : arg3.IsWhole) (arg4 : Memref sig .tc .vmem S1x1x256x4096 .bf16) (harg4 : arg4.IsWhole) (arg5 : Memref sig .tc .vmem S1x1x4224x256 .bf16) (harg5 : arg5.IsWhole) (arg6 : Memref sig .tc .vmem S1x1x128x4224 .bf16) (harg6 : arg6.IsWhole) (arg7 : Memref sig .tc .vmem S1x4096x128 .bf16) (harg7 : arg7.IsWhole)
    (x0 : Vec F S1 .i32) (x1 : Vec F S1x1x256x4096 .bf16) (x2 : Vec F S1x1x4224x256 .bf16) (x3 : Vec F S1x1x128x4224 .bf16) (hc0 : ¬isBounded (flag arg3 harg3 x0)) (hc1 : isOnline (flag arg3 harg3 x0)) :
    (runOnline c i arg3 harg3 arg4 harg4 arg5 harg5 arg6 harg6 arg7 harg7 x0 x1 x2 x3 hc0 hc1).1 = strips (onlineOut (arg4.view.read (Elt F) (harg4.unread x1)) (arg5.view.read (Elt F) (harg5.unread x2)) (arg6.view.read (Elt F) (harg6.unread x3))) := by
  sl_kernel_rfl

end Cert.KernelIdeal.Attn

end
-- ==== Proof.Attn.Frame.lean ====
/- The attention's launch: what the output block holds after each grid point, the body at every point, the
   run of the whole launch, and the frame: the argument arrays end unchanged and every semaphore at zero. -/
module

public import proofs.«01_k».proof.Proof.Attn.Run
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The flag read is the flag held. -/
theorem flag_eq (arg3 : Memref sig .tc .smem S1 .i32) (harg3 : arg3.IsWhole) (x0 : Vec F S1 .i32) :
    flag arg3 harg3 x0 = x0 (Shape.Idx.first (numel1_S1.symm ▸ Nat.one_pos)) := by
  unfold flag
  rw [View.readAt_eq_ld, harg3.read_unread]
  refine congrArg x0 (funext fun a => ?_)
  fin_cases a
  exact Subsingleton.elim (α := Fin 1) _ _

/-- The output block as a function of the blocks of flag, queries, keys and values. -/
def blockOut (x0 : Vec F S1 .i32) (x1 : Vec F S1x1x256x4096 .bf16) (x2 : Vec F S1x1x4224x256 .bf16)
    (x3 : Vec F S1x1x128x4224 .bf16) : Vec F S1x4096x128 .bf16 :=
  if isBounded (x0 (Shape.Idx.first (numel1_S1.symm ▸ Nat.one_pos))) then
    View.canon (strips (boundedOut x1 x2 x3)) else View.canon (strips (onlineOut x1 x2 x3))

/-- The eight strips cover the output block. -/
theorem strips_cover (out : Fin 8 → FVec F S1x512x128 .bf16) (y : S1x4096x128.Idx) :
    ∃ pc ∈ strips out, y ∈ pc.1.set :=
  View.cover_of_tiledL (strips out) S1x512x128.size (by sl_kernel_rfl) y

/-- The body on its blocks: the inputs stay, the output block ends at `blockOut`. -/
theorem body_run (c : Dev nD) (i : grid0.Coords) (arg3 : Memref sig .tc .smem S1 .i32) (harg3 : arg3.IsWhole) (arg4 : Memref sig .tc .vmem S1x1x256x4096 .bf16) (harg4 : arg4.IsWhole) (arg5 : Memref sig .tc .vmem S1x1x4224x256 .bf16) (harg5 : arg5.IsWhole) (arg6 : Memref sig .tc .vmem S1x1x128x4224 .bf16) (harg6 : arg6.IsWhole) (arg7 : Memref sig .tc .vmem S1x4096x128 .bf16) (harg7 : arg7.IsWhole)
    (x0 : Vec F S1 .i32) (x1 : Vec F S1x1x256x4096 .bf16) (x2 : Vec F S1x1x4224x256 .bf16) (x3 : Vec F S1x1x128x4224 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (blockOut x0 x1 x2 x3)) -∗ K ⟨⟩))
      ⊢ wp frame (wpE (defs₀ (F := F)) Variants.none c none) E (cc0_mla_attention i arg3 harg3 arg4 harg4 arg5 harg5 arg6 harg6 arg7 harg7) K := by
  have hf := flag_eq (F := F) arg3 harg3 x0
  by_cases h0 : isBounded (flag arg3 harg3 x0)
  · have h1 : ¬isOnline (flag arg3 harg3 x0) := by rw [isOnline_iff]; exact not_not_intro h0
    have hb : blockOut x0 x1 x2 x3 = View.canon (strips (boundedOut x1 x2 x3)) := by
      unfold blockOut; exact if_pos (hf ▸ h0)
    rw [hb]
    iintro ⟨H0, H1, H2, H3, H4, Hk⟩
    iapply ((runBounded c i arg3 harg3 arg4 harg4 arg5 harg5 arg6 harg6 arg7 harg7 x0 x1 x2 x3 h0 h1).2 E K)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    iapply Hk
    isplitl [H0]; · iexact H0
    isplitl [H1]; · iexact H1
    isplitl [H2]; · iexact H2
    isplitl [H3]; · iexact H3
    unfold owns; iexists _; isplitr
    swap; · iexact H4
    ipureintro
    rw [runBounded_stores, harg4.read_unread, harg5.read_unread, harg6.read_unread]
    exact View.read_writes_eq_canon _ _ _ (strips_cover _)
  · have h1 : isOnline (flag arg3 harg3 x0) := by rw [isOnline_iff]; exact h0
    have hb : blockOut x0 x1 x2 x3 = View.canon (strips (onlineOut x1 x2 x3)) := by
      unfold blockOut; exact if_neg (hf ▸ h0)
    rw [hb]
    iintro ⟨H0, H1, H2, H3, H4, Hk⟩
    iapply ((runOnline c i arg3 harg3 arg4 harg4 arg5 harg5 arg6 harg6 arg7 harg7 x0 x1 x2 x3 h0 h1).2 E K)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    iapply Hk
    isplitl [H0]; · iexact H0
    isplitl [H1]; · iexact H1
    isplitl [H2]; · iexact H2
    isplitl [H3]; · iexact H3
    unfold owns; iexists _; isplitr
    swap; · iexact H4
    ipureintro
    rw [runOnline_stores, harg4.read_unread, harg5.read_unread, harg6.read_unread]
    exact View.read_writes_eq_canon _ _ _ (strips_cover _)

/-- Each window's current staging memref at point `t`, spelled as the pipeline passes it (`bodyAt0`), and its wholeness. -/
abbrev ms0_0 (t : Fin cfg0.N) : Memref sig .tc .smem S1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4224x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128x4224 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .bf16 := win0_4.stage (cfg0.slots t 4)
abbrev hs0_4 (t : Fin cfg0.N) : (ms0_4 t).IsWhole := hstage0_4 ((cfg0.slots t 4).cast nbuf0_4)

/-- The proof data of the one pipeline on core `c`: the arrays as the region finds them (`V`); after the body at
    point `t` each input's buffer at its block and the output's at `blockOut`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => iblk m c 3 t
    | ⟨4, _⟩ => blockOut (iblk m c 0 t) (X0_1 m c t) (iblk m c 2 t) (iblk m c 3 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = blockOut (iblk m c 0 t) (X0_1 m c t) (iblk m c 2 t) (iblk m c 3 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (body_run c (grid0.coords t) _ _ _ _ _ _ _ _ _ _ (iblk m c 0 t) (X0_1 m c t) (iblk m c 2 t) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Attn

end
-- ==== Proof.Attn.Bits.lean ====
/- The frame of the program as printed, at the bit patterns: the program printed for the exact reading is the
   same program, so its frame, which holds at any values, is this one. -/
module

public import proofs.«01_k».proof.Proof.Attn.Frame
public import proofs.«01_k».proof.Proof.Gen.Kernel
public import Idealize.ShloMosaic.PureOps.BitExact
public import Idealize.ShloMosaic.Lib.Tactic

@[expose] public section

set_option maxRecDepth 16384

noncomputable section

namespace Cert.Kernel.Attn

open Idealize.ShloMosaic Idealize.SL.Sem Idealize.ShloMosaic.Tactic

/-- The two printed bodies are one body. -/
theorem body_eq : Cert.Kernel.defs₀ (F := Bits) = Cert.KernelIdeal.defs₀ (F := Bits) := by
  unfold Cert.Kernel.defs₀ Cert.KernelIdeal.defs₀
  refine congrArg Defs.onTc ?_
  funext l a
  obtain ⟨l, hl⟩ := l
  obtain _ | l := l
  · sl_kernel_rfl
  · omega

/-- The two printed body tables are one table. -/
theorem defs_eq : Cert.Kernel.defs (F := Bits) = Cert.KernelIdeal.defs (F := Bits) := by
  unfold Cert.Kernel.defs Cert.KernelIdeal.defs
  exact congrArg (Pipeline.defs Cert.KernelIdeal.pcfgs) body_eq

/-- The two printed main programs are one program. -/
theorem main_eq : Cert.Kernel.main (F := Bits) = Cert.KernelIdeal.main (F := Bits) := by with_unfolding_all rfl

/-- The frame of the program as printed. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq, main_eq]
  exact Cert.KernelIdeal.Attn.frame (F := Bits) m g

end Cert.Kernel.Attn

end
-- ==== Proof.Attn.Reference.lean ====
/- The reference's frame: its run leaves the arguments unchanged, and it declares no semaphore. -/
module

public import proofs.«01_k».proof.Defs
public import proofs.«01_k».proof.Proof.Gen.ReferenceIdeal.Run
public import Idealize.ShloMosaic.Lib.Claim

@[expose] public section

noncomputable section

namespace Cert.ReferenceIdeal.Attn

open Idealize.ShloMosaic Idealize.SL.Sem Cert.ReferenceIdeal Cert.ReferenceIdeal.Gen

/-- The reference's frame, at any values. -/
theorem frame {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩)
    (Cert.ReferenceIdeal.Value.run m g)

end Cert.ReferenceIdeal.Attn

end
-- ==== Proof.Attn.Softmax.lean ====
/- Softmax over the extended reals: scores that are numbers (or minus infinity), values of any kind. The sum of
   the weights `2 ^ s` and of the weighted values, what a common positive factor does to them, one step of the
   online form, and the quotient. -/
module

public import Idealize.ShloMosaic.PureOps.Ideal
public import Idealize.ShloMosaic.PureOps.Ideal.Laws

@[expose] public section

noncomputable section

namespace Cert.Attn

open Idealize.ShloMosaic

/-- A positive real factor spreads over a sum of extended reals. -/
theorem coe_mul_sum {ι : Type} (S : Finset ι) (c : ℝ) (hc : 0 < c) (f : ι → EReal) :
    (c : EReal) * ∑ j ∈ S, f j = ∑ j ∈ S, (c : EReal) * f j := by
  classical
  induction S using Finset.induction with
  | empty => simp
  | insert a S ha ih =>
    rw [Finset.sum_insert ha, Finset.sum_insert ha, ← ih]
    exact EReal.left_distrib_of_nonneg_of_ne_top (EReal.coe_nonneg.2 hc.le) (EReal.coe_ne_top _) _ _

/-- A positive real factor spreads over a sum of two. -/
theorem coe_mul_add (c : ℝ) (hc : 0 < c) (x y : EReal) :
    (c : EReal) * (x + y) = (c : EReal) * x + (c : EReal) * y :=
  EReal.left_distrib_of_nonneg_of_ne_top (EReal.coe_nonneg.2 hc.le) (EReal.coe_ne_top _) _ _

/-- The sum of numbers, as extended reals, is their sum. -/
theorem coe_sum {ι : Type} (S : Finset ι) (f : ι → ℝ) : ((∑ j ∈ S, f j : ℝ) : EReal) = ∑ j ∈ S, (f j : EReal) := by
  classical
  induction S using Finset.induction with
  | empty => simp
  | insert a S ha ih => rw [Finset.sum_insert ha, Finset.sum_insert ha, EReal.coe_add, ih]

/-- The factor by which weights taken under the maximum `r` differ from `2 ^ s`. -/
def under (r : ℝ) : ℝ := (2 : ℝ) ^ (-r)

theorem under_pos (r : ℝ) : 0 < under r := Real.rpow_pos_of_pos (by norm_num) _

/-- An extended real that is not plus infinity is a number or minus infinity. -/
theorem bot_or_coe {x : EReal} (h : x ≠ ⊤) : x = ⊥ ∨ ∃ r : ℝ, x = r := by
  induction x with
  | bot => exact .inl rfl
  | coe r => exact .inr ⟨r, rfl⟩
  | top => exact absurd rfl h

/-- An extended real that is neither infinity is a number. -/
theorem exists_coe {x : EReal} (h : x ≠ ⊤) (h' : x ≠ ⊥) : ∃ r : ℝ, x = r :=
  (bot_or_coe h).resolve_left h'

/-- A weight under the maximum `r` is `2 ^ s` times the factor. -/
theorem exp2_sub (x : EReal) (h : x ≠ ⊤) (r : ℝ) :
    Ideal.exp2 (x - (r : EReal)) = (under r : EReal) * Ideal.exp2 x := by
  rcases bot_or_coe h with rfl | ⟨s, rfl⟩
  · rw [EReal.bot_sub, Ideal.exp2_bot, mul_zero]
  · rw [← EReal.coe_sub, Ideal.exp2_coe, Ideal.exp2_coe, ← EReal.coe_mul]
    refine congrArg _ ?_
    show (2 : ℝ) ^ (s - r) = 2 ^ (-r) * 2 ^ s
    rw [← Real.rpow_add (by norm_num)]
    ring_nf

/-- Moving from the maximum `r` to `r'` moves the factor. -/
theorem exp2_move (r r' : ℝ) :
    Ideal.exp2 ((r : EReal) - (r' : EReal)) * (under r : EReal) = (under r' : EReal) := by
  rw [← EReal.coe_sub, Ideal.exp2_coe, ← EReal.coe_mul]
  refine congrArg _ ?_
  show (2 : ℝ) ^ (r - r') * 2 ^ (-r) = 2 ^ (-r')
  rw [← Real.rpow_add (by norm_num)]
  ring_nf

/-- A running maximum, sum and weighted value hold, scaled, the sum `L` and the weighted value `A`: either nothing
    has been summed, or the maximum is a number. -/
def Scaled (m l a L A : EReal) : Prop :=
  (m = ⊥ ∧ l = 0 ∧ a = 0 ∧ L = 0 ∧ A = 0) ∨ ∃ r : ℝ, m = r ∧ l = (under r : EReal) * L ∧ a = (under r : EReal) * A

/-- A running maximum is not plus infinity. -/
theorem Scaled.ne_top {m l a L A : EReal} (h : Scaled m l a L A) : m ≠ ⊤ := by
  rcases h with ⟨h, _⟩ | ⟨r, h, _⟩
  · rw [h]; exact bot_ne_top
  · rw [h]; exact EReal.coe_ne_top _

/-- One step of the online softmax over scores `f` with values `v`, whose new maximum is a number. -/
theorem Scaled.step {n : ℕ} {m l a L A : EReal} (h : Scaled m l a L A) (f v : Fin n → EReal)
    (hf : ∀ j, f j ≠ ⊤) (m' : EReal) (hm' : ∃ r : ℝ, m' = r) :
    Scaled m' (Ideal.exp2 (m - m') * l + ∑ j, Ideal.exp2 (f j - m'))
      (Ideal.exp2 (m - m') * a + ∑ j, v j * Ideal.exp2 (f j - m'))
      (L + ∑ j, Ideal.exp2 (f j)) (A + ∑ j, v j * Ideal.exp2 (f j)) := by
  obtain ⟨r', rfl⟩ := hm'
  refine .inr ⟨r', rfl, ?_, ?_⟩
  · rw [coe_mul_add _ (under_pos r'), coe_mul_sum _ _ (under_pos r')]
    refine congrArg₂ (· + ·) ?_ (Finset.sum_congr rfl fun j _ => exp2_sub _ (hf j) _)
    rcases h with ⟨rfl, rfl, rfl, rfl, rfl⟩ | ⟨r, rfl, rfl, rfl⟩
    · rw [mul_zero, mul_zero]
    · rw [← mul_assoc, exp2_move]
  · rw [coe_mul_add _ (under_pos r'), coe_mul_sum _ _ (under_pos r')]
    refine congrArg₂ (· + ·) ?_ (Finset.sum_congr rfl fun j _ => ?_)
    · rcases h with ⟨rfl, rfl, rfl, rfl, rfl⟩ | ⟨r, rfl, rfl, rfl⟩
      · rw [mul_zero, mul_zero]
      · rw [← mul_assoc, exp2_move]
    · rw [exp2_sub _ (hf j), mul_left_comm]

/-- Dividing by a positive number is multiplying by its inverse. -/
theorem div_pos_coe (x : EReal) {t : ℝ} (ht : 0 < t) : Ideal.div x (t : EReal) = (t⁻¹ : ℝ) * x := by
  rw [Ideal.div_coe ht.ne', one_div, mul_comm]

/-- A common positive factor leaves the quotient. -/
theorem div_scale (c t : ℝ) (hc : 0 < c) (ht : 0 < t) (A : EReal) :
    Ideal.div ((c : EReal) * A) ((c : EReal) * (t : EReal)) = Ideal.div A (t : EReal) := by
  rw [← EReal.coe_mul, div_pos_coe _ (mul_pos hc ht), div_pos_coe _ ht, ← mul_assoc, ← EReal.coe_mul]
  refine congrArg (· * A) (congrArg _ ?_)
  field_simp

/-- The online softmax's quotient is the plain one. -/
theorem Scaled.quotient {m l a L A : EReal} (h : Scaled m l a L A) (t : ℝ) (ht : 0 < t) (hL : L = t) :
    Ideal.div a l = Ideal.div A L := by
  subst hL
  rcases h with ⟨_, _, _, h0, _⟩ | ⟨r, -, rfl, rfl⟩
  · exact absurd (EReal.coe_eq_zero.1 h0) ht.ne'
  · exact div_scale _ _ (under_pos r) ht A

/-- A weight is a real number, zero or more. -/
theorem exp2_real (x : EReal) (h : x ≠ ⊤) : ∃ t : ℝ, 0 ≤ t ∧ Ideal.exp2 x = t := by
  rcases bot_or_coe h with rfl | ⟨s, rfl⟩
  · exact ⟨0, le_rfl, by rw [Ideal.exp2_bot, EReal.coe_zero]⟩
  · exact ⟨Real.rpow 2 s, (Real.rpow_pos_of_pos (by norm_num) _).le, Ideal.exp2_coe s⟩

/-- The sum of the weights of numbers, over a set that is not empty, is a positive number. -/
theorem sum_weights {n : ℕ} (hn : 0 < n) (s : Fin n → EReal) (hs : ∀ j, ∃ r : ℝ, s j = r) :
    ∃ t : ℝ, 0 < t ∧ ∑ j, Ideal.exp2 (s j) = t := by
  choose r hr using hs
  refine ⟨∑ j, (2 : ℝ) ^ r j, Finset.sum_pos (fun j _ => Real.rpow_pos_of_pos (by norm_num) _) ⟨⟨0, hn⟩, Finset.mem_univ _⟩, ?_⟩
  rw [coe_sum]
  exact Finset.sum_congr rfl fun j _ => by rw [hr j, Ideal.exp2_coe]; rfl

/-- A maximum over numbers and minus infinities is not plus infinity. -/
theorem fold_max_ne_top {ι : Type} (S : Finset ι) (f : ι → EReal) (hf : ∀ j, f j ≠ ⊤) :
    S.fold max ⊥ f ≠ ⊤ := by
  classical
  refine ne_of_lt (Finset.fold_max_lt _ |>.2 ⟨bot_lt_top, fun j _ => lt_top_iff_ne_top.2 (hf j)⟩)

/-- A maximum is at least each of its terms. -/
theorem le_fold_max' {ι : Type} (S : Finset ι) (f : ι → EReal) (j : ι) (hj : j ∈ S) :
    f j ≤ S.fold max ⊥ f :=
  (Finset.le_fold_max _).2 (.inr ⟨j, hj, le_rfl⟩)

/-- The maximum of numbers, over a set that is not empty, is a number. -/
theorem fold_max_real {n : ℕ} (hn : 0 < n) (f : Fin n → EReal) (hf : ∀ j, ∃ r : ℝ, f j = r) :
    ∃ r : ℝ, Finset.univ.fold max ⊥ f = r := by
  refine exists_coe (fold_max_ne_top _ _ fun j => ?_) fun h => ?_
  · obtain ⟨r, hr⟩ := hf j; rw [hr]; exact EReal.coe_ne_top _
  · obtain ⟨r, hr⟩ := hf ⟨0, hn⟩
    have := le_fold_max' Finset.univ f ⟨0, hn⟩ (Finset.mem_univ _)
    rw [h, hr] at this
    exact absurd (le_bot_iff.1 this) (EReal.coe_ne_bot _)

/-- A new maximum of a number and of something that is not plus infinity is a number. -/
theorem max_real {x y : EReal} (hx : ∃ r : ℝ, x = r) (hy : y ≠ ⊤) : ∃ r : ℝ, max x y = r := by
  obtain ⟨r, rfl⟩ := hx
  refine exists_coe (ne_of_lt (max_lt (EReal.coe_lt_top _) (lt_top_iff_ne_top.2 hy))) fun h => ?_
  exact absurd (le_bot_iff.1 (h ▸ le_max_left _ _)) (EReal.coe_ne_bot r)

/-- Softmax with base e over scores scaled by log 2, its maximum taken off, is the quotient with weights `2 ^ s`. -/
theorem softmax_eq {n : ℕ} (hn : 0 < n) (s v : Fin n → EReal) (hs : ∀ j, ∃ r : ℝ, s j = r) (M : ℝ) :
    ∑ j, v j * Ideal.div (Ideal.exp (s j * (Real.log 2 : ℝ) - (M : EReal)))
        (0 + ∑ i, Ideal.exp (s i * (Real.log 2 : ℝ) - (M : EReal)))
      = Ideal.div (∑ j, v j * Ideal.exp2 (s j)) (∑ j, Ideal.exp2 (s j)) := by
  have he : ∀ j, Ideal.exp (s j * (Real.log 2 : ℝ) - (M : EReal)) = (Real.exp (-M) : ℝ) * Ideal.exp2 (s j) := fun j => by
    obtain ⟨r, hr⟩ := hs j
    rw [hr, ← EReal.coe_mul, ← EReal.coe_sub, Ideal.exp_coe, Ideal.exp2_coe, ← EReal.coe_mul]
    refine congrArg _ ?_
    show Real.exp _ = Real.exp _ * (2 : ℝ) ^ r
    rw [Real.rpow_def_of_pos (by norm_num), ← Real.exp_add]
    ring_nf
  obtain ⟨t, ht, hsum⟩ := sum_weights hn s hs
  simp only [he]
  rw [← coe_mul_sum _ _ (Real.exp_pos _), hsum, zero_add, div_pos_coe _ ht, coe_mul_sum _ _ (inv_pos.2 ht)]
  refine Finset.sum_congr rfl fun j _ => ?_
  rw [div_scale _ _ (Real.exp_pos _) ht, div_pos_coe _ ht, mul_left_comm]

/-- Where the reference keeps a key among the rows: the meta tokens first, from the last rows. -/
def row (j : Fin 4112) : Fin 4224 := if h : j.val < 16 then ⟨4208 + j.val, by omega⟩ else ⟨j.val - 16, by omega⟩

/-- A sum over the four chunks of 1024 rows and the last 128 rows, whose first 112 add nothing, is the sum over the
    keys in the reference's order. -/
theorem sum_chunks (g : Fin 4224 → EReal) (T : Fin 128 → EReal)
    (h0 : ∀ j : Fin 128, j.val < 112 → T j = 0) (h1 : ∀ j : Fin 128, 112 ≤ j.val → T j = g ⟨4096 + j.val, by omega⟩) :
    0 + (∑ j : Fin 1024, g ⟨1024 * 0 + j.val, by omega⟩) + (∑ j : Fin 1024, g ⟨1024 * 1 + j.val, by omega⟩)
      + (∑ j : Fin 1024, g ⟨1024 * 2 + j.val, by omega⟩) + (∑ j : Fin 1024, g ⟨1024 * 3 + j.val, by omega⟩)
      + ∑ j, T j = ∑ j : Fin 4112, g (row j) := by
  let G : ℕ → EReal := fun n => if h : n < 4224 then g ⟨n, h⟩ else 0
  have hg : ∀ n (h : n < 4224), g ⟨n, h⟩ = G n := fun n h => by simp only [G, dif_pos h]
  have hG : ∀ (i : Fin 4) , (∑ j : Fin 1024, g ⟨1024 * i.val + j.val, by omega⟩) = ∑ j ∈ Finset.range 1024, G (1024 * i.val + j) := fun i => by
    rw [Finset.sum_range]
    exact Finset.sum_congr rfl fun j _ => hg _ _
  have hT : ∑ j, T j = ∑ j ∈ Finset.range 16, G (4208 + j) := by
    have e : ∑ j, T j = ∑ j ∈ Finset.range (112 + 16), (if j < 112 then 0 else G (4096 + j)) := by
      rw [Finset.sum_range]
      refine Finset.sum_congr rfl fun j _ => ?_
      by_cases hj : j.val < 112
      · rw [if_pos hj, h0 j hj]
      · rw [if_neg hj, h1 j (by omega)]; exact hg _ _
    rw [e, Finset.sum_range_add, Finset.sum_eq_zero (fun j hj => if_pos (Finset.mem_range.1 hj)), zero_add]
    refine Finset.sum_congr rfl fun j _ => ?_
    rw [if_neg (by omega)]; congr 1; omega
  have hR : ∑ j : Fin 4112, g (row j) = ∑ j ∈ Finset.range (16 + 4096), (if j < 16 then G (4208 + j) else G (j - 16)) := by
    rw [Finset.sum_range]
    refine Finset.sum_congr rfl fun j _ => ?_
    unfold row
    by_cases hj : j.val < 16
    · rw [dif_pos hj, if_pos hj]; exact hg _ _
    · rw [dif_neg hj, if_neg hj]; exact hg _ _
  have hS : ∑ j ∈ Finset.range 4096, G j = (∑ j ∈ Finset.range 1024, G (1024 * 0 + j)) + (∑ j ∈ Finset.range 1024, G (1024 * 1 + j))
      + (∑ j ∈ Finset.range 1024, G (1024 * 2 + j)) + (∑ j ∈ Finset.range 1024, G (1024 * 3 + j)) := by
    rw [show 4096 = 1024 + 1024 + 1024 + 1024 from rfl, Finset.sum_range_add, Finset.sum_range_add, Finset.sum_range_add]
    simp only [Nat.mul_zero, Nat.zero_add]
  have e0 := hG 0; have e1 := hG 1; have e2 := hG 2; have e3 := hG 3
  simp only [Fin.val_zero, Fin.val_one, Fin.val_two, show ((3 : Fin 4) : ℕ) = 3 from rfl] at e0 e1 e2 e3
  rw [hR, Finset.sum_range_add, e0, e1, e2, e3, hT, zero_add, ← hS, add_comm]
  refine congrArg₂ (· + ·) (Finset.sum_congr rfl fun j hj => (if_pos (Finset.mem_range.1 hj)).symm) (Finset.sum_congr rfl fun j hj => ?_)
  rw [if_neg (by omega)]; congr 1; omega

/-- The attention of one query, one column of the values: the keys are the rows `row j`. -/
def att (Q : Fin 256 → EReal) (K : Fin 4224 → Fin 256 → EReal) (V : Fin 4224 → EReal) : EReal :=
  Ideal.div (∑ j, V (row j) * Ideal.exp2 (∑ d, K (row j) d * Q d)) (∑ j, Ideal.exp2 (∑ d, K (row j) d * Q d))

/-- A sum of products of numbers is a number. -/
theorem dot_real {n : ℕ} (f g : Fin n → EReal) (hf : ∀ j, ∃ r : ℝ, f j = r) (hg : ∀ j, ∃ r : ℝ, g j = r) :
    ∃ r : ℝ, ∑ j, f j * g j = r := by
  choose a ha using hf
  choose b hb using hg
  refine ⟨∑ j, a j * b j, ?_⟩
  rw [coe_sum]
  exact Finset.sum_congr rfl fun j _ => by rw [ha j, hb j, EReal.coe_mul]

end Cert.Attn

end
-- ==== Proof.Attn.Values.lean ====
/- The attention's pieces read at an index over the extended reals: scores as sums of products, weights' sums,
   weighted values, the quotient; then a strip of the output as the attention of its queries, in both branches. -/
module

public import proofs.«01_k».proof.Proof.Attn.Block
public import proofs.«01_k».proof.Proof.Attn.Softmax
public import Idealize.ShloMosaic.Lib.Pointwise

@[expose] public section

set_option maxRecDepth 16384

noncomputable section

namespace Cert.KernelIdeal.Attn

open Idealize.ShloMosaic Cert.KernelIdeal Cert.KernelIdeal.Gen Cert.Attn

/-- The word that stands for minus infinity. -/
theorem negInf : Ideal.ofBits .f32 0xFF800000#32 = ⊥ := by
  simp [Ideal.ofBits, Ideal.ieee]

/-- The scores of a chunk, at a row and a query. -/
theorem score_apply (k : Vec Ideal S1x1x1024x256 .bf16) (q : Vec Ideal S1x1x256x512 .bf16) (r : Fin 1024) (x : Fin 512) :
    score k q (ix2 r x) = ∑ d : Fin 256, k (ix4 0 0 r d) * q (ix4 0 0 d x) := by
  pointwise [score]

/-- The scores of the last rows: minus infinity on the rows that hold no key. -/
theorem scoreTail_apply (k : Vec Ideal S1x1x128x256 .bf16) (q : Vec Ideal S1x1x256x512 .bf16) (r : Fin 128) (x : Fin 512) :
    scoreTail k q (ix2 r x) = if r.val < 112 then ⊥ else ∑ d : Fin 256, k (ix4 0 0 r d) * q (ix4 0 0 d x) := by
  pointwise [scoreTail, tailBias]
  have h : ∀ r : Fin 128, IntOp.cmpi .sge (BitVec.ofNat 32 r.val) 112#32 = if r.val < 112 then 0#1 else 1#1 := by
    decide
  rw [h r]
  by_cases hr : r.val < 112
  · rw [if_pos hr, if_pos hr, negInf]
    exact EReal.add_bot _
  · rw [if_neg hr, if_neg hr]
    exact add_zero _

/-- A chunk's weights' sum, at a query. -/
theorem weightSum_apply (p : FVec Ideal S1024x512 .f32) (x : Fin 512) :
    weightSum p (ix2 0 x) = ∑ r : Fin 1024, p (ix2 r x) := by
  pointwise [weightSum]

/-- The last rows' weights' sum, at a query. -/
theorem weightSumTail_apply (p : FVec Ideal S128x512 .f32) (x : Fin 512) :
    weightSumTail p (ix2 0 x) = ∑ r : Fin 128, p (ix2 r x) := by
  pointwise [weightSumTail]

/-- The weighted values of a chunk, at a column and a query. -/
theorem weighted_apply (v : Vec Ideal S1x1x128x1024 .bf16) (p : FVec Ideal S1024x512 .f32) (d : Fin 128) (x : Fin 512) :
    weighted v p (ix2 d x) = ∑ r : Fin 1024, v (ix4 0 0 d r) * p (ix2 r x) := by
  pointwise [weighted]

/-- The weighted values of the last rows, at a column and a query. -/
theorem weightedTail_apply (v : Vec Ideal S1x1x128x128 .bf16) (p : FVec Ideal S128x512 .f32) (d : Fin 128) (x : Fin 512) :
    weightedTail v p (ix2 d x) = ∑ r : Fin 128, v (ix4 0 0 d r) * p (ix2 r x) := by
  pointwise [weightedTail]

/-- The quotient, at a query and a column. -/
theorem quotient_apply (l : FVec Ideal S1x512 .f32) (acc : FVec Ideal S128x512 .f32) (x : Fin 512) (d : Fin 128) :
    quotient l acc (ix3 0 x d) = Ideal.div (acc (ix2 d x)) (l (ix2 0 x)) := by
  pointwise [quotient]

/-- The new maximum after a chunk, at a query. -/
theorem newMax_apply (m : FVec Ideal S1x512 .f32) (s : FVec Ideal S1024x512 .f32) (x : Fin 512) :
    newMax m s (ix2 0 x) = max (m (ix2 0 x)) (Finset.univ.fold max ⊥ fun r : Fin 1024 => s (ix2 r x)) := by
  pointwise [newMax]
  rw [negInf]

/-- The new maximum after the last rows, at a query. -/
theorem newMaxTail_apply (m : FVec Ideal S1x512 .f32) (s : FVec Ideal S128x512 .f32) (x : Fin 512) :
    newMaxTail m s (ix2 0 x) = max (m (ix2 0 x)) (Finset.univ.fold max ⊥ fun r : Fin 128 => s (ix2 r x)) := by
  pointwise [newMaxTail]
  rw [negInf]

/-- The factor between two maxima, at a query. -/
theorem shift_apply (m m' : FVec Ideal S1x512 .f32) (x : Fin 512) :
    shift m m' (ix2 0 x) = Ideal.exp2 (m (ix2 0 x) - m' (ix2 0 x)) := by
  pointwise [shift]
  rfl

/-- A chunk's weights under a maximum, at a row and a query. -/
theorem shifted_apply (m : FVec Ideal S1x512 .f32) (s : FVec Ideal S1024x512 .f32) (r : Fin 1024) (x : Fin 512) :
    shifted m s (ix2 r x) = Ideal.exp2 (s (ix2 r x) - m (ix2 0 x)) := by
  pointwise [shifted]
  rfl

/-- The last rows' weights under a maximum, at a row and a query. -/
theorem shiftedTail_apply (m : FVec Ideal S1x512 .f32) (s : FVec Ideal S128x512 .f32) (r : Fin 128) (x : Fin 512) :
    shiftedTail m s (ix2 r x) = Ideal.exp2 (s (ix2 r x) - m (ix2 0 x)) := by
  pointwise [shiftedTail]
  rfl

/-- Row `r` of chunk `i` of the keys. -/
theorem kChunk_apply (x2 : Vec Ideal S1x1x4224x256 .bf16) (i : Fin 4) (r : Fin 1024) (d : Fin 256) :
    kChunk x2 i (ix4 0 0 r d) = x2 (ix4 0 0 ⟨1024 * i.val + r.val, by omega⟩ d) := by
  pointwise [kChunk]

/-- Row `r` of the keys' last rows. -/
theorem kTail_apply (x2 : Vec Ideal S1x1x4224x256 .bf16) (r : Fin 128) (d : Fin 256) :
    kTail x2 (ix4 0 0 r d) = x2 (ix4 0 0 ⟨4096 + r.val, by omega⟩ d) := by
  pointwise [kTail]

/-- Column `r` of chunk `i` of the values. -/
theorem vChunk_apply (x3 : Vec Ideal S1x1x128x4224 .bf16) (i : Fin 4) (d : Fin 128) (r : Fin 1024) :
    vChunk x3 i (ix4 0 0 d r) = x3 (ix4 0 0 d ⟨1024 * i.val + r.val, by omega⟩) := by
  pointwise [vChunk]

/-- Column `r` of the values' last columns. -/
theorem vTail_apply (x3 : Vec Ideal S1x1x128x4224 .bf16) (d : Fin 128) (r : Fin 128) :
    vTail x3 (ix4 0 0 d r) = x3 (ix4 0 0 d ⟨4096 + r.val, by omega⟩) := by
  pointwise [vTail]

/-- Query `x` of strip `s`. -/
theorem qStrip_apply (x1 : Vec Ideal S1x1x256x4096 .bf16) (s : Fin 8) (d : Fin 256) (x : Fin 512) :
    qStrip x1 s (ix4 0 0 d x) = x1 (ix4 0 0 d ⟨512 * s.val + x.val, by omega⟩) := by
  pointwise [qStrip]

end Cert.KernelIdeal.Attn

end
-- ==== Proof.Attn.Strip.lean ====
/- A strip of the output block is the attention of its queries: the bounded branch sums the weights `2 ^ s` and the
   weighted values over the chunks; the online branch holds the same two sums scaled by a positive factor. -/
module

public import proofs.«01_k».proof.Proof.Attn.Values

@[expose] public section

set_option maxRecDepth 16384

noncomputable section

namespace Cert.KernelIdeal.Attn

open Idealize.ShloMosaic Cert.KernelIdeal Cert.KernelIdeal.Gen Cert.Attn

/-- Query `x` of a block of queries. -/
def query (x1 : Vec Ideal S1x1x256x4096 .bf16) (x : Fin 4096) : Fin 256 → EReal := fun d => x1 (ix4 0 0 d x)

/-- The rows of a block of keys. -/
def keys (x2 : Vec Ideal S1x1x4224x256 .bf16) : Fin 4224 → Fin 256 → EReal := fun r d => x2 (ix4 0 0 r d)

/-- Column `d` of a block of values. -/
def values (x3 : Vec Ideal S1x1x128x4224 .bf16) (d : Fin 128) : Fin 4224 → EReal := fun r => x3 (ix4 0 0 d r)

/-- The score of row `r` for query `x`. -/
def dotAt (x1 : Vec Ideal S1x1x256x4096 .bf16) (x2 : Vec Ideal S1x1x4224x256 .bf16) (x : Fin 4096) (r : Fin 4224) : EReal :=
  ∑ d, keys x2 r d * query x1 x d

/-- Query `x` of strip `s`, as a query of the block. -/
abbrev inStrip (s : Fin 8) (x : Fin 512) : Fin 4096 := ⟨512 * s.val + x.val, by omega⟩

variable (x1 : Vec Ideal S1x1x256x4096 .bf16) (x2 : Vec Ideal S1x1x4224x256 .bf16) (x3 : Vec Ideal S1x1x128x4224 .bf16)

/-- A chunk's scores are its rows' scores. -/
theorem score_at (s : Fin 8) (i : Fin 4) (r : Fin 1024) (x : Fin 512) :
    score (kChunk x2 i) (qStrip x1 s) (ix2 r x) = dotAt x1 x2 (inStrip s x) ⟨1024 * i.val + r.val, by omega⟩ := by
  rw [score_apply]
  exact Finset.sum_congr rfl fun d _ => by rw [kChunk_apply, qStrip_apply]; rfl

/-- The last rows' scores: minus infinity where there is no key. -/
theorem scoreTail_at (s : Fin 8) (r : Fin 128) (x : Fin 512) :
    scoreTail (kTail x2) (qStrip x1 s) (ix2 r x)
      = if r.val < 112 then ⊥ else dotAt x1 x2 (inStrip s x) ⟨4096 + r.val, by omega⟩ := by
  rw [scoreTail_apply]
  refine if_congr Iff.rfl rfl (Finset.sum_congr rfl fun d _ => ?_)
  rw [kTail_apply, qStrip_apply]; rfl

section
variable {s : FVec Ideal S1024x512 .f32} {t : FVec Ideal S128x512 .f32} (v : Vec Ideal S1x1x128x1024 .bf16)
  (w : Vec Ideal S1x1x128x128 .bf16) (x : Fin 512) (d : Fin 128)

/-- One bounded step's weights' sum. -/
theorem boundedStep_sum (a : Sums Ideal) :
    (boundedStep a s v).1 (ix2 0 x) = a.1 (ix2 0 x) + ∑ r : Fin 1024, Ideal.exp2 (s (ix2 r x)) :=
  congrArg (a.1 (ix2 0 x) + ·) (weightSum_apply (exp2 s) x)

/-- One bounded step's weighted values. -/
theorem boundedStep_acc (a : Sums Ideal) :
    (boundedStep a s v).2 (ix2 d x) = a.2 (ix2 d x) + ∑ r : Fin 1024, v (ix4 0 0 d r) * Ideal.exp2 (s (ix2 r x)) :=
  congrArg (a.2 (ix2 d x) + ·) (weighted_apply v (exp2 s) d x)

/-- The bounded last step's weights' sum. -/
theorem boundedTail_sum (a : Sums Ideal) :
    (boundedTail a t w).1 (ix2 0 x) = a.1 (ix2 0 x) + ∑ r : Fin 128, Ideal.exp2 (t (ix2 r x)) :=
  congrArg (a.1 (ix2 0 x) + ·) (weightSumTail_apply (exp2 t) x)

/-- The bounded last step's weighted values. -/
theorem boundedTail_acc (a : Sums Ideal) :
    (boundedTail a t w).2 (ix2 d x) = a.2 (ix2 d x) + ∑ r : Fin 128, w (ix4 0 0 d r) * Ideal.exp2 (t (ix2 r x)) :=
  congrArg (a.2 (ix2 d x) + ·) (weightedTail_apply w (exp2 t) d x)

/-- One online step's weights' sum. -/
theorem onlineStep_sum (a : State Ideal) :
    (onlineStep a s v).2.1 (ix2 0 x) = Ideal.exp2 (a.1 (ix2 0 x) - newMax a.1 s (ix2 0 x)) * a.2.1 (ix2 0 x)
      + ∑ r : Fin 1024, Ideal.exp2 (s (ix2 r x) - newMax a.1 s (ix2 0 x)) := by
  refine congrArg₂ (· + ·) (congrArg (· * a.2.1 (ix2 0 x)) (shift_apply _ _ _)) ?_
  rw [weightSum_apply]
  exact Finset.sum_congr rfl fun r _ => shifted_apply _ _ _ _

/-- One online step's weighted values. -/
theorem onlineStep_acc (a : State Ideal) :
    (onlineStep a s v).2.2 (ix2 d x) = Ideal.exp2 (a.1 (ix2 0 x) - newMax a.1 s (ix2 0 x)) * a.2.2 (ix2 d x)
      + ∑ r : Fin 1024, v (ix4 0 0 d r) * Ideal.exp2 (s (ix2 r x) - newMax a.1 s (ix2 0 x)) := by
  refine congrArg₂ (· + ·) (congrArg (· * a.2.2 (ix2 d x)) ?_) ?_
  · rw [← shift_apply]; pointwise
  rw [weighted_apply]
  exact Finset.sum_congr rfl fun r _ => congrArg (v (ix4 0 0 d r) * ·) (shifted_apply _ _ _ _)

/-- The online last step's weights' sum. -/
theorem onlineTail_sum (a : State Ideal) :
    (onlineTail a t w).2.1 (ix2 0 x) = Ideal.exp2 (a.1 (ix2 0 x) - newMaxTail a.1 t (ix2 0 x)) * a.2.1 (ix2 0 x)
      + ∑ r : Fin 128, Ideal.exp2 (t (ix2 r x) - newMaxTail a.1 t (ix2 0 x)) := by
  refine congrArg₂ (· + ·) (congrArg (· * a.2.1 (ix2 0 x)) (shift_apply _ _ _)) ?_
  rw [weightSumTail_apply]
  exact Finset.sum_congr rfl fun r _ => shiftedTail_apply _ _ _ _

/-- The online last step's weighted values. -/
theorem onlineTail_acc (a : State Ideal) :
    (onlineTail a t w).2.2 (ix2 d x) = Ideal.exp2 (a.1 (ix2 0 x) - newMaxTail a.1 t (ix2 0 x)) * a.2.2 (ix2 d x)
      + ∑ r : Fin 128, w (ix4 0 0 d r) * Ideal.exp2 (t (ix2 r x) - newMaxTail a.1 t (ix2 0 x)) := by
  refine congrArg₂ (· + ·) (congrArg (· * a.2.2 (ix2 d x)) ?_) ?_
  · rw [← shift_apply]; pointwise
  rw [weightedTail_apply]
  exact Finset.sum_congr rfl fun r _ => congrArg (w (ix4 0 0 d r) * ·) (shiftedTail_apply _ _ _ _)

end

/-- Nothing has been summed before the first chunk. -/
theorem zeroSum_apply (x : Fin 512) : (zeroSum : FVec Ideal S1x512 .f32) (ix2 0 x) = 0 := by pointwise [zeroSum]

/-- No values have been weighted before the first chunk. -/
theorem zeroAcc_apply (d : Fin 128) (x : Fin 512) : (zeroAcc : FVec Ideal S128x512 .f32) (ix2 d x) = 0 := by pointwise [zeroAcc]

/-- The maximum starts at minus infinity. -/
theorem startMax_apply (x : Fin 512) : (startMax : FVec Ideal S1x512 .f32) (ix2 0 x) = ⊥ := by
  pointwise [startMax]
  exact negInf

/-- The bounded branch's weights' sum is the sum over the keys. -/
theorem bounded_sum (s : Fin 8) (x : Fin 512) :
    (boundedSums x1 x2 x3 s).1 (ix2 0 x) = ∑ j, Ideal.exp2 (dotAt x1 x2 (inStrip s x) (row j)) := by
  rw [← sum_chunks (fun r => Ideal.exp2 (dotAt x1 x2 (inStrip s x) r))
    (fun j => Ideal.exp2 (scoreTail (kTail x2) (qStrip x1 s) (ix2 j x)))
    (fun j hj => by rw [scoreTail_at, if_pos hj, Ideal.exp2_bot])
    (fun j hj => by rw [scoreTail_at, if_neg (by omega)])]
  unfold boundedSums
  simp only [boundedTail_sum, boundedStep_sum, zeroSum_apply, score_at]
  rfl

/-- The bounded branch's weighted values are the weighted sum over the keys. -/
theorem bounded_acc (s : Fin 8) (x : Fin 512) (d : Fin 128) :
    (boundedSums x1 x2 x3 s).2 (ix2 d x) = ∑ j, values x3 d (row j) * Ideal.exp2 (dotAt x1 x2 (inStrip s x) (row j)) := by
  rw [← sum_chunks (fun r => values x3 d r * Ideal.exp2 (dotAt x1 x2 (inStrip s x) r))
    (fun j => vTail x3 (ix4 0 0 d j) * Ideal.exp2 (scoreTail (kTail x2) (qStrip x1 s) (ix2 j x)))
    (fun j hj => by rw [scoreTail_at, if_pos hj, Ideal.exp2_bot, mul_zero])
    (fun j hj => by rw [scoreTail_at, if_neg (by omega), vTail_apply]; rfl)]
  unfold boundedSums
  simp only [boundedTail_acc, boundedStep_acc, zeroAcc_apply, score_at, vChunk_apply]
  rfl

/-- A strip of the bounded branch is the attention of its queries. -/
theorem boundedOut_apply (s : Fin 8) (x : Fin 512) (d : Fin 128) :
    boundedOut x1 x2 x3 s (ix3 0 x d) = att (query x1 (inStrip s x)) (keys x2) (values x3 d) := by
  unfold boundedOut
  rw [quotient_apply, bounded_sum, bounded_acc]
  rfl

variable (h1 : ∀ i, ∃ r : ℝ, x1 i = r) (h2 : ∀ i, ∃ r : ℝ, x2 i = r)
include h1 h2

/-- The scores of numbers are numbers. -/
theorem dotAt_real (x : Fin 4096) (r : Fin 4224) : ∃ t : ℝ, dotAt x1 x2 x r = t :=
  dot_real _ _ (fun _ => h2 _) (fun _ => h1 _)

/-- The maximum after a chunk is a number. -/
theorem newMax_real {s : Fin 8} {x : Fin 512} (i : Fin 4) (m : FVec Ideal S1x512 .f32) (hm : m (ix2 0 x) ≠ ⊤) :
    ∃ r : ℝ, newMax m (score (kChunk x2 i) (qStrip x1 s)) (ix2 0 x) = r := by
  rw [newMax_apply, max_comm]
  exact max_real (fold_max_real (by norm_num) _ fun r => by rw [score_at]; exact dotAt_real x1 x2 h1 h2 _ _) hm

/-- The sums after a chunk, scaled: one more online step. -/
theorem online_chunk {s : Fin 8} {x : Fin 512} {d : Fin 128} {a : State Ideal} {L A : EReal} (i : Fin 4)
    (h : Scaled (a.1 (ix2 0 x)) (a.2.1 (ix2 0 x)) (a.2.2 (ix2 d x)) L A) :
    Scaled ((onlineStep a (score (kChunk x2 i) (qStrip x1 s)) (vChunk x3 i)).1 (ix2 0 x))
      ((onlineStep a (score (kChunk x2 i) (qStrip x1 s)) (vChunk x3 i)).2.1 (ix2 0 x))
      ((onlineStep a (score (kChunk x2 i) (qStrip x1 s)) (vChunk x3 i)).2.2 (ix2 d x))
      (L + ∑ r : Fin 1024, Ideal.exp2 (dotAt x1 x2 (inStrip s x) ⟨1024 * i.val + r.val, by omega⟩))
      (A + ∑ r : Fin 1024, values x3 d ⟨1024 * i.val + r.val, by omega⟩
        * Ideal.exp2 (dotAt x1 x2 (inStrip s x) ⟨1024 * i.val + r.val, by omega⟩)) := by
  rw [onlineStep_sum, onlineStep_acc]
  have hs := dotAt_real x1 x2 h1 h2 (inStrip s x)
  have hm := newMax_real x1 x2 h1 h2 (s := s) (x := x) i a.1 h.ne_top
  have := h.step (n := 1024) (fun r => score (kChunk x2 i) (qStrip x1 s) (ix2 r x)) (fun r => vChunk x3 i (ix4 0 0 d r))
    (fun r => by rw [score_at]; obtain ⟨t, ht⟩ := hs ⟨1024 * i.val + r.val, by omega⟩; rw [ht]; exact EReal.coe_ne_top _) _ hm
  refine Eq.mp (congrArg₂ (Scaled _ _ _) (congrArg (L + ·) (Finset.sum_congr rfl fun r _ => ?_))
    (congrArg (A + ·) (Finset.sum_congr rfl fun r _ => ?_))) this
  · rw [score_at]
  · rw [score_at, vChunk_apply]; rfl

/-- The sums after the last rows, scaled: the last online step. -/
theorem online_last {s : Fin 8} {x : Fin 512} {d : Fin 128} {a : State Ideal} {L A : EReal}
    (h : Scaled (a.1 (ix2 0 x)) (a.2.1 (ix2 0 x)) (a.2.2 (ix2 d x)) L A) (hm : ∃ r : ℝ, a.1 (ix2 0 x) = r) :
    Scaled (newMaxTail a.1 (scoreTail (kTail x2) (qStrip x1 s)) (ix2 0 x))
      ((onlineTail a (scoreTail (kTail x2) (qStrip x1 s)) (vTail x3)).2.1 (ix2 0 x))
      ((onlineTail a (scoreTail (kTail x2) (qStrip x1 s)) (vTail x3)).2.2 (ix2 d x))
      (L + ∑ r : Fin 128, Ideal.exp2 (scoreTail (kTail x2) (qStrip x1 s) (ix2 r x)))
      (A + ∑ r : Fin 128, vTail x3 (ix4 0 0 d r) * Ideal.exp2 (scoreTail (kTail x2) (qStrip x1 s) (ix2 r x))) := by
  rw [onlineTail_sum, onlineTail_acc]
  have hf : ∀ r : Fin 128, scoreTail (kTail x2) (qStrip x1 s) (ix2 r x) ≠ ⊤ := fun r => by
    rw [scoreTail_at]
    by_cases hr : r.val < 112
    · rw [if_pos hr]; exact bot_ne_top
    · rw [if_neg hr]
      obtain ⟨t, ht⟩ := dotAt_real x1 x2 h1 h2 (inStrip s x) ⟨4096 + r.val, by omega⟩
      rw [ht]; exact EReal.coe_ne_top _
  refine h.step (n := 128) (fun r => scoreTail (kTail x2) (qStrip x1 s) (ix2 r x)) (fun r => vTail x3 (ix4 0 0 d r)) hf _ ?_
  rw [newMaxTail_apply]
  exact max_real hm (fold_max_ne_top _ _ hf)

/-- A strip of the online branch is the attention of its queries. -/
theorem onlineOut_apply (s : Fin 8) (x : Fin 512) (d : Fin 128) :
    onlineOut x1 x2 x3 s (ix3 0 x d) = att (query x1 (inStrip s x)) (keys x2) (values x3 d) := by
  have h0 : Scaled ((startMax : FVec Ideal S1x512 .f32) (ix2 0 x)) ((zeroSum : FVec Ideal S1x512 .f32) (ix2 0 x))
      ((zeroAcc : FVec Ideal S128x512 .f32) (ix2 d x)) 0 0 :=
    .inl ⟨startMax_apply x, zeroSum_apply x, zeroAcc_apply d x, rfl, rfl⟩
  have step := fun (i : Fin 4) (a : State Ideal) (L A : EReal) =>
    online_chunk x1 x2 x3 h1 h2 (s := s) (x := x) (d := d) (a := a) (L := L) (A := A) i
  have c1 := step 0 (startMax, zeroSum, zeroAcc) _ _ h0
  have c2 := step 1 _ _ _ c1
  have c3 := step 2 _ _ _ c2
  have c4 := step 3 _ _ _ c3
  have c5 := online_last x1 x2 x3 h1 h2 (s := s) c4 (newMax_real x1 x2 h1 h2 3 _ c3.ne_top)
  have hL := sum_chunks (fun r => Ideal.exp2 (dotAt x1 x2 (inStrip s x) r))
    (fun j => Ideal.exp2 (scoreTail (kTail x2) (qStrip x1 s) (ix2 j x)))
    (fun j hj => by rw [scoreTail_at, if_pos hj, Ideal.exp2_bot])
    (fun j hj => by rw [scoreTail_at, if_neg (by omega)])
  have hA := sum_chunks (fun r => values x3 d r * Ideal.exp2 (dotAt x1 x2 (inStrip s x) r))
    (fun j => vTail x3 (ix4 0 0 d j) * Ideal.exp2 (scoreTail (kTail x2) (qStrip x1 s) (ix2 j x)))
    (fun j hj => by rw [scoreTail_at, if_pos hj, Ideal.exp2_bot, mul_zero])
    (fun j hj => by rw [scoreTail_at, if_neg (by omega), vTail_apply]; rfl)
  obtain ⟨t, ht, hsum⟩ := sum_weights (by norm_num) _ fun j : Fin 4112 => dotAt_real x1 x2 h1 h2 (inStrip s x) (row j)
  unfold onlineOut
  rw [quotient_apply]
  exact (c5.quotient t ht (hL.trans hsum)).trans (congrArg₂ Ideal.div hA hL)

end Cert.KernelIdeal.Attn

end
-- ==== Proof.Attn.Target.lean ====
/- The whole attention as one function of the arrays of queries, keys and values: entry (batch, query, 128 * head +
   column) is the attention of that query over that head's keys and that column of its values. -/
module

public import proofs.«01_k».proof.Proof.Attn.Softmax
public import Idealize.ShloMosaic.Lib.Pointwise

@[expose] public section

noncomputable section

namespace Cert.Attn

open Idealize.ShloMosaic

/-- Every entry of the array is a number. -/
def AllReal {S : Shape} (f : S.Idx → EReal) : Prop := ∀ i, ∃ r : ℝ, f i = r

/-- The attention at a batch entry, a head, a query and a column. -/
def attAt (q : (⟨4, ![12, 16, 256, 4224]⟩ : Shape).Idx → EReal) (k : (⟨4, ![12, 16, 4224, 256]⟩ : Shape).Idx → EReal)
    (v : (⟨4, ![12, 16, 128, 4224]⟩ : Shape).Idx → EReal) (b : Fin 12) (h : Fin 16) (x : Fin 4096) (d : Fin 128) : EReal :=
  att (fun e => q (ix4 b h e ⟨x.val, by omega⟩)) (fun r e => k (ix4 b h r e)) (fun r => v (ix4 b h d r))

/-- The attention's result array. -/
def attArr (q : (⟨4, ![12, 16, 256, 4224]⟩ : Shape).Idx → EReal) (k : (⟨4, ![12, 16, 4224, 256]⟩ : Shape).Idx → EReal)
    (v : (⟨4, ![12, 16, 128, 4224]⟩ : Shape).Idx → EReal) (i : (⟨3, ![12, 4096, 2048]⟩ : Shape).Idx) : EReal :=
  attAt q k v (i 0) ⟨(i 2).val / 128, by have : (i 2).val < 2048 := (i 2).isLt; omega⟩ (i 1)
    ⟨(i 2).val % 128, Nat.mod_lt _ (by norm_num)⟩

end Cert.Attn

end
-- ==== Proof.Attn.Result.lean ====
/- The attention's result array after the launch: every grid point leaves its block of the attention, so the array
   holds the attention of the argument arrays. -/
module

public import proofs.«01_k».proof.Proof.Attn.Strip
public import proofs.«01_k».proof.Proof.Attn.Target
public import proofs.«01_k».proof.Proof.Attn.Frame
public import Idealize.ShloMosaic.Lib.Pipeline.ValueKit
public import Idealize.ShloMosaic.Lib.Pipeline.Covers

@[expose] public section

set_option maxRecDepth 16384

noncomputable section

namespace Cert.KernelIdeal.Attn

open Idealize.ShloMosaic Idealize.ShloMosaic.TcCoe Idealize.SL.Sem Cert.KernelIdeal Cert.KernelIdeal.Gen Cert.Attn
open Idealize.ShloMosaic.Pipeline (Dat)

/-- A strip lies in the block. -/
theorem strip_inb (s : Fin 8) : ∀ a : Fin S1x4096x128.rank, ![0, 512 * s.val, 0] a + S1x512x128.size a ≤ S1x4096x128.size a := by
  intro a
  match a with
  | ⟨0, _⟩ => show 0 + 1 ≤ 1; omega
  | ⟨1, _⟩ => show 512 * s.val + 512 ≤ 4096; omega
  | ⟨2, _⟩ => show 0 + 128 ≤ 128; omega

/-- The strips' stores, read at query `512 * s + x`, column `d`: strip `s` at (0, x, d). -/
theorem canon_strips (out : Fin 8 → FVec Ideal S1x512x128 .bf16) (s : Fin 8) (x : Fin 512) (d : Fin 128) :
    View.canon (strips out) (ix3 0 (inStrip s x) d) = out s (ix3 0 x d) := by
  refine View.canon_eq_of_allAt _ _ _ (strips_cover out _) fun p hp z hz => ?_
  obtain ⟨s', rfl⟩ : ∃ s', p = strip out s' := by
    simp only [strips, List.mem_cons, List.not_mem_nil, or_false] at hp
    rcases hp with h | h | h | h | h | h | h | h <;> exact ⟨_, h⟩
  have h1 : 512 * s'.val + (z 1).val = 512 * s.val + x.val := by
    have := congrArg (fun i : S1x4096x128.Idx => (i 1 : ℕ)) hz
    rw [show (((strip out s').1.emb z) 1 : ℕ) = 512 * s'.val + (z 1).val from ValueKit.rect_emb_unit_val _ _ (strip_inb s') _ _] at this
    exact this
  have h2 : (z 2).val = d.val := by
    have := congrArg (fun i : S1x4096x128.Idx => (i 2 : ℕ)) hz
    rw [show (((strip out s').1.emb z) 2 : ℕ) = 0 + (z 2).val from ValueKit.rect_emb_unit_val _ _ (strip_inb s') _ _, Nat.zero_add] at this
    exact this
  have hz1 : (z 1).val < 512 := (z 1).isLt
  have hs : s' = s := Fin.ext (by omega)
  subst hs
  refine congrArg (out s') (funext fun a => ?_)
  match a with
  | ⟨0, _⟩ => exact Subsingleton.elim (α := Fin 1) _ _
  | ⟨1, _⟩ => exact Fin.ext (by show (z 1).val = x.val; omega)
  | ⟨2, _⟩ => exact Fin.ext (by show (z 2).val = d.val; omega)

/-- The output block in either branch: the attention of its blocks. -/
theorem blockOut_apply (x0 : Vec Ideal S1 .i32) (x1 : Vec Ideal S1x1x256x4096 .bf16) (x2 : Vec Ideal S1x1x4224x256 .bf16)
    (x3 : Vec Ideal S1x1x128x4224 .bf16) (h1 : ∀ i, ∃ r : ℝ, x1 i = r) (h2 : ∀ i, ∃ r : ℝ, x2 i = r) (x : Fin 4096) (d : Fin 128) :
    blockOut x0 x1 x2 x3 (ix3 0 x d) = att (query x1 x) (keys x2) (values x3 d) := by
  obtain ⟨s, x', rfl⟩ : ∃ (s : Fin 8) (x' : Fin 512), x = inStrip s x' :=
    ⟨⟨x.val / 512, by omega⟩, ⟨x.val % 512, by omega⟩, Fin.ext (by show x.val = 512 * (x.val / 512) + x.val % 512; omega)⟩
  unfold blockOut
  split
  · rw [canon_strips, boundedOut_apply]
  · rw [canon_strips, onlineOut_apply x1 x2 x3 h1 h2]

variable (m : (ℓ : Loc nD τ sig) → Buf (Elt Ideal) ℓ)

/-- Where each window's block sits, at every grid point. -/
theorem idx : ∀ t : Fin cfg0.N, win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, 0, (grid0.coords t 1).val] :=
  (by decide +kernel : ∀ t : Fin grid0.N, _)

/-- Where an output block's entry lies in the result array. -/
theorem result_point (c : Dev nD) (t : Fin cfg0.N) (x : Fin 4096) (d : Fin 128)
    (h1 : AllReal (S := S12x16x256x4224) (m ((c : Thread nD τ).loc main_arg1)))
    (h2 : AllReal (S := S12x16x4224x256) (m ((c : Thread nD τ).loc main_arg2))) :
    blockOut (iblk m c 0 t) (X0_1 m c t) (iblk m c 2 t) (iblk m c 3 t) (ix3 0 x d)
      = attArr (m ((c : Thread nD τ).loc main_arg1)) (m ((c : Thread nD τ).loc main_arg2)) (m ((c : Thread nD τ).loc main_arg3))
          (((cfg0.win 4).blk t).view.emb (ix3 0 x d)) := by
  rw [blockOut_apply]
  · unfold attArr attAt
    refine congr (congr (congrArg att ?_) ?_) ?_
    · funext e
      unfold query X0_1 Pipeline.Window.fill
      rw [dif_pos (moved0_1 t _)]
      blk_ext [iblk, V, idx t]
    · funext r e
      unfold keys
      blk_ext [iblk, V, idx t]
    · funext r
      unfold values
      blk_ext [iblk, V, idx t]
  · intro i
    unfold X0_1 Pipeline.Window.fill
    rw [dif_pos (moved0_1 t _)]
    exact h1 _
  · intro i
    exact h2 _

/-- The result array after the launch. -/
theorem result (c : Dev nD)
    (h1 : AllReal (S := S12x16x256x4224) (m ((c : Thread nD τ).loc main_arg1)))
    (h2 : AllReal (S := S12x16x4224x256) (m ((c : Thread nD τ).loc main_arg2))) :
    (dats m 0 c).arrAt 4 (cfgs 0).N
      = attArr (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨x, d, rfl⟩ : ∃ (x : Fin 4096) (d : Fin 128), y = ix3 0 x d := by
    refine ⟨y 1, y 2, funext fun a => ?_⟩
    match a with
    | ⟨0, _⟩ => exact Subsingleton.elim (α := Fin 1) _ _
    | ⟨1, _⟩ => rfl
    | ⟨2, _⟩ => rfl
  exact result_point m c t x d h1 h2

end Cert.KernelIdeal.Attn

end
-- ==== Proof.Attn.ReferenceValue.lean ====
/- The reference's result, entry by entry: softmax attention by natural exponentials of the scores times log 2 is the
   attention of `Target.lean`, when queries and keys are numbers. -/
module

public import proofs.«01_k».proof.Proof.Attn.Target
public import proofs.«01_k».proof.Proof.Gen.ReferenceIdeal.Read
public import Idealize.ShloMosaic.Lib.Pipeline.ValueKit
public import Idealize.ShloMosaic.Lib.Pipeline.Value
public import Idealize.ShloMosaic.Lib.Tactic.CleanTypes

@[expose] public section

set_option maxRecDepth 16384

noncomputable section

namespace Cert.ReferenceIdeal.Attn

open Idealize.ShloMosaic Idealize.ShloMosaic.TcCoe Idealize.SL.Sem Cert.ReferenceIdeal Cert.ReferenceIdeal.Read Cert.Attn

/-- The row of a meta token. -/
theorem row_of_lt (j : Fin 4112) (hj : j.val < 16) : row j = ⟨4208 + j.val, by omega⟩ := dif_pos hj

/-- The row of a sequence token. -/
theorem row_of_not_lt (j : Fin 4112) (hj : ¬ j.val < 16) : row j = ⟨j.val - 16, by omega⟩ := dif_neg hj

variable (q : (⟨S12x16x256x4224, .bf16⟩ : BufTy).Contents (Elt Ideal)) (k : (⟨S12x16x4224x256, .bf16⟩ : BufTy).Contents (Elt Ideal))
  (v : (⟨S12x16x128x4224, .bf16⟩ : BufTy).Contents (Elt Ideal))

/-- The keys, meta rows moved to the front, at a row. -/
theorem keys_apply (b : Fin 12) (h : Fin 16) (j : Fin 4112) (d : Fin 256) :
    val_main_v6 (F := Ideal) k (ix4 b h j d) = k (ix4 b h (row j) d) := by
  unfold val_main_v6
  by_cases hj : j.val < 16
  · rw [concatenate_pair_apply_left (s₁ := S12x16x16x256) (s₂ := S12x16x4096x256) (t := S12x16x4112x256) 2 _ _ _ _ rfl
      (ix4 b h ⟨j.val, hj⟩ d) (fun a => by match a with | ⟨0, _⟩ => rfl | ⟨1, _⟩ => rfl | ⟨2, _⟩ => rfl | ⟨3, _⟩ => rfl),
      val_main_v4_apply, val_main_v2_apply]
    refine congrArg k (funext fun a => ?_)
    match a with
    | ⟨0, _⟩ => rfl
    | ⟨1, _⟩ => rfl
    | ⟨2, _⟩ => exact Fin.ext (by rw [row_of_lt j hj]; rfl)
    | ⟨3, _⟩ => rfl
  · rw [concatenate_pair_apply_right (s₁ := S12x16x16x256) (s₂ := S12x16x4096x256) (t := S12x16x4112x256) 2 _ _ _ (ix4 b h j d) rfl rfl
      (ix4 b h ⟨j.val - 16, by omega⟩ d)
      (fun a ha => by
        match a, ha with
        | ⟨0, _⟩, _ => rfl
        | ⟨1, _⟩, _ => rfl
        | ⟨2, _⟩, ha => exact absurd rfl ha
        | ⟨3, _⟩, _ => rfl) (show j.val - 16 + 16 = j.val by omega),
      val_main_v5_apply, val_main_v2_apply]
    refine congrArg k (funext fun a => ?_)
    match a with
    | ⟨0, _⟩ => rfl
    | ⟨1, _⟩ => rfl
    | ⟨2, _⟩ => exact Fin.ext (by rw [row_of_not_lt j hj]; rfl)
    | ⟨3, _⟩ => rfl

/-- The values, meta columns moved to the front, at a column. -/
theorem values_apply (b : Fin 12) (h : Fin 16) (d : Fin 128) (j : Fin 4112) :
    val_main_v9 (F := Ideal) v (ix4 b h d j) = v (ix4 b h d (row j)) := by
  unfold val_main_v9
  by_cases hj : j.val < 16
  · rw [concatenate_pair_apply_left (s₁ := S12x16x128x16) (s₂ := S12x16x128x4096) (t := S12x16x128x4112) 3 _ _ _ _ rfl
      (ix4 b h d ⟨j.val, hj⟩) (fun a => by match a with | ⟨0, _⟩ => rfl | ⟨1, _⟩ => rfl | ⟨2, _⟩ => rfl | ⟨3, _⟩ => rfl),
      val_main_v7_apply, val_main_v3_apply]
    refine congrArg v (funext fun a => ?_)
    match a with
    | ⟨0, _⟩ => rfl
    | ⟨1, _⟩ => rfl
    | ⟨2, _⟩ => rfl
    | ⟨3, _⟩ => exact Fin.ext (by rw [row_of_lt j hj]; rfl)
  · rw [concatenate_pair_apply_right (s₁ := S12x16x128x16) (s₂ := S12x16x128x4096) (t := S12x16x128x4112) 3 _ _ _ (ix4 b h d j) rfl rfl
      (ix4 b h d ⟨j.val - 16, by omega⟩)
      (fun a ha => by
        match a, ha with
        | ⟨0, _⟩, _ => rfl
        | ⟨1, _⟩, _ => rfl
        | ⟨2, _⟩, _ => rfl
        | ⟨3, _⟩, ha => exact absurd rfl ha) (show j.val - 16 + 16 = j.val by omega),
      val_main_v8_apply, val_main_v3_apply]
    refine congrArg v (funext fun a => ?_)
    match a with
    | ⟨0, _⟩ => rfl
    | ⟨1, _⟩ => rfl
    | ⟨2, _⟩ => rfl
    | ⟨3, _⟩ => exact Fin.ext (by rw [row_of_not_lt j hj]; rfl)

/-- The score of a query against a row, before the factor log 2. -/
def score (b : Fin 12) (h : Fin 16) (x : Fin 4096) (j : Fin 4112) : EReal :=
  ∑ e : Fin 256, k (ix4 b h (row j) e) * q (ix4 b h e ⟨x.val, by omega⟩)

/-- The scaled score. -/
theorem scaled_apply (b : Fin 12) (h : Fin 16) (x : Fin 4096) (j : Fin 4112) :
    val_main_v13 (F := Ideal) q k (ix4 b h x j) = score q k b h x j * (Real.log 2 : ℝ) := by
  rw [val_main_v13_apply, val_main_v10_apply, val_main_v12_apply, val_main_v11_apply, val_main_cst_apply]
  rw [show (FloatOps.hostUnary HostUnaryOp.log (FloatOps.ofBits (F := Ideal) FTy.f32 1073741824#32) : EReal) = (Real.log 2 : ℝ) from by
    rw [show (FloatOps.ofBits (F := Ideal) FTy.f32 1073741824#32 : EReal) = (2 : ℝ) from by
      show Ideal.ofBits _ _ = _
      simp [Ideal.ofBits, Ideal.ieee, -EReal.coe_mul]; norm_num]
    show Ideal.log ((2 : ℝ) : EReal) = _
    rw [Ideal.log_coe, if_neg (by norm_num)]]
  refine congrArg (· * ((Real.log 2 : ℝ) : EReal)) (Finset.sum_congr rfl fun e _ => ?_)
  rw [val_main_v1_apply, val_main_v0_apply, show ridx_main_v10 (ix4 b h x j) e = ix4 b h j e from by
    funext a; match a with | ⟨0, _⟩ => rfl | ⟨1, _⟩ => rfl | ⟨2, _⟩ => rfl | ⟨3, _⟩ => rfl, keys_apply]
  rw [mul_comm]
  refine congrArg (k (ix4 b h (row j) e) * ·) (congrArg q (funext fun a => ?_))
  match a with | ⟨0, _⟩ => rfl | ⟨1, _⟩ => rfl | ⟨2, _⟩ => rfl | ⟨3, _⟩ => rfl

/-- The bits of the least float. -/
theorem negInf_bits : Ideal.ofBits .f32 0xFF800000#32 = ⊥ := by simp [Ideal.ofBits, Ideal.ieee]

/-- The largest scaled score of a query. -/
theorem largest_apply (b : Fin 12) (h : Fin 16) (x : Fin 4096) :
    val_main_v16 (F := Ideal) q k (ix3 b h x)
      = Finset.univ.fold max ⊥ fun j : Fin 4112 => score q k b h x j * (Real.log 2 : ℝ) := by
  rw [val_main_v16_apply, val_main_v15_apply, val_main_cst_1_apply]
  unfold val_main_v14 val_main_cst_0
  have hy := scaled_apply q k b h x
  generalize val_main_v13 (F := Ideal) q k = y at hy ⊢
  clean_types
  pointwise
  simp only [hy, negInf_bits]
  exact max_eq_right bot_le

variable (hq : AllReal (S := S12x16x256x4224) q) (hk : AllReal (S := S12x16x4224x256) k)

include hq hk in
/-- Every score is a number. -/
theorem score_real (b : Fin 12) (h : Fin 16) (x : Fin 4096) (j : Fin 4112) : ∃ r : ℝ, score q k b h x j = r :=
  dot_real _ _ (fun _ => hk _) fun _ => hq _

/-- The weight of a row: the natural exponential of its scaled score less the largest. -/
theorem weight_apply (b : Fin 12) (h : Fin 16) (x : Fin 4096) (j : Fin 4112) :
    val_main_v20 (F := Ideal) q k (ix4 b h x j)
      = Ideal.exp (score q k b h x j * (Real.log 2 : ℝ) - val_main_v16 (F := Ideal) q k (ix3 b h x)) := by
  rw [val_main_v20_apply, val_main_v19_apply, val_main_v18_apply, val_main_v17_apply, scaled_apply,
    show idx_main_v17 (idx_main_v18 (ix4 b h x j)) = ix3 b h x from by
      funext a; match a with | ⟨0, _⟩ => rfl | ⟨1, _⟩ => rfl | ⟨2, _⟩ => rfl]
  rfl

/-- The normalised weight of a row. -/
theorem share_apply (b : Fin 12) (h : Fin 16) (x : Fin 4096) (j : Fin 4112) :
    val_main_v24 (F := Ideal) q k (ix4 b h x j)
      = Ideal.div (val_main_v20 (F := Ideal) q k (ix4 b h x j)) (0 + ∑ i : Fin 4112, val_main_v20 (F := Ideal) q k (ix4 b h x i)) := by
  rw [val_main_v24_apply, val_main_v23_apply, val_main_v22_apply, val_main_v21_apply, val_main_cst_2_apply]
  refine congrArg (Ideal.div _) (congr (congrArg _ ?_) (Finset.sum_congr rfl fun i _ => congrArg _ ?_))
  · show Ideal.ofBits .f32 0x00000000#32 = 0
    simp [Ideal.ofBits, Ideal.ieee]
  · funext a; match a with | ⟨0, _⟩ => rfl | ⟨1, _⟩ => rfl | ⟨2, _⟩ => rfl | ⟨3, _⟩ => rfl

include hq hk in
/-- A head's result before it is laid out: the attention. -/
theorem head_apply (b : Fin 12) (h : Fin 16) (d : Fin 128) (x : Fin 4096) :
    val_main_v25 (F := Ideal) q k v (ix4 b h d x) = attAt q k v b h x d := by
  obtain ⟨M, hM⟩ : ∃ M : ℝ, val_main_v16 (F := Ideal) q k (ix3 b h x) = M := by
    rw [largest_apply]
    exact fold_max_real (by norm_num) _ fun j => by
      obtain ⟨r, hr⟩ := score_real q k hq hk b h x j
      exact ⟨r * Real.log 2, by rw [hr, EReal.coe_mul]⟩
  rw [val_main_v25_apply]
  refine Eq.trans ?_ (softmax_eq (by norm_num) (score q k b h x) (fun j => v (ix4 b h d (row j))) (score_real q k hq hk b h x) M)
  refine Finset.sum_congr rfl fun j _ => ?_
  rw [show lidx_main_v25 (ix4 b h d x) j = ix4 b h d j from by
      funext a; match a with | ⟨0, _⟩ => rfl | ⟨1, _⟩ => rfl | ⟨2, _⟩ => rfl | ⟨3, _⟩ => rfl,
    show ridx_main_v25 (ix4 b h d x) j = ix4 b h x j from by
      funext a; match a with | ⟨0, _⟩ => rfl | ⟨1, _⟩ => rfl | ⟨2, _⟩ => rfl | ⟨3, _⟩ => rfl,
    values_apply, share_apply]
  simp only [weight_apply, hM]

include hq hk in
/-- The reference's result is the attention of its arguments. -/
theorem result : val_main_v28 (F := Ideal) q k v = attArr q k v := by
  funext i
  rw [val_main_v28_apply, val_main_v27_apply, val_main_v26_apply]
  unfold attArr
  refine Eq.trans ?_ (head_apply q k v hq hk _ _ _ _)
  show val_main_v25 (F := Ideal) q k v _ = _
  refine congrArg _ (funext fun a => Fin.ext ?_)
  have h0 : (i 0).val < 12 := (i 0).isLt
  have h1 : (i 1).val < 4096 := (i 1).isLt
  have h2 : (i 2).val < 2048 := (i 2).isLt
  match a with
  | ⟨0, _⟩ => show (((i 0).val * 4096 + (i 1).val) * 2048 + (i 2).val) / 8388608 = (i 0).val; omega
  | ⟨1, _⟩ => show (((i 0).val * 4096 + (i 1).val) * 2048 + (i 2).val) / 128 % 16 = (i 2).val / 128; omega
  | ⟨2, _⟩ => show (((i 0).val * 4096 + (i 1).val) * 2048 + (i 2).val) % 128 = (i 2).val % 128; omega
  | ⟨3, _⟩ => show (((i 0).val * 4096 + (i 1).val) * 2048 + (i 2).val) / 2048 % 4096 = (i 1).val; omega

end Cert.ReferenceIdeal.Attn

end
-- ==== Proof.Attn.Claim.lean ====
/- The value claim of the attention: what the precondition says of queries and keys, and both programs' runs from equal
   arguments ending with the same result array. -/
module

public import proofs.«01_k».proof.Defs
public import proofs.«01_k».proof.Proof.Attn.Result
public import proofs.«01_k».proof.Proof.Attn.ReferenceValue
public import proofs.«01_k».proof.Proof.Gen.ReferenceIdeal.Run

@[expose] public section

set_option maxRecDepth 16384

noncomputable section

namespace Cert.Attn

open Idealize.ShloMosaic Idealize.ShloMosaic.TcCoe Idealize.SL.Sem

/-- An array whose entries compare below the greatest and above the least float holds numbers. -/
theorem allReal_of_compare {S : Shape} (f hi lo : FVec Ideal S .bf16) (hhi : ∀ i, hi i = Ideal.ofBits .bf16 0x7F80#16)
    (hlo : ∀ i, lo i = Ideal.ofBits .bf16 0xFF80#16) (h1 : cmpf .olt f hi = fun _ => 1#1) (h2 : cmpf .ogt f lo = fun _ => 1#1) :
    AllReal (S := S) f := by
  have hT : Ideal.ofBits .bf16 0x7F80#16 = ⊤ := by simp [Ideal.ofBits, Ideal.ieee]
  have hB : Ideal.ofBits .bf16 0xFF80#16 = ⊥ := by simp [Ideal.ofBits, Ideal.ieee]
  intro i
  have e1 : FloatOps.cmpf .olt (f i) (hi i) = 1#1 := congrFun h1 i
  have e2 : FloatOps.cmpf .ogt (f i) (lo i) = 1#1 := congrFun h2 i
  rw [hhi, hT, Ideal.cmpf_def] at e1
  rw [hlo, hB, Ideal.cmpf_def] at e2
  refine exists_coe (fun h => ?_) fun h => ?_
  · rw [h] at e1; simp [Ideal.cmp] at e1
  · rw [h] at e2; simp [Ideal.cmp] at e2

/-- The function's two broadcasts are legal. -/
theorem preFacts : Cert.Pre_finite_scores.Facts := ⟨by decide, by decide⟩

/-- The precondition makes every query and key entry a number. -/
theorem real_of_pre (m : (ℓ : Loc Cert.KernelIdeal.nD Cert.KernelIdeal.τ Cert.KernelIdeal.sig) → Buf (Elt Ideal) ℓ)
    (h : Cert.Pre_KernelIdeal_finite_scores (hPre_finite_scores := preFacts) m) (c : Dev Cert.KernelIdeal.nD) :
    AllReal (S := ⟨4, ![12, 16, 256, 4224]⟩) (m ((c.tc : Thread Cert.KernelIdeal.nD Cert.KernelIdeal.τ).loc Cert.KernelIdeal.main_arg1))
    ∧ AllReal (S := ⟨4, ![12, 16, 4224, 256]⟩) (m ((c.tc : Thread Cert.KernelIdeal.nD Cert.KernelIdeal.τ).loc Cert.KernelIdeal.main_arg2)) := by
  obtain ⟨a, b, d, e⟩ := h c
  exact ⟨allReal_of_compare _ _ _ (fun _ => rfl) (fun _ => rfl) a b, allReal_of_compare _ _ _ (fun _ => rfl) (fun _ => rfl) d e⟩

/-- The kernel's run ends with the attention of its arguments as the result, the arguments unchanged. -/
theorem kernel_run (m : (ℓ : Loc Cert.KernelIdeal.nD Cert.KernelIdeal.τ Cert.KernelIdeal.sig) → Buf (Elt Ideal) ℓ)
    (g : Dev Cert.KernelIdeal.nD → PrngReg)
    (hm : ∀ c : Dev Cert.KernelIdeal.nD,
      AllReal (S := ⟨4, ![12, 16, 256, 4224]⟩) (m ((c.tc : Thread Cert.KernelIdeal.nD Cert.KernelIdeal.τ).loc Cert.KernelIdeal.main_arg1))
      ∧ AllReal (S := ⟨4, ![12, 16, 4224, 256]⟩) (m ((c.tc : Thread Cert.KernelIdeal.nD Cert.KernelIdeal.τ).loc Cert.KernelIdeal.main_arg2))) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0)
          = attArr (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))) :=
  (θ_run _ _ _).mono (fun r h c => ((h c).1 4).trans (Cert.KernelIdeal.Attn.result m c (hm c).1 (hm c).2))
    (Cert.KernelIdeal.Attn.run_main m g)

end Cert.Attn

end
-- ==== Proof.Out.Target.lean ====
/- What the gated output projection computes, entry by entry over the extended reals. -/
module

public import proofs.«01_k».proof.Proof.Gen.Kernel2Ideal.Frame
public import Idealize.ShloMosaic.Lib.Pointwise

@[expose] public section

noncomputable section

namespace Cert.Out

open Idealize.ShloMosaic

/-- A row over the root of its mean square (the count `n` and the small term as their words spell them). -/
def normed (n : BitVec 32) {K : ℕ} (x : Fin K → EReal) (k : Fin K) : EReal :=
  x k * Ideal.rsqrt (Ideal.div (∑ j, x j * x j) (Ideal.ofBits .f32 n) + Ideal.ofBits .f32 0x358637BD#32)

/-- A gate's logit: the normalised row, weighted by `ln`, against one column. -/
def logitAt (h ln col : Fin 1024 → EReal) : EReal := ∑ k, normed 0x44800000#32 h k * ln k * col k

/-- Lane `c` of the heads' row. -/
def lane (o : Fin 2048 → EReal) (c : Fin 2048) : Fin 256 → EReal := fun d => o ⟨256 * (c.val / 256) + d.val, by omega⟩

/-- A gated entry: the head's normalised lane, weighted by `g`, times the logit times its logistic. -/
def gatedAt (o : Fin 2048 → EReal) (g : Fin 256 → EReal) (z : Fin 2048 → EReal) (c : Fin 2048) : EReal :=
  normed 0x43800000#32 (lane o c) ⟨c.val % 256, by omega⟩ * g ⟨c.val % 256, by omega⟩ * (z c * Ideal.logistic (z c))

/-- An entry of the result: the residual entry plus the gated row against one column of the projection. -/
def outAt (r : EReal) (o : Fin 2048 → EReal) (g : Fin 256 → EReal) (z : Fin 2048 → EReal) (col : Fin 2048 → EReal) : EReal :=
  r + ∑ c, gatedAt o g z c * col c

/-- The result array from the argument arrays. -/
def outArr (of ob : Vec Ideal Cert.Kernel2Ideal.S50688x2048 .bf16) (h : Vec Ideal Cert.Kernel2Ideal.S50688x1024 .f32)
    (ln : Vec Ideal Cert.Kernel2Ideal.S1x1024 .f32) (wz : Vec Ideal Cert.Kernel2Ideal.S1024x2048 .bf16)
    (g : Vec Ideal Cert.Kernel2Ideal.S1x256 .f32) (w : Vec Ideal Cert.Kernel2Ideal.S2048x1024 .bf16) :
    Vec Ideal Cert.Kernel2Ideal.S50688x1024 .f32 := fun i =>
  outAt (h (ix2 (i 0) (i 1))) (fun c => of (ix2 (i 0) c) + ob (ix2 (i 0) c)) (fun d => g (ix2 0 d))
    (fun c => logitAt (fun k => h (ix2 (i 0) k)) (fun k => ln (ix2 0 k)) (fun k => wz (ix2 k c)))
    (fun c => w (ix2 c (i 1)))

end Cert.Out

end
-- ==== Proof.Out.Strip.lean ====
/- A strip of 256 rows of the output block, as one function of the rows and the weights, read at an entry. -/
module

public import proofs.«01_k».proof.Proof.Out.Target
public import Idealize.ShloMosaic.Lib.Pipeline.Value

@[expose] public section

set_option maxRecDepth 16384

noncomputable section

namespace Cert.Kernel2Ideal.Out

open Idealize.ShloMosaic Cert.Kernel2Ideal Cert.Kernel2Ideal.Gen Cert.Out

section
variable {F : FTy → Type} [FloatOps F]

/-- The gate's logits of a strip. -/
def logits (x : Vec F S256x1024 .f32) (ln : Vec F S1x1024 .f32) (wz : Vec F S1024x2048 .bf16) : FVec F S256x2048 .f32 :=
  matmul dot_S256x1024_S1024x2048_S256x2048_1_0_0_1_n_n none
    (truncf .bf16
      (mulf
        (mulf x
          (broadcastTo S256x1024
            (rsqrt
              (addf
                (divf (shapeCast S256x1 (multiReduction .add [1] S256 (mulf x x) 0x00000000#32 reduces_S256x1024_S256 (.inl rfl) rfl) shapeCasts_S256_S256x1)
                  (broadcast S256x1 (Scalar.ofBits .f32 0x44800000#32)))
                (broadcast S256x1 (Scalar.ofBits .f32 0x358637BD#32))))
            broadcasts_S256x1_S256x1024))
        (broadcastTo S256x1024 ln broadcasts_S1x1024_S256x1024))
      bitsLt_bf16_f32)
    wz (constant S256x2048 .f32 0x00000000#32)

/-- The heads of a strip: the two directions' sum. -/
def heads (f b : Vec F S256x2048 .bf16) : FVec F S256x2048 .f32 :=
  addf (extf .f32 f bitsLt_bf16_f32) (extf .f32 b bitsLt_bf16_f32)

/-- The gate of a strip. -/
def gate (z : FVec F S256x2048 .f32) : FVec F S256x2048 .f32 := mulf z (logistic z)

/-- One head of a strip, normalised, weighted and gated; `h` and `k` are the head's lanes of the heads and of the gate. -/
def headOut (h k : FVec F S256x256 .f32) (g : Vec F S1x256 .f32) : FVec F S256x256 .bf16 :=
  truncf .bf16
    (mulf
      (mulf
        (mulf h
          (broadcastTo S256x256
            (rsqrt
              (addf
                (divf (shapeCast S256x1 (multiReduction .add [1] S256 (mulf h h) 0x00000000#32 reduces_S256x256_S256 (.inl rfl) rfl) shapeCasts_S256_S256x1)
                  (broadcast S256x1 (Scalar.ofBits .f32 0x43800000#32)))
                (broadcast S256x1 (Scalar.ofBits .f32 0x358637BD#32))))
            broadcasts_S256x1_S256x256))
        (broadcastTo S256x256 g broadcasts_S1x256_S256x256))
      k)
    bitsLt_bf16_f32

/-- One head's lanes of a strip. -/
def lanes (n : ℕ) (hn : S256x2048.Slices ![0, n] S256x256) (x : FVec F S256x2048 .f32) : FVec F S256x256 .f32 :=
  extractStridedSlice S256x256 ![0, n] x hn

/-- One gated head of a strip, at lane offset `n`. -/
def gated (n : ℕ) (hn : S256x2048.Slices ![0, n] S256x256) (o z : FVec F S256x2048 .f32) (g : Vec F S1x256 .f32) : FVec F S256x256 .bf16 :=
  headOut (lanes n hn o) (lanes n hn (gate z)) g

/-- The eight gated heads side by side. -/
def row (o z : FVec F S256x2048 .f32) (g : Vec F S1x256 .f32) : FVec F S256x2048 .bf16 :=
  concatenate S256x2048 1
    [⟨S256x256, gated 0 slices_S256x2048_o0_0_S256x256 o z g⟩, ⟨S256x256, gated 256 slices_S256x2048_o0_256_S256x256 o z g⟩,
     ⟨S256x256, gated 512 slices_S256x2048_o0_512_S256x256 o z g⟩, ⟨S256x256, gated 768 slices_S256x2048_o0_768_S256x256 o z g⟩,
     ⟨S256x256, gated 1024 slices_S256x2048_o0_1024_S256x256 o z g⟩, ⟨S256x256, gated 1280 slices_S256x2048_o0_1280_S256x256 o z g⟩,
     ⟨S256x256, gated 1536 slices_S256x2048_o0_1536_S256x256 o z g⟩, ⟨S256x256, gated 1792 slices_S256x2048_o0_1792_S256x256 o z g⟩]
    concatenates_S256x256_S256x256_S256x256_S256x256_S256x256_S256x256_S256x256_S256x256_S256x2048_d1

/-- A strip of the output. -/
def strip (f b : Vec F S256x2048 .bf16) (x : Vec F S256x1024 .f32) (ln : Vec F S1x1024 .f32) (wz : Vec F S1024x2048 .bf16)
    (g : Vec F S1x256 .f32) (w : Vec F S2048x1024 .bf16) : FVec F S256x1024 .f32 :=
  addf x (matmul dot_S256x2048_S2048x1024_S256x1024_1_0_0_1_n_n none (row (heads f b) (logits x ln wz) g) w
    (constant S256x1024 .f32 0x00000000#32))

/-- The output block: its three strips. -/
theorem out_eq (x0 x1 : Vec F S768x2048 .bf16) (x2 : Vec F S768x1024 .f32) (x3 : Vec F S1x1024 .f32) (x4 : Vec F S1024x2048 .bf16)
    (x5 : Vec F S1x256 .f32) (x6 : Vec F S2048x1024 .bf16) :
    out0_7 x0 x1 x2 x3 x4 x5 x6 = View.canon
      [⟨r0_7, strip (View.ld x0 r0_9) (View.ld x1 r0_9) (View.ld x2 r0_7) (View.ld x3 r0_1) (View.ld x4 r0_2) (View.ld x5 r0_5) (View.ld x6 r0_6)⟩,
       ⟨r0_3, strip (View.ld x0 r0_8) (View.ld x1 r0_8) (View.ld x2 r0_3) (View.ld x3 r0_1) (View.ld x4 r0_2) (View.ld x5 r0_5) (View.ld x6 r0_6)⟩,
       ⟨r0_0, strip (View.ld x0 r0_4) (View.ld x1 r0_4) (View.ld x2 r0_0) (View.ld x3 r0_1) (View.ld x4 r0_2) (View.ld x5 r0_5) (View.ld x6 r0_6)⟩] := rfl

end

/-- A gate's logit, at a row and a lane. -/
theorem logits_apply (x : Vec Ideal S256x1024 .f32) (ln : Vec Ideal S1x1024 .f32) (wz : Vec Ideal S1024x2048 .bf16) (r : Fin 256) (c : Fin 2048) :
    logits x ln wz (ix2 r c) = logitAt (fun k => x (ix2 r k)) (fun k => ln (ix2 0 k)) (fun k => wz (ix2 k c)) := by
  pointwise [logits, logitAt, normed]

/-- A head's entry. -/
theorem headOut_apply (h k : FVec Ideal S256x256 .f32) (g : Vec Ideal S1x256 .f32) (r d : Fin 256) :
    headOut h k g (ix2 r d) = normed 0x43800000#32 (fun e => h (ix2 r e)) d * g (ix2 0 d) * k (ix2 r d) := by
  pointwise [headOut, normed]

/-- The heads' sum, at a row and a lane. -/
theorem heads_apply (f b : Vec Ideal S256x2048 .bf16) (r : Fin 256) (c : Fin 2048) :
    heads f b (ix2 r c) = f (ix2 r c) + b (ix2 r c) := by
  pointwise [heads]

/-- Every head's lanes lie among the strip's lanes. -/
theorem slices (n : Fin 8) : S256x2048.Slices ![0, 256 * n.val] S256x256 := by
  revert n; decide

/-- A gated head's entry. -/
theorem gated_apply (n : ℕ) (hn : S256x2048.Slices ![0, n] S256x256) (hb : n + 256 ≤ 2048) (o z : FVec Ideal S256x2048 .f32)
    (g : Vec Ideal S1x256 .f32) (r d : Fin 256) :
    gated n hn o z g (ix2 r d) = normed 0x43800000#32 (fun e => o (ix2 r ⟨n + e.val, by omega⟩)) d * g (ix2 0 d)
      * (z (ix2 r ⟨n + d.val, by omega⟩) * Ideal.logistic (z (ix2 r ⟨n + d.val, by omega⟩))) := by
  have hl : ∀ (x : FVec Ideal S256x2048 .f32) (e : Fin 256), lanes n hn x (ix2 r e) = x (ix2 r ⟨n + e.val, by omega⟩) := by
    intro x e
    unfold lanes
    refine extractStridedSlice_apply _ _ _ _ _ fun a => ?_
    match a with
    | ⟨0, _⟩ => exact (Nat.zero_add _).symm
    | ⟨1, _⟩ => rfl
  unfold gated
  rw [headOut_apply, hl (gate z) d]
  simp only [hl]
  rfl

/-- The gated heads side by side are equal heads at offsets of 256 lanes. -/
theorem row_eq (o z : FVec Ideal S256x2048 .f32) (g : Vec Ideal S1x256 .f32) :
    row o z g = concatenate S256x2048 1
      (List.ofFn fun n : Fin 8 => (⟨S256x256, gated (256 * n.val) (slices n) o z g⟩ : (s : Shape) × (s.Idx → Elt Ideal .bf16)))
      concatenates_S256x256_S256x256_S256x256_S256x256_S256x256_S256x256_S256x256_S256x256_S256x2048_d1 := rfl

/-- The gated row of a strip, at a row and a lane. -/
theorem row_apply (o z : FVec Ideal S256x2048 .f32) (g : Vec Ideal S1x256 .f32) (r : Fin 256) (c : Fin 2048) :
    row o z g (ix2 r c) = gatedAt (fun k => o (ix2 r k)) (fun d => g (ix2 0 d)) (fun k => z (ix2 r k)) c := by
  have hc : 256 * (c.val / 256) + c.val % 256 = c.val := Nat.div_add_mod _ _
  rw [row_eq]
  refine (concatenate_ofFn_apply (t := S256x2048) (s₁ := S256x256) 1
    (fun n : Fin 8 => gated (256 * n.val) (slices n) o z g) _ rfl 256 rfl (ix2 r c) ⟨c.val / 256, by omega⟩ rfl
    (ix2 r ⟨c.val % 256, by omega⟩) rfl ?_).trans ?_
  · intro a ha
    match a with
    | ⟨0, _⟩ => rfl
    | ⟨1, _⟩ => exact absurd rfl ha
  · rw [gated_apply _ _ (by show 256 * (c.val / 256) + 256 ≤ 2048; omega)]
    unfold gatedAt lane
    have e : (⟨256 * (c.val / 256) + c.val % 256, by omega⟩ : Fin 2048) = c := Fin.ext hc
    simp only [e]

/-- An entry of a strip. -/
theorem strip_apply (f b : Vec Ideal S256x2048 .bf16) (x : Vec Ideal S256x1024 .f32) (ln : Vec Ideal S1x1024 .f32)
    (wz : Vec Ideal S1024x2048 .bf16) (g : Vec Ideal S1x256 .f32) (w : Vec Ideal S2048x1024 .bf16) (r : Fin 256) (k : Fin 1024) :
    strip f b x ln wz g w (ix2 r k) = outAt (x (ix2 r k)) (fun c => f (ix2 r c) + b (ix2 r c)) (fun d => g (ix2 0 d))
      (fun c => logitAt (fun j => x (ix2 r j)) (fun j => ln (ix2 0 j)) (fun j => wz (ix2 j c))) (fun c => w (ix2 c k)) := by
  pointwise [strip]
  simp only [row_apply, heads_apply, logits_apply]
  rfl

end Cert.Kernel2Ideal.Out

end
-- ==== Proof.Out.Result.lean ====
/- The result array of the gated output projection after the launch: every grid point leaves its block of the target. -/
module

public import proofs.«01_k».proof.Proof.Out.Strip
public import Idealize.ShloMosaic.Lib.Pipeline.ValueKit
public import Idealize.ShloMosaic.Lib.Pipeline.Covers

@[expose] public section

set_option maxRecDepth 16384

noncomputable section

namespace Cert.Kernel2Ideal.Out

open Idealize.ShloMosaic Idealize.ShloMosaic.TcCoe Idealize.SL.Sem Cert.Kernel2Ideal Cert.Kernel2Ideal.Gen Cert.Out
open Idealize.ShloMosaic.Pipeline (Dat)

/-- Where an entry of a strip starting at row `o` lies in the block. -/
theorem emb_eq (o : ℕ) (inb : ∀ a : Fin S768x1024.rank, ![o, 0] a + S256x1024.size a ≤ S768x1024.size a) (r : Fin 256) (k : Fin 1024)
    (n : Fin 768) (hn : n.val = o + r.val) :
    (Rect.unit (s := S768x1024) ![o, 0] S256x1024.size inb).emb (ix2 r k) = ix2 n k := by
  funext a
  match a with
  | ⟨0, _⟩ => exact Fin.ext ((ValueKit.rect_emb_unit_val _ _ inb (ix2 r k) 0).trans hn.symm)
  | ⟨1, _⟩ => exact Fin.ext ((ValueKit.rect_emb_unit_val _ _ inb (ix2 r k) 1).trans (Nat.zero_add _))

/-- An entry of the output block: the target of its row. -/
theorem block_apply (x0 x1 : Vec Ideal S768x2048 .bf16) (x2 : Vec Ideal S768x1024 .f32) (x3 : Vec Ideal S1x1024 .f32)
    (x4 : Vec Ideal S1024x2048 .bf16) (x5 : Vec Ideal S1x256 .f32) (x6 : Vec Ideal S2048x1024 .bf16) (y : S768x1024.Idx) :
    out0_7 x0 x1 x2 x3 x4 x5 x6 y = outAt (x2 y) (fun c => x0 (ix2 (y 0) c) + x1 (ix2 (y 0) c)) (fun d => x5 (ix2 0 d))
      (fun c => logitAt (fun j => x2 (ix2 (y 0) j)) (fun j => x3 (ix2 0 j)) (fun j => x4 (ix2 j c))) (fun c => x6 (ix2 c (y 1))) := by
  rw [out_eq]
  refine View.canon_eq_of_allAt _ _ _ (cover0_7 _ _ _ y) fun p hp z hz => ?_
  subst hz
  simp only [List.mem_cons, List.not_mem_nil, or_false] at hp
  have hz : ∀ z : S256x1024.Idx, ∃ (r : Fin 256) (k : Fin 1024), z = ix2 r k := fun z =>
    ⟨z 0, z 1, funext fun a => by match a with | ⟨0, _⟩ => rfl | ⟨1, _⟩ => rfl⟩
  rcases hp with rfl | rfl | rfl
  · obtain ⟨r, k, rfl⟩ := hz z
    rw [show r0_7.emb (ix2 r k) = ix2 ⟨512 + r.val, by omega⟩ k from emb_eq _ _ r k _ rfl]
    refine (strip_apply _ _ _ _ _ _ _ r k).trans ?_
    pointwise
  · obtain ⟨r, k, rfl⟩ := hz z
    rw [show r0_3.emb (ix2 r k) = ix2 ⟨256 + r.val, by omega⟩ k from emb_eq _ _ r k _ rfl]
    refine (strip_apply _ _ _ _ _ _ _ r k).trans ?_
    pointwise
  · obtain ⟨r, k, rfl⟩ := hz z
    rw [show r0_0.emb (ix2 r k) = ix2 ⟨r.val, by omega⟩ k from emb_eq _ _ r k _ (Nat.zero_add _).symm]
    refine (strip_apply _ _ _ _ _ _ _ r k).trans ?_
    pointwise

variable (m : (ℓ : Loc nD τ sig) → Buf (Elt Ideal) ℓ)

/-- Where each window's block sits, at every grid point. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![0, 0]
    ∧ win0_5.index t = ![0, 0] ∧ win0_6.index t = ![0, 0] ∧ win0_7.index t = ![(grid0.coords t 0).val, 0] :=
  (by decide +kernel : ∀ t : Fin grid0.N, _)

/-- The result array after the launch. -/
theorem result (c : Dev nD) :
    (dats m 0 c).arrAt 7 (cfgs 0).N
      = outArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 7 _ (by decide +kernel) fun t hf y => ?_
  blk_simp
  rw [after0_7]
  refine (block_apply _ _ _ _ _ _ _ y).trans ?_
  unfold outArr
  congr 1
  · blk_point [iblk, V, idx t]
  · funext e
    refine congrArg₂ (· + ·) ?_ ?_
    · blk_point [iblk, V, idx t]
    · blk_point [iblk, V, idx t]
  · funext e
    blk_point [iblk, V, idx t]
  · funext e
    congr 1
    · funext j
      blk_point [iblk, V, idx t]
    · funext j
      blk_point [iblk, V, idx t]
    · funext j
      blk_point [iblk, V, idx t]
  · funext e
    blk_point [iblk, V, idx t]

end Cert.Kernel2Ideal.Out

end
-- ==== Proof.Out.Reference.lean ====
/- The reference's gated output projection, entry by entry: it is the target. -/
module

public import proofs.«01_k».proof.Proof.Out.Target
public import proofs.«01_k».proof.Proof.Gen.Reference2Ideal.Read
public import Idealize.ShloMosaic.Lib.Pipeline.ValueKit
public import Idealize.ShloMosaic.Lib.Pipeline.Value

@[expose] public section

set_option maxRecDepth 16384

noncomputable section

namespace Cert.Reference2Ideal.Out

open Idealize.ShloMosaic Idealize.ShloMosaic.TcCoe Idealize.SL.Sem Cert.Reference2Ideal Cert.Reference2Ideal.Read Cert.Out

variable (f b : (⟨S50688x2048, .bf16⟩ : BufTy).Contents (Elt Ideal)) (h : (⟨S50688x1024, .f32⟩ : BufTy).Contents (Elt Ideal))
  (ln : (⟨S1x1024, .f32⟩ : BufTy).Contents (Elt Ideal)) (wz : (⟨S1024x2048, .bf16⟩ : BufTy).Contents (Elt Ideal))
  (g : (⟨S1x256, .f32⟩ : BufTy).Contents (Elt Ideal)) (w : (⟨S2048x1024, .bf16⟩ : BufTy).Contents (Elt Ideal))

/-- The word zero is zero. -/
theorem zero_bits : (FloatOps.ofBits (F := Ideal) .f32 0x00000000#32 : EReal) = 0 := by
  show Ideal.ofBits _ _ = _
  simp [Ideal.ofBits, Ideal.ieee]

/-- The word of one is one. -/
theorem one_bits : (FloatOps.ofBits (F := Ideal) .f32 0x3F800000#32 : EReal) = 1 := by
  show Ideal.ofBits _ _ = _
  simp [Ideal.ofBits, Ideal.ieee, -EReal.coe_mul]; norm_num

/-- The normalised residual row, weighted. -/
theorem normed_apply (r : Fin 50688) (k : Fin 1024) :
    val_main_v11 (F := Ideal) h ln (ix2 r k) = normed 0x44800000#32 (fun j => h (ix2 r j)) k * ln (ix2 0 k) := by
  rw [val_main_v11_apply, val_main_v10_apply, val_main_v9_apply, val_main_v8_apply, val_main_v7_apply, val_main_v6_apply,
    val_main_v5_apply, val_main_v4_apply, val_main_v3_apply, val_main_v2_apply, val_main_v1_apply, val_main_cst_apply,
    val_main_cst_0_apply, val_main_cst_1_apply, zero_bits]
  unfold normed
  simp only [val_main_v0_apply]
  rw [zero_add]
  have e : ∀ j : Fin 1024, idx_main_v1 (idx_main_v2 (idx_main_v8 (ix2 r k))) j = ix2 r j := fun j =>
    funext fun a => by match a with | ⟨0, _⟩ => rfl | ⟨1, _⟩ => rfl
  have e' : idx_main_v10 (ix2 r k) = ix2 0 k := funext fun a => by match a with | ⟨0, _⟩ => rfl | ⟨1, _⟩ => rfl
  simp only [e, e']
  rfl

/-- The gate's logit. -/
theorem logit_apply (r : Fin 50688) (c : Fin 2048) :
    val_main_v13 (F := Ideal) h ln wz (ix2 r c)
      = logitAt (fun k => h (ix2 r k)) (fun k => ln (ix2 0 k)) (fun k => wz (ix2 k c)) := by
  rw [val_main_v13_apply]
  refine Finset.sum_congr rfl fun k _ => ?_
  rw [val_main_v12_apply, show lidx_main_v13 (ix2 r c) k = ix2 r k from by
    funext a; match a with | ⟨0, _⟩ => rfl | ⟨1, _⟩ => rfl, normed_apply]
  refine congrArg (_ * ·) (congrArg wz (funext fun a => ?_))
  match a with | ⟨0, _⟩ => rfl | ⟨1, _⟩ => rfl

/-- The gate: the logit times its logistic. -/
theorem gate_apply (i : S50688x2048.Idx) :
    val_main_v32 (F := Ideal) h ln wz i
      = val_main_v13 (F := Ideal) h ln wz i * Ideal.logistic (val_main_v13 (F := Ideal) h ln wz i) := by
  rw [val_main_v32_apply, val_main_call0_v5_apply, val_main_call0_v4_apply, val_main_call0_v3_apply, val_main_call0_v2_apply,
    val_main_call0_v1_apply, val_main_call0_v0_apply, val_main_call0_cst_apply, val_main_call0_cst_0_apply, one_bits]
  rfl

/-- The heads, at a head and a lane of it. -/
theorem head_apply (r : Fin 50688) (n : Fin 8) (d : Fin 256) :
    val_main_v17 (F := Ideal) f b (ix3 r n d)
      = f (ix2 r ⟨256 * n.val + d.val, by omega⟩) + b (ix2 r ⟨256 * n.val + d.val, by omega⟩) := by
  rw [val_main_v17_apply, val_main_v16_apply, val_main_v15_apply, val_main_v14_apply]
  have e : idx_main_v17 (ix3 r n d) = ix2 r ⟨256 * n.val + d.val, by omega⟩ := by
    funext a
    match a with
    | ⟨0, _⟩ => exact Fin.ext (by show ((r.val * 8 + n.val) * 256 + d.val) / 2048 = r.val; omega)
    | ⟨1, _⟩ => exact Fin.ext (by show ((r.val * 8 + n.val) * 256 + d.val) % 2048 = 256 * n.val + d.val; omega)
  rw [e]
  rfl

/-- The normalised heads, weighted, at a lane. -/
theorem weighted_apply (r : Fin 50688) (n : Fin 8) (d : Fin 256) :
    val_main_v30 (F := Ideal) f b g (ix3 r n d)
      = normed 0x43800000#32 (fun e : Fin 256 => f (ix2 r ⟨256 * n.val + e.val, by omega⟩) + b (ix2 r ⟨256 * n.val + e.val, by omega⟩)) d
        * g (ix2 0 d) := by
  rw [val_main_v30_apply, val_main_v29_apply, val_main_v28_apply, val_main_v27_apply, val_main_v26_apply, val_main_v25_apply,
    val_main_v24_apply, val_main_v23_apply, val_main_v22_apply, val_main_v21_apply, val_main_v20_apply, val_main_v19_apply,
    val_main_cst_2_apply, val_main_cst_3_apply, val_main_cst_4_apply, zero_bits, head_apply]
  unfold normed
  simp only [val_main_v18_apply]
  rw [zero_add]
  have e : ∀ j : Fin 256, idx_main_v19 (idx_main_v20 (idx_main_v26 (ix3 r n d))) j = ix3 r n j := fun j =>
    funext fun a => by match a with | ⟨0, _⟩ => rfl | ⟨1, _⟩ => rfl | ⟨2, _⟩ => rfl
  have e' : idx_main_v28 (idx_main_v29 (ix3 r n d)) = ix2 0 d := funext fun a => by match a with | ⟨0, _⟩ => rfl | ⟨1, _⟩ => rfl
  simp only [e, e', head_apply]
  rfl

/-- The reference's result is the target. -/
theorem result : val_main_v36 (F := Ideal) f b h ln wz g w = outArr f b h ln wz g w := by
  funext i
  obtain ⟨r, k, rfl⟩ : ∃ (r : Fin 50688) (k : Fin 1024), i = ix2 r k :=
    ⟨i 0, i 1, funext fun a => by match a with | ⟨0, _⟩ => rfl | ⟨1, _⟩ => rfl⟩
  rw [val_main_v36_apply, val_main_v35_apply]
  refine congrArg (h (ix2 r k) + ·) (Finset.sum_congr rfl fun c _ => ?_)
  rw [val_main_v34_apply, show lidx_main_v35 (ix2 r k) c = ix2 r c from by
    funext a; match a with | ⟨0, _⟩ => rfl | ⟨1, _⟩ => rfl, val_main_v33_apply, gate_apply, logit_apply, val_main_v31_apply]
  have e : idx_main_v31 (ix2 r c) = ix3 r ⟨c.val / 256, by omega⟩ ⟨c.val % 256, by omega⟩ := by
    funext a
    match a with
    | ⟨0, _⟩ => exact Fin.ext (by show (r.val * 2048 + c.val) / 2048 = r.val; omega)
    | ⟨1, _⟩ => exact Fin.ext (by show (r.val * 2048 + c.val) / 256 % 8 = c.val / 256; omega)
    | ⟨2, _⟩ => exact Fin.ext (by show (r.val * 2048 + c.val) % 256 = c.val % 256; omega)
  rw [e, weighted_apply]
  unfold gatedAt lane
  refine congrArg (_ * ·) (congrArg w (funext fun a => ?_))
  match a with | ⟨0, _⟩ => rfl | ⟨1, _⟩ => rfl

end Cert.Reference2Ideal.Out

end
-- ==== Proof.Out.Claim.lean ====
/- The claims of the gated output projection: its run from any arguments, and kernel and reference ending with the same
   result array. -/
module

public import proofs.«01_k».proof.Defs
public import proofs.«01_k».proof.Proof.Out.Result
public import proofs.«01_k».proof.Proof.Out.Reference
public import proofs.«01_k».proof.Proof.Gen.Kernel2.Frame
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import Idealize.ShloMosaic.Lib.Claim

@[expose] public section

set_option maxRecDepth 16384

noncomputable section

namespace Cert.Out

open Idealize.ShloMosaic Idealize.ShloMosaic.TcCoe Idealize.SL.Sem

/-- The reference's frame: its run leaves the arguments unchanged, and it declares no semaphore. -/
theorem reference_frame : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

/-- The kernel's run ends with the target of its arguments as the result. -/
theorem kernel_run (m : (ℓ : Loc Cert.Kernel2Ideal.nD Cert.Kernel2Ideal.τ Cert.Kernel2Ideal.sig) → Buf (Elt Ideal) ℓ)
    (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩
      (fun r => ∀ c : Dev Cert.Kernel2Ideal.nD,
        r.2.mem ((c.tc : Thread Cert.Kernel2Ideal.nD Cert.Kernel2Ideal.τ).loc Cert.Kernel2Ideal.main_v0)
          = outArr (m ((c.tc : Thread Cert.Kernel2Ideal.nD Cert.Kernel2Ideal.τ).loc Cert.Kernel2Ideal.main_arg0))
              (m ((c.tc : Thread Cert.Kernel2Ideal.nD Cert.Kernel2Ideal.τ).loc Cert.Kernel2Ideal.main_arg1))
              (m ((c.tc : Thread Cert.Kernel2Ideal.nD Cert.Kernel2Ideal.τ).loc Cert.Kernel2Ideal.main_arg2))
              (m ((c.tc : Thread Cert.Kernel2Ideal.nD Cert.Kernel2Ideal.τ).loc Cert.Kernel2Ideal.main_arg3))
              (m ((c.tc : Thread Cert.Kernel2Ideal.nD Cert.Kernel2Ideal.τ).loc Cert.Kernel2Ideal.main_arg4))
              (m ((c.tc : Thread Cert.Kernel2Ideal.nD Cert.Kernel2Ideal.τ).loc Cert.Kernel2Ideal.main_arg5))
              (m ((c.tc : Thread Cert.Kernel2Ideal.nD Cert.Kernel2Ideal.τ).loc Cert.Kernel2Ideal.main_arg6))) :=
  (θ_run _ _ _).mono (fun r h c => ((h c).1 7).trans (Cert.Kernel2Ideal.Out.result m c)) (Cert.Kernel2Ideal.Gen.run_main m g)

/-- From equal arguments, kernel and reference end with the same result array. -/
theorem projection : Cert.algebraic_Kernel2Ideal_Reference2Ideal (hKernel2Ideal := Cert.Kernel2Ideal.Gen.facts)
    (hReference2Ideal := Cert.Reference2Ideal.Gen.facts) := by
  intro m g m' g' _ hagree
  refine ⟨_, θ_run_and (kernel_run m g) (Cert.Kernel2Ideal.Gen.unchanged m g) |> (θ_run _ _ _).mono fun r h c => ⟨h.1 c, h.2 c⟩, ?_⟩
  refine (θ_run _ _ _).mono (fun r h c => ⟨(h c).1.trans ?_, (h c).2⟩) (Cert.Reference2Ideal.Value.run m' g')
  obtain ⟨e0, e1, e2, e3, e4, e5, e6⟩ := hagree c
  rw [Cert.Reference2Ideal.Read.val_main_v36_eq, e0, e1, e2, e3, e4, e5, e6]
  exact Cert.Reference2Ideal.Out.result _ _ _ _ _ _ _

end Cert.Out

end
-- ==== Proof.Kv.Target.lean ====
/- What the latent key and value projection computes, entry by entry over the extended reals. -/
module

public import proofs.«01_k».proof.Proof.Out.Target
public import proofs.«01_k».proof.Proof.Gen.Kernel3Ideal.Frame

@[expose] public section

noncomputable section

namespace Cert.Kv

open Idealize.ShloMosaic Cert.Kernel3Ideal

/-- The small projection's weights: the latent lanes, the shared lanes, and zeros to fill. -/
def smallW (w : Vec Ideal S1024x2880 .f32) (k : Fin 1024) (j : Fin 384) : EReal :=
  if h : j.val < 320 then w (ix2 k ⟨512 + j.val, by omega⟩) else 0

/-- The wide projection's weights: the gate lanes, then the query lanes. -/
def wideW (w : Vec Ideal S1024x2880 .f32) (k : Fin 1024) (j : Fin 2560) : EReal :=
  if h : j.val < 2048 then w (ix2 k ⟨832 + j.val, by omega⟩) else w (ix2 k ⟨j.val - 2048, by omega⟩)

/-- The latent row's weights: every head's plain key lanes, then every head's value lanes. -/
def upW (w : Vec Ideal S256x4096 .f32) (k : Fin 256) (j : Fin 4096) : EReal :=
  if h : j.val < 2048 then w (ix2 k ⟨256 * (j.val / 128) + j.val % 128, by omega⟩)
  else w (ix2 k ⟨256 * ((j.val - 2048) / 128) + 128 + j.val % 128, by omega⟩)

/-- The gains of the shared lanes, zeros to fill. -/
def sharedGain (g : Vec Ideal S192 .f32) (j : Fin 128) : EReal :=
  if h : j.val < 64 then g (ix1 ⟨128 + j.val, by omega⟩) else 0

/-- The cosine of either half, zeros to fill. -/
def cosLane (t : Vec Ideal S4224x32 .f32) (r : Fin 4224) (j : Fin 128) : EReal :=
  if j.val < 64 then t (ix2 r ⟨j.val % 32, by omega⟩) else 0

/-- Minus the sine at the first half. -/
def minusSinLane (t : Vec Ideal S4224x32 .f32) (r : Fin 4224) (j : Fin 128) : EReal :=
  if j.val < 32 then -t (ix2 r ⟨j.val % 32, by omega⟩) else 0

/-- The sine at the second half. -/
def plusSinLane (t : Vec Ideal S4224x32 .f32) (r : Fin 4224) (j : Fin 128) : EReal :=
  if 32 ≤ j.val ∧ j.val < 64 then t (ix2 r ⟨j.val % 32, by omega⟩) else 0

/-- The projections of a row: the row normalised and weighted by `ln`, against a column. -/
def projAt (h ln : Fin 1024 → EReal) (w : Vec Ideal S1024x2880 .f32) (c : Fin 2880) : EReal :=
  Cert.Out.logitAt h ln fun k => w (ix2 k c)

/-- The latent row: its lanes of the projections, normalised and weighted by `g`. -/
def latentAt (p : Fin 2880 → EReal) (g : Fin 256 → EReal) (i : Fin 256) : EReal :=
  Cert.Out.normed 0x43800000#32 (fun j : Fin 256 => p ⟨512 + j.val, by omega⟩) i * g i

/-- The latent row against a column. -/
def kvAt (p : Fin 2880 → EReal) (g : Fin 256 → EReal) (u : Vec Ideal S256x4096 .f32) (c : Fin 4096) : EReal :=
  ∑ i, latentAt p g i * u (ix2 i c)

/-- One over the root of a key's mean square: its 128 plain lanes and its 64 shared lanes. -/
def keyScale (k : Fin 128 → EReal) (s : Fin 64 → EReal) : EReal :=
  Ideal.rsqrt (Ideal.div (∑ d, k d * k d + ∑ d, s d * s d) (Ideal.ofBits .f32 0x43400000#32) + Ideal.ofBits .f32 0x358637BD#32)

/-- A lane of a key row: the plain lanes normalised; the shared lanes normalised and rotated; a one; zeros. -/
def keyAt (k : Fin 128 → EReal) (s : Fin 64 → EReal) (g : Fin 192 → EReal) (co si : Fin 32 → EReal) (c : Fin 256) : EReal :=
  if h : c.val < 128 then k ⟨c.val, h⟩ * keyScale k s * g ⟨c.val, by omega⟩
  else if h : c.val < 160 then
    s ⟨c.val - 128, by omega⟩ * keyScale k s * g ⟨c.val, by omega⟩ * co ⟨c.val - 128, by omega⟩
      - s ⟨c.val - 96, by omega⟩ * keyScale k s * g ⟨c.val + 32, by omega⟩ * si ⟨c.val - 128, by omega⟩
  else if h : c.val < 192 then
    s ⟨c.val - 128, by omega⟩ * keyScale k s * g ⟨c.val, by omega⟩ * co ⟨c.val - 160, by omega⟩
      + s ⟨c.val - 160, by omega⟩ * keyScale k s * g ⟨c.val - 32, by omega⟩ * si ⟨c.val - 160, by omega⟩
  else if c.val = 192 then 1 else 0

/-- Where a gate lane (the first 2048) or a query lane lies among the projections. -/
def gateLane (c : Fin 2560) : Fin 2880 := ⟨if c.val < 2048 then 832 + c.val else c.val - 2048, by split <;> omega⟩

variable (h : Vec Ideal S12x4224x1024 .f32) (ln : Vec Ideal S1x1024 .f32) (w : Vec Ideal S1024x2880 .f32) (g : Vec Ideal S1x256 .f32)
  (u : Vec Ideal S256x4096 .f32)

/-- The projections of a row of a batch. -/
def rowProj (b : Fin 12) (r : Fin 4224) (c : Fin 2880) : EReal := projAt (fun k => h (ix3 b r k)) (fun k => ln (ix2 0 k)) w c

/-- The gate and query lanes, as an array. -/
def gatesArr : Vec Ideal S12x4224x2560 .bf16 := fun i => rowProj h ln w (i 0) (i 1) (gateLane (i 2))

/-- A head's plain key lane (`o = 0`) or value lane (`o = 1`) of a row of a batch. -/
def rowKv (b : Fin 12) (r : Fin 4224) (n : Fin 16) (o : Fin 2) (d : Fin 128) : EReal :=
  kvAt (rowProj h ln w b r) (fun i => g (ix2 0 i)) u ⟨256 * n.val + 128 * o.val + d.val, by omega⟩

/-- A head's key row of a row of a batch. -/
def keyRow (gk : Vec Ideal S192 .f32) (co si : Vec Ideal S4224x32 .f32) (b : Fin 12) (r : Fin 4224) (n : Fin 16) (c : Fin 256) : EReal :=
  keyAt (rowKv h ln w g u b r n 0) (fun d => rowProj h ln w b r ⟨768 + d.val, by omega⟩)
    (fun d => gk (ix1 d)) (fun d => co (ix2 r d)) (fun d => si (ix2 r d)) c

/-- The key rows, as an array. -/
def keysArr (gk : Vec Ideal S192 .f32) (co si : Vec Ideal S4224x32 .f32) : Vec Ideal S12x16x4224x256 .bf16 := fun i =>
  keyRow h ln w g u gk co si (i 0) (i 2) (i 1) (i 3)

/-- The values, transposed, as an array. -/
def valuesArr : Vec Ideal S12x16x128x4224 .bf16 := fun i => rowKv h ln w g u (i 0) (i 3) (i 1) 1 (i 2)

end Cert.Kv

end
-- ==== Proof.Kv.Block.lean ====
/- What the body leaves in its three output blocks, head by head, as functions of the projected rows. -/
module

public import proofs.«01_k».proof.Proof.Out.Target
public import proofs.«01_k».proof.Proof.Gen.Kernel3Ideal.Frame
public import Idealize.ShloMosaic.Lib.Pointwise
public import Idealize.ShloMosaic.Lib.Pipeline.Value
public import Idealize.ShloMosaic.Lib.KernelVsHost

@[expose] public section

set_option maxRecDepth 16384

noncomputable section

namespace Cert.Kernel3Ideal.Kv

open Idealize.ShloMosaic Cert.Kernel3Ideal Cert.Kernel3Ideal.Gen

/-- Every head's lanes lie among the projected lanes, in either half of them. -/
theorem slices (o : Fin 2) (h : Fin 16) : S384x4096.Slices ![0, 2048 * o.val + 128 * h.val] S384x128 := by
  revert o h; decide

/-- Every head's half of the key rows lies in the block. -/
theorem keyRoom (o : Fin 2) (h : Fin 16) : ∀ a, ![0, h.val, 0, 128 * o.val] a + S1x1x384x128.size a ≤ S1x16x384x256.size a := by
  revert o h; decide

/-- Every head's values lie in the block. -/
theorem valueRoom (h : Fin 16) : ∀ a, ![0, h.val, 0, 0] a + S1x1x128x384.size a ≤ S1x16x128x384.size a := by
  revert h; decide

/-- Where a head's half of the key rows lies. -/
abbrev keyRect (o : Fin 2) (h : Fin 16) : Rect S1x16x384x256 :=
  Rect.unit (s := S1x16x384x256) ![0, h.val, 0, 128 * o.val] S1x1x384x128.size (keyRoom o h)

/-- Where a head's values lie. -/
abbrev valueRect (h : Fin 16) : Rect S1x16x128x384 :=
  Rect.unit (s := S1x16x128x384) ![0, h.val, 0, 0] S1x1x128x384.size (valueRoom h)

section
variable {F : FTy → Type} [FloatOps F] [Named F]

/-- One head's lanes of the projected rows: its keys' plain part, or its values. -/
def lanes (o : Fin 2) (h : Fin 16) (kv : FVec F S384x4096 .f32) : FVec F S384x128 .f32 :=
  extractStridedSlice S384x128 ![0, 2048 * o.val + 128 * h.val] kv (slices o h)

/-- One over the root of a key's mean square: `k` its plain part, `sq` the squares of its shared part. -/
def scale (k sq : FVec F S384x128 .f32) : FVec F S384x1 .f32 :=
  rsqrt
    (addf
      (mulf
        (shapeCast S384x1 (multiReduction .add [1] S384 (addf (mulf k k) sq) 0x00000000#32 reduces_S384x128_S384 (.inl rfl) rfl) shapeCasts_S384_S384x1)
        (broadcast S384x1 (Named.named κ "inv_dqk" 0x3BAAAAAB#32)))
      (broadcast S384x1 (Scalar.ofBits .f32 0x358637BD#32)))

/-- The plain half of a head's key rows. -/
def lowKey (k sq : FVec F S384x128 .f32) (ga : Vec F S1x128 .f32) : FVec F S1x1x384x128 .bf16 :=
  shapeCast S1x1x384x128
    (truncf .bf16
      (mulf (mulf k (broadcastTo S384x128 (scale k sq) broadcasts_S384x1_S384x128))
        (broadcastTo S384x128 (shapeCast S1x128 ga shapeCasts_S1x128_S1x128) broadcasts_S1x128_S384x128))
      bitsLt_bf16_f32)
    shapeCasts_S384x128_S1x1x384x128

/-- The rotated half of a head's key rows, and the lane of ones. -/
def highKey (k sq kr : FVec F S384x128 .f32) (oh : FVec F S1x128 .f32) : FVec F S1x1x384x128 .bf16 :=
  shapeCast S1x1x384x128
    (truncf .bf16
      (addf (mulf kr (broadcastTo S384x128 (scale k sq) broadcasts_S384x1_S384x128))
        (broadcastTo S384x128 oh broadcasts_S1x128_S384x128))
      bitsLt_bf16_f32)
    shapeCasts_S384x128_S1x1x384x128

/-- A head's values, transposed. -/
def valuesT (v : FVec F S384x128 .f32) : FVec F S1x1x128x384 .bf16 :=
  shapeCast S1x1x128x384 (truncf .bf16 (transpose S128x384 [1, 0] v transposes_S384x128_p1_0_S128x384) bitsLt_bf16_f32)
    shapeCasts_S128x384_S1x1x128x384

/-- The pieces of the key block, the last stored first. -/
def keyPieces (kv : FVec F S384x4096 .f32) (sq kr : FVec F S384x128 .f32) (oh : FVec F S1x128 .f32) (ga : Vec F S1x128 .f32) :
    List (View.Piece (Elt F) S1x16x384x256 .bf16) :=
  (List.ofFn fun n : Fin 16 =>
    [(⟨keyRect 1 n.rev, highKey (lanes 0 n.rev kv) sq kr oh⟩ : View.Piece (Elt F) S1x16x384x256 .bf16),
     ⟨keyRect 0 n.rev, lowKey (lanes 0 n.rev kv) sq ga⟩]).flatten

/-- The pieces of the value block, the last stored first. -/
def valuePieces (kv : FVec F S384x4096 .f32) : List (View.Piece (Elt F) S1x16x128x384 .bf16) :=
  List.ofFn fun n : Fin 16 => ⟨valueRect n.rev, valuesT (lanes 1 n.rev kv)⟩

variable (x0 : Vec F S1x384x1024 .f32) (x1 : Vec F S1x1024 .f32) (x2 : Vec F S1024x384 .bf16) (x3 : Vec F S1024x2560 .bf16)
  (x4 : Vec F S1x256 .f32) (x5 : Vec F S256x4096 .bf16) (x6 x7 : Vec F S1x128 .f32) (x8 x9 x10 : Vec F S384x128 .f32)

/-- The small projection of the block's rows. -/
def small : FVec F S384x384 .f32 := k0_pay4 (View.ld x0 r0_0) (View.ld x1 r0_1) (View.ld x2 r0_2)

/-- The keys' plain parts and the values of the block's rows. -/
def kvs : FVec F S384x4096 .f32 := k0_pay5 (View.ld x0 r0_0) (View.ld x1 r0_1) (View.ld x2 r0_2) (View.ld x4 r0_3) (View.ld x5 r0_4)

/-- The key block is its heads' pieces. -/
theorem keys_eq : out0_12 x0 x1 x2 x3 x4 x5 x6 x7 x8 x9 x10 = View.canon
    (keyPieces (kvs x0 x1 x2 x4 x5) (k0_pay8 (small x0 x1 x2))
      (k0_pay9 (small x0 x1 x2) (View.ld x7 r0_7) (View.ld x8 r0_8) (View.ld x9 r0_8) (View.ld x10 r0_8)) (k0_pay10 (F := F)) (View.ld x6 r0_7)) := rfl

/-- The value block is its heads' pieces. -/
theorem values_eq : out0_13 x0 x1 x2 x3 x4 x5 x6 x7 x8 x9 x10 = View.canon (valuePieces (kvs x0 x1 x2 x4 x5)) := rfl

/-- The key pieces cover the block. -/
theorem keys_cover (kv : FVec F S384x4096 .f32) (sq kr : FVec F S384x128 .f32) (oh : FVec F S1x128 .f32) (ga : Vec F S1x128 .f32)
    (y : S1x16x384x256.Idx) : ∃ p ∈ keyPieces kv sq kr oh ga, y ∈ p.1.set :=
  View.cover_of_tiled (keyPieces kv sq kr oh ga) S1x1x384x128.size (by rfl) y

/-- The value pieces cover the block. -/
theorem values_cover (kv : FVec F S384x4096 .f32) (y : S1x16x128x384.Idx) : ∃ p ∈ valuePieces kv, y ∈ p.1.set :=
  View.cover_of_tiled (valuePieces kv) S1x1x128x384.size (by rfl) y

end

/-- One over the root of a key's mean square. -/
def scaleAt (k sq : Fin 128 → EReal) : EReal :=
  Ideal.rsqrt ((∑ d, (k d * k d + sq d)) * Named.named (F := Ideal) κ "inv_dqk" (φ := .f32) 0x3BAAAAAB#32 + Ideal.ofBits .f32 0x358637BD#32)

/-- A head's lane of the projected rows. -/
theorem lanes_apply (o : Fin 2) (h : Fin 16) (kv : FVec Ideal S384x4096 .f32) (r : Fin 384) (d : Fin 128) :
    lanes o h kv (ix2 r d) = kv (ix2 r ⟨2048 * o.val + 128 * h.val + d.val, by omega⟩) := by
  unfold lanes
  refine extractStridedSlice_apply _ _ _ _ _ fun a => ?_
  match a with
  | ⟨0, _⟩ => exact (Nat.zero_add _).symm
  | ⟨1, _⟩ => rfl

/-- The scale of a row. -/
theorem scale_apply (k sq : FVec Ideal S384x128 .f32) (r : Fin 384) :
    scale k sq (ix2 r 0) = scaleAt (fun d => k (ix2 r d)) (fun d => sq (ix2 r d)) := by
  pointwise [scale, scaleAt]

/-- An entry of the plain half. -/
theorem lowKey_apply (k sq : FVec Ideal S384x128 .f32) (ga : Vec Ideal S1x128 .f32) (r : Fin 384) (d : Fin 128) :
    lowKey k sq ga (ix4 0 0 r d) = k (ix2 r d) * scaleAt (fun e => k (ix2 r e)) (fun e => sq (ix2 r e)) * ga (ix2 0 d) := by
  pointwise [lowKey, scale_apply]

/-- An entry of the rotated half. -/
theorem highKey_apply (k sq kr : FVec Ideal S384x128 .f32) (oh : FVec Ideal S1x128 .f32) (r : Fin 384) (d : Fin 128) :
    highKey k sq kr oh (ix4 0 0 r d)
      = kr (ix2 r d) * scaleAt (fun e => k (ix2 r e)) (fun e => sq (ix2 r e)) + oh (ix2 0 d) := by
  pointwise [highKey, scale_apply]

/-- An entry of the transposed values. -/
theorem valuesT_apply (v : FVec Ideal S384x128 .f32) (d : Fin 128) (r : Fin 384) : valuesT v (ix4 0 0 d r) = v (ix2 r d) := by
  pointwise [valuesT]

/-- The squares of the shared part. -/
theorem squares_apply (s : FVec Ideal S384x384 .f32) (r : Fin 384) (d : Fin 128) :
    k0_pay8 s (ix2 r d) = s (ix2 r ⟨256 + d.val, by omega⟩) * s (ix2 r ⟨256 + d.val, by omega⟩) := by
  pointwise [k0_pay8, k0_pay7]

/-- The lane of ones: one at lane 64. -/
theorem ones_apply (d : Fin 128) :
    k0_pay10 (F := Ideal) (ix2 0 d) = if d.val = 64 then Ideal.ofBits .f32 0x3F800000#32 else Ideal.ofBits .f32 0x00000000#32 := by
  pointwise [k0_pay10]
  have h : (IntOp.cmpi CmpIPredicate.eq (BitVec.ofNat 32 d.val) 64#32) = if d.val = 64 then 1#1 else 0#1 := by
    revert d; decide
  rw [h]
  by_cases hd : d.val = 64
  · rw [if_pos hd, if_pos hd]; rfl
  · rw [if_neg hd, if_neg hd]; rfl

/-- The rotated shared part, before its scale. -/
theorem rotated_apply (s : FVec Ideal S384x384 .f32) (g : Vec Ideal S1x128 .f32) (c n t : Vec Ideal S384x128 .f32) (r : Fin 384) (d : Fin 128) :
    k0_pay9 s g c n t (ix2 r d)
      = s (ix2 r ⟨256 + d.val, by omega⟩) * g (ix2 0 d) * c (ix2 r d)
        + s (ix2 r ⟨256 + (d.val + 32) % 128, by omega⟩) * g (ix2 0 ⟨(d.val + 32) % 128, by omega⟩) * n (ix2 r d)
        + s (ix2 r ⟨256 + (d.val + 96) % 128, by omega⟩) * g (ix2 0 ⟨(d.val + 96) % 128, by omega⟩) * t (ix2 r d) := by
  have hx : ∀ e : Fin 128, mulf (k0_pay7 s) (broadcastTo S384x128 (shapeCast S1x128 g shapeCasts_S1x128_S1x128) broadcasts_S1x128_S384x128) (ix2 r e)
      = s (ix2 r ⟨256 + e.val, by omega⟩) * g (ix2 0 e) := by
    intro e
    pointwise [k0_pay7]
  have hr : ∀ (n : BitVec 32) (k : ℕ) (x : FVec Ideal S384x128 .f32), n.toNat + k = 128 →
      dynamicRotate 1 n none x rotates_S384x128_d1 (ix2 r d) = x (ix2 r ⟨(d.val + k) % 128, by omega⟩) := by
    intro n k x hn
    refine dynamicRotate_apply _ _ _ _ _ _ fun b => ?_
    match b with
    | ⟨0, _⟩ => rfl
    | ⟨1, _⟩ =>
      show (d.val + k) % 128 = (d.val + 128 - n.toNat % 128) % 128
      omega
  unfold k0_pay9
  refine congrArg₂ (· + ·) (congrArg₂ (· + ·) ?_ ?_) ?_
  · refine congrArg₂ (· * ·) (hx d) ?_
    rw [shapeCast_self]
  · refine congrArg₂ (· * ·) ((hr 96#32 32 _ rfl).trans (hx _)) ?_
    rw [shapeCast_self]
  · refine congrArg₂ (· * ·) ((hr 32#32 96 _ rfl).trans (hx _)) ?_
    rw [shapeCast_self]

/-- The small projection of a row against a column: the row normalised and weighted. -/
theorem small_apply (x : Vec Ideal S1x384x1024 .f32) (ln : Vec Ideal S1x1024 .f32) (w : Vec Ideal S1024x384 .bf16) (r : Fin 384) (c : Fin 384) :
    k0_pay4 x ln w (ix2 r c) = Cert.Out.logitAt (fun k => x (ix3 0 r k)) (fun k => ln (ix2 0 k)) (fun k => w (ix2 k c)) := by
  pointwise [k0_pay4, k0_pay3, Cert.Out.logitAt, Cert.Out.normed]

/-- The wide projection of a row against a column. -/
theorem wide_apply (x : Vec Ideal S1x384x1024 .f32) (ln : Vec Ideal S1x1024 .f32) (w : Vec Ideal S1024x2560 .bf16) (r : Fin 384) (c : Fin 2560) :
    k0_pay6 (k0_pay3 x ln) w (ix3 0 r c) = Cert.Out.logitAt (fun k => x (ix3 0 r k)) (fun k => ln (ix2 0 k)) (fun k => w (ix2 k c)) := by
  pointwise [k0_pay6, k0_pay3, Cert.Out.logitAt, Cert.Out.normed]

/-- The projected rows: the latent row normalised and weighted, against a column. -/
theorem kvs_apply (x : Vec Ideal S1x384x1024 .f32) (ln : Vec Ideal S1x1024 .f32) (w : Vec Ideal S1024x384 .bf16) (g : Vec Ideal S1x256 .f32)
    (u : Vec Ideal S256x4096 .bf16) (r : Fin 384) (c : Fin 4096) :
    k0_pay5 x ln w g u (ix2 r c) = ∑ k, Cert.Out.normed 0x43800000#32 (fun j : Fin 256 => k0_pay4 x ln w (ix2 r ⟨j.val, by omega⟩)) k
      * g (ix2 0 k) * u (ix2 k c) := by
  unfold k0_pay5
  generalize k0_pay4 x ln w = s
  pointwise [Cert.Out.normed]

end Cert.Kernel3Ideal.Kv

end
-- ==== Proof.Kv.Algebra.lean ====
/- The kernel's key row is the target's: the scale moved outside the rotation, and the sums over padded lanes. -/
module

public import proofs.«01_k».proof.Proof.Kv.Target
public import proofs.«01_k».proof.Proof.Kv.Block
public import proofs.«01_k».proof.Proof.Out.Reference

@[expose] public section

noncomputable section

namespace Cert.Kv

open Idealize.ShloMosaic Cert.Kernel3Ideal Cert.Kernel3Ideal.Kv

/-- The word of 192 is 192. -/
theorem count_bits : Ideal.ofBits .f32 0x43400000#32 = ((192 : ℝ) : EReal) := by
  simp [Ideal.ofBits, Ideal.ieee, -EReal.coe_mul]; norm_num

/-- The small term is a positive real. -/
theorem small_bits : ∃ e : ℝ, 0 < e ∧ Ideal.ofBits .f32 0x358637BD#32 = (e : EReal) := by
  refine ⟨_, ?_, by simp [Ideal.ofBits, Ideal.ieee, -EReal.coe_mul]; rfl⟩
  norm_num

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- One over the root of a positive quantity is nonnegative and finite. -/
theorem rsqrt_finite {x : EReal} (h : 0 < x) : 0 ≤ Ideal.rsqrt x ∧ Ideal.rsqrt x ≠ ⊤ := by
  induction x with
  | bot => exact absurd h (by simp)
  | top => exact ⟨le_refl _, EReal.zero_ne_top⟩
  | coe r =>
    have hr : 0 < r := EReal.coe_pos.mp h
    have e : Ideal.rsqrt (r : EReal) = (((√r)⁻¹ : ℝ) : EReal) := by
      show (if r < 0 then (⊥ : EReal) else if r = 0 then ⊤ else (((√r)⁻¹ : ℝ) : EReal)) = _
      rw [if_neg (not_lt.mpr hr.le), if_neg hr.ne']
    rw [e]
    exact ⟨EReal.coe_nonneg.mpr (by positivity), EReal.coe_ne_top _⟩

/-- The key's scale is nonnegative and finite. -/
theorem keyScale_finite (k : Fin 128 → EReal) (s : Fin 64 → EReal) : 0 ≤ keyScale k s ∧ keyScale k s ≠ ⊤ := by
  unfold keyScale
  apply rsqrt_finite
  obtain ⟨e, he, h⟩ := small_bits
  rw [h, count_bits, Ideal.div_coe (by norm_num : (192 : ℝ) ≠ 0)]
  refine lt_of_lt_of_le (EReal.coe_pos.mpr he) ?_
  refine le_add_of_nonneg_left (mul_nonneg (add_nonneg ?_ ?_) (EReal.coe_nonneg.mpr (by norm_num)))
  · exact Finset.sum_nonneg fun d _ => square_nonneg _
  · exact Finset.sum_nonneg fun d _ => square_nonneg _

/-- The shared lanes with zeros to fill. -/
def filled (s : Fin 64 → EReal) (d : Fin 128) : EReal := if h : d.val < 64 then s ⟨d.val, h⟩ else 0

/-- A sum of squares over the filled lanes is the sum over the lanes. -/
theorem filled_sum (s : Fin 64 → EReal) : ∑ d, filled s d * filled s d = ∑ d, s d * s d := by
  rw [Fin.sum_univ_add (a := 64) (b := 64) (fun d : Fin 128 => filled s d * filled s d)]
  have h0 : ∀ d : Fin 64, filled s (Fin.natAdd 64 d) = 0 := fun d => dif_neg (by show ¬(64 + d.val < 64); omega)
  have h1 : ∀ d : Fin 64, filled s (Fin.castAdd 64 d) = s d := fun d => dif_pos d.isLt
  simp only [h0, h1, mul_zero, Finset.sum_const_zero, add_zero]

/-- The kernel's scale is the target's. -/
theorem scale_eq (k : Fin 128 → EReal) (s : Fin 64 → EReal) :
    scaleAt k (fun d => filled s d * filled s d) = keyScale k s := by
  unfold scaleAt keyScale
  rw [count_bits, Ideal.div_coe (by norm_num : (192 : ℝ) ≠ 0), Finset.sum_add_distrib, filled_sum,
    IdealRules.named_const.ideal_named_scalar _ _ _ _ rfl]

/-- The kernel's rotated half: the lanes weighted, rotated, then scaled, and the lane of ones. -/
def rotatedAt (s : Fin 64 → EReal) (g co mi si : Fin 128 → EReal) (l : Fin 128) : EReal :=
  filled s l * g l * co l
    + filled s ⟨(l.val + 32) % 128, by omega⟩ * g ⟨(l.val + 32) % 128, by omega⟩ * mi l
    + filled s ⟨(l.val + 96) % 128, by omega⟩ * g ⟨(l.val + 96) % 128, by omega⟩ * si l

/-- The rotated half of the key row is the target's. -/
theorem rotated_eq (k : Fin 128 → EReal) (s : Fin 64 → EReal) (gk : Vec Ideal S192 .f32) (co si : Vec Ideal S4224x32 .f32)
    (r : Fin 4224) (l : Fin 128) :
    rotatedAt s (sharedGain gk) (cosLane co r) (minusSinLane si r) (plusSinLane si r) l * keyScale k s
        + (if l.val = 64 then (1 : EReal) else 0)
      = keyAt k s (fun d => gk (ix1 d)) (fun d => co (ix2 r d)) (fun d => si (ix2 r d)) ⟨128 + l.val, by omega⟩ := by
  have hd := fun a b : EReal => EReal.right_distrib_of_nonneg_of_ne_top (keyScale_finite k s).1 (keyScale_finite k s).2 a b
  unfold rotatedAt keyAt
  rw [dif_neg (by show ¬(128 + l.val < 128); omega)]
  by_cases h1 : l.val < 32
  · have hl : (⟨(l.val + 32) % 128, by omega⟩ : Fin 128) = ⟨l.val + 32, by omega⟩ := Fin.ext (by show (l.val + 32) % 128 = l.val + 32; omega)
    rw [dif_pos (by show 128 + l.val < 160; omega), if_neg (by omega), add_zero, hl]
    have e1 : filled s l = s ⟨l.val, by omega⟩ := dif_pos (by omega)
    have e2 : filled s ⟨l.val + 32, by omega⟩ = s ⟨l.val + 32, by omega⟩ := dif_pos (by show l.val + 32 < 64; omega)
    have e3 : sharedGain gk l = gk (ix1 ⟨128 + l.val, by omega⟩) := dif_pos (by omega)
    have e4 : sharedGain gk ⟨l.val + 32, by omega⟩ = gk (ix1 ⟨128 + (l.val + 32), by omega⟩) := dif_pos (by show l.val + 32 < 64; omega)
    have e5 : cosLane co r l = co (ix2 r ⟨l.val % 32, by omega⟩) := if_pos (by omega)
    have e6 : minusSinLane si r l = -si (ix2 r ⟨l.val % 32, by omega⟩) := if_pos (by omega)
    have e7 : plusSinLane si r l = 0 := if_neg (by omega)
    rw [e1, e2, e3, e4, e5, e6, e7, mul_zero, add_zero, hd, mul_neg, EReal.neg_mul, sub_eq_add_neg]
    have i1 : (⟨128 + l.val - 128, by omega⟩ : Fin 64) = ⟨l.val, by omega⟩ := Fin.ext (by show 128 + l.val - 128 = l.val; omega)
    have i2 : (⟨128 + l.val - 96, by omega⟩ : Fin 64) = ⟨l.val + 32, by omega⟩ := Fin.ext (by show 128 + l.val - 96 = l.val + 32; omega)
    have i3 : (⟨128 + l.val - 128, by omega⟩ : Fin 32) = ⟨l.val % 32, by omega⟩ := Fin.ext (by show 128 + l.val - 128 = l.val % 32; omega)
    have i4 : (⟨128 + l.val + 32, by omega⟩ : Fin 192) = ⟨128 + (l.val + 32), by omega⟩ := Fin.ext (by show 128 + l.val + 32 = 128 + (l.val + 32); omega)
    simp only [i1, i2, i3, i4]
    refine congrArg₂ (· + ·) ?_ (congrArg Neg.neg ?_)
    · ac_rfl
    · ac_rfl
  · rw [dif_neg (by show ¬(128 + l.val < 160); omega)]
    have e6 : minusSinLane si r l = 0 := if_neg (by omega)
    by_cases h2 : l.val < 64
    · have hl : (⟨(l.val + 96) % 128, by omega⟩ : Fin 128) = ⟨l.val - 32, by omega⟩ := Fin.ext (by show (l.val + 96) % 128 = l.val - 32; omega)
      rw [dif_pos (by show 128 + l.val < 192; omega), if_neg (by omega), add_zero, hl]
      have e1 : filled s l = s ⟨l.val, by omega⟩ := dif_pos (by omega)
      have e2 : filled s ⟨l.val - 32, by omega⟩ = s ⟨l.val - 32, by omega⟩ := dif_pos (by show l.val - 32 < 64; omega)
      have e3 : sharedGain gk l = gk (ix1 ⟨128 + l.val, by omega⟩) := dif_pos (by omega)
      have e4 : sharedGain gk ⟨l.val - 32, by omega⟩ = gk (ix1 ⟨128 + (l.val - 32), by omega⟩) := dif_pos (by show l.val - 32 < 64; omega)
      have e5 : cosLane co r l = co (ix2 r ⟨l.val % 32, by omega⟩) := if_pos (by omega)
      have e7 : plusSinLane si r l = si (ix2 r ⟨l.val % 32, by omega⟩) := if_pos (by omega)
      rw [e1, e2, e3, e4, e5, e6, e7, mul_zero, add_zero, hd]
      have i1 : (⟨128 + l.val - 128, by omega⟩ : Fin 64) = ⟨l.val, by omega⟩ := Fin.ext (by show 128 + l.val - 128 = l.val; omega)
      have i2 : (⟨128 + l.val - 160, by omega⟩ : Fin 64) = ⟨l.val - 32, by omega⟩ := Fin.ext (by show 128 + l.val - 160 = l.val - 32; omega)
      have i3 : (⟨128 + l.val - 160, by omega⟩ : Fin 32) = ⟨l.val % 32, by omega⟩ := Fin.ext (by show 128 + l.val - 160 = l.val % 32; omega)
      have i4 : (⟨128 + l.val - 32, by omega⟩ : Fin 192) = ⟨128 + (l.val - 32), by omega⟩ := Fin.ext (by show 128 + l.val - 32 = 128 + (l.val - 32); omega)
      simp only [i1, i2, i3, i4]
      refine congrArg₂ (· + ·) ?_ ?_
      · ac_rfl
      · ac_rfl
    · have e5 : cosLane co r l = 0 := if_neg (by omega)
      have e7 : plusSinLane si r l = 0 := if_neg (by omega)
      rw [dif_neg (by show ¬(128 + l.val < 192); omega), e5, e6, e7, mul_zero, mul_zero, mul_zero, add_zero, add_zero, zero_mul, zero_add]
      by_cases h3 : l.val = 64
      · rw [if_pos h3, if_pos (by show 128 + l.val = 192; omega)]
      · rw [if_neg h3, if_neg (by show ¬(128 + l.val = 192); omega)]

end Cert.Kv

end
-- ==== Proof.Kv.Host.lean ====
/- What the launch reads: the weights, gains and rotations as the host prepares them. -/
module

public import proofs.«01_k».proof.Proof.Kv.Target
public import Idealize.ShloMosaic.Lib.StableHlo.ReadAt
public import Idealize.ShloMosaic.Lib.KernelVsHost

@[expose] public section

set_option maxRecDepth 16384

noncomputable section

namespace Cert.Kernel3Ideal.Kv

open Idealize.ShloMosaic Idealize.ShloMosaic.TcCoe Cert.Kernel3Ideal Cert.Kernel3Ideal.Gen Cert.Kv

/-- An entry named by an equal column. -/
theorem column {N M : ℕ} (x : Vec Ideal ⟨2, ![N, M]⟩ .f32) (r : Fin N) {j k : Fin M} (h : j.val = k.val) : x (ix2 r j) = x (ix2 r k) := by
  rw [Fin.ext h]

/-- The filler the host converts from the integer zero. -/
theorem filler : FloatOps.sitofp (F := Ideal) FTy.f32 0#32 = (0 : EReal) := by
  show ((((0#32 : BitVec 32).toInt : ℝ)) : EReal) = 0
  simp

/-- The lanes as the host joins them. -/
theorem smallW_eq (x : Vec Ideal S1024x2880 .f32) (k : Fin 1024) (j : Fin 384) :
    (if h : j.val < 256 then x (ix2 k ⟨512 + j.val, by omega⟩)
      else if h' : j.val - 256 < 64 then x (ix2 k ⟨768 + (j.val - 256), by omega⟩) else 0) = smallW x k j := by
  unfold smallW
  by_cases h : j.val < 256
  · rw [dif_pos h, dif_pos (by omega)]
  · rw [dif_neg h]
    by_cases h' : j.val < 320
    · rw [dif_pos h', dif_pos (by omega)]
      exact column (M := 2880) x k (by show 768 + (j.val - 256) = 512 + j.val; omega)
    · rw [dif_neg h', dif_neg (by omega)]

/-- The lanes as the host joins them. -/
theorem upW_eq (x : Vec Ideal S256x4096 .f32) (k : Fin 256) (j : Fin 4096) :
    (if h : j.val < 2048 then x (ix2 k ⟨j.val / 128 * 256 + j.val % 128, by omega⟩)
      else x (ix2 k ⟨(j.val - 2048) / 128 * 256 + (128 + (j.val - 2048) % 128), by omega⟩)) = upW x k j := by
  unfold upW
  by_cases h : j.val < 2048
  · rw [dif_pos h, dif_pos h]
    exact column (M := 4096) x k
      (by show j.val / 128 * 256 + j.val % 128 = 256 * (j.val / 128) + j.val % 128; omega)
  · rw [dif_neg h, dif_neg h]
    exact column (M := 4096) x k
      (by show (j.val - 2048) / 128 * 256 + (128 + (j.val - 2048) % 128) = 256 * ((j.val - 2048) / 128) + 128 + j.val % 128; omega)

/-- The lanes as the host joins them. -/
theorem cosLane_eq (x : Vec Ideal S4224x32 .f32) (r : Fin 4224) (j : Fin 128) :
    (if h : j.val < 32 then x (ix2 r ⟨j.val, h⟩) else if h' : j.val - 32 < 32 then x (ix2 r ⟨j.val - 32, h'⟩)
      else if h'' : j.val - 32 - 32 < 32 then 0 else 0) = cosLane x r j := by
  unfold cosLane
  by_cases h : j.val < 32
  · rw [dif_pos h, if_pos (by omega)]
    exact column (M := 32) x r (by show j.val = j.val % 32; omega)
  · rw [dif_neg h]
    by_cases h' : j.val < 64
    · rw [dif_pos (by omega), if_pos h']
      exact column (M := 32) x r (by show j.val - 32 = j.val % 32; omega)
    · rw [dif_neg (by omega), if_neg h', dite_eq_ite, ite_self]

/-- The lanes as the host joins them. -/
theorem minusSinLane_eq (x : Vec Ideal S4224x32 .f32) (r : Fin 4224) (j : Fin 128) :
    (if h : j.val < 32 then -x (ix2 r ⟨j.val, h⟩) else if h' : j.val - 32 < 32 then 0
      else if h'' : j.val - 32 - 32 < 32 then 0 else 0) = minusSinLane x r j := by
  unfold minusSinLane
  by_cases h : j.val < 32
  · rw [dif_pos h, if_pos h]
    exact congrArg Neg.neg (column (M := 32) x r (by show j.val = j.val % 32; omega))
  · rw [dif_neg h, if_neg h]
    simp only [dite_eq_ite, ite_self]

/-- The lanes as the host joins them. -/
theorem plusSinLane_eq (x : Vec Ideal S4224x32 .f32) (r : Fin 4224) (j : Fin 128) :
    (if h : j.val < 32 then 0 else if h' : j.val - 32 < 32 then x (ix2 r ⟨j.val - 32, h'⟩)
      else if h'' : j.val - 32 - 32 < 32 then 0 else 0) = plusSinLane x r j := by
  unfold plusSinLane
  by_cases h : j.val < 32
  · rw [dif_pos h, if_neg (by omega)]
  · rw [dif_neg h]
    by_cases h' : j.val < 64
    · rw [dif_pos (by omega), if_pos (by omega)]
      exact column (M := 32) x r (by show j.val - 32 = j.val % 32; omega)
    · rw [dif_neg (by omega), if_neg (by omega), dite_eq_ite, ite_self]

variable (m : (ℓ : Loc nD τ sig) → Buf (Elt Ideal) ℓ) (c : Dev nD)

/-- The wide projection's weights, as the launch reads them. -/
theorem wideW_apply (k : Fin 1024) (j : Fin 2560) :
    (V m c main_v8 : Vec Ideal S1024x2560 .bf16) (ix2 k j) = wideW (m ((c : Thread nD τ).loc main_arg2) : Vec Ideal S1024x2880 .f32) k j := by
  unfold V wideW
  repeat after_reads_at

/-- The small projection's weights, as the launch reads them. -/
theorem smallW_apply (k : Fin 1024) (j : Fin 384) :
    (V m c main_v4 : Vec Ideal S1024x384 .bf16) (ix2 k j) = smallW (m ((c : Thread nD τ).loc main_arg2) : Vec Ideal S1024x2880 .f32) k j := by
  unfold V
  repeat after_reads_at
  rw [filler]
  exact smallW_eq (m ((c : Thread nD τ).loc main_arg2)) k j

/-- The latent row's weights, as the launch reads them. -/
theorem upW_apply (k : Fin 256) (j : Fin 4096) :
    (V m c main_v20 : Vec Ideal S256x4096 .bf16) (ix2 k j) = upW (m ((c : Thread nD τ).loc main_arg4) : Vec Ideal S256x4096 .f32) k j := by
  unfold V
  repeat after_reads_at
  exact upW_eq (m ((c : Thread nD τ).loc main_arg4)) k j

/-- The gains of the shared lanes, as the launch reads them. -/
theorem sharedGain_apply (j : Fin 128) :
    (V m c main_v25 : Vec Ideal S1x128 .f32) (ix2 0 j) = sharedGain (m ((c : Thread nD τ).loc main_arg5) : Vec Ideal S192 .f32) j := by
  unfold V sharedGain
  repeat after_reads_at
  rw [filler]

/-- The cosines, as the launch reads them. -/
theorem cosLane_apply (r : Fin 4224) (j : Fin 128) :
    (V m c main_v10 : Vec Ideal S4224x128 .f32) (ix2 r j) = cosLane (m ((c : Thread nD τ).loc main_arg6) : Vec Ideal S4224x32 .f32) r j := by
  unfold V
  repeat after_reads_at
  exact cosLane_eq (m ((c : Thread nD τ).loc main_arg6)) r j

/-- Minus the sines, as the launch reads them. -/
theorem minusSinLane_apply (r : Fin 4224) (j : Fin 128) :
    (V m c main_v12 : Vec Ideal S4224x128 .f32) (ix2 r j) = minusSinLane (m ((c : Thread nD τ).loc main_arg7) : Vec Ideal S4224x32 .f32) r j := by
  unfold V
  repeat after_reads_at
  exact minusSinLane_eq (m ((c : Thread nD τ).loc main_arg7)) r j

/-- The sines, as the launch reads them. -/
theorem plusSinLane_apply (r : Fin 4224) (j : Fin 128) :
    (V m c main_v13 : Vec Ideal S4224x128 .f32) (ix2 r j) = plusSinLane (m ((c : Thread nD τ).loc main_arg7) : Vec Ideal S4224x32 .f32) r j := by
  unfold V
  repeat after_reads_at
  exact plusSinLane_eq (m ((c : Thread nD τ).loc main_arg7)) r j

/-- The gains of the plain lanes, as the launch reads them. -/
theorem plainGain_apply (j : Fin 128) :
    (V m c main_v22 : Vec Ideal S1x128 .f32) (ix2 0 j) = (m ((c : Thread nD τ).loc main_arg5) : Vec Ideal S192 .f32) (ix1 ⟨j.val, by omega⟩) := by
  unfold V
  repeat after_reads_at

end Cert.Kernel3Ideal.Kv

end
-- ==== Proof.Kv.Result.lean ====
/- The three result arrays after the launch: every grid point leaves its blocks of the targets. -/
module

public import proofs.«01_k».proof.Proof.Kv.Algebra
public import proofs.«01_k».proof.Proof.Kv.Host
public import Idealize.ShloMosaic.Lib.Pipeline.ValueKit
public import Idealize.ShloMosaic.Lib.Pipeline.Covers

@[expose] public section

set_option maxRecDepth 16384

noncomputable section

namespace Cert.Kernel3Ideal.Kv

open Idealize.ShloMosaic Idealize.ShloMosaic.TcCoe Idealize.SL.Sem Cert.Kernel3Ideal Cert.Kernel3Ideal.Gen Cert.Kv
open Idealize.ShloMosaic.Pipeline (Dat)

/-- A projection against a zero column is zero. -/
theorem logit_zero (h ln : Fin 1024 → EReal) : Cert.Out.logitAt h ln (fun _ => 0) = 0 :=
  Finset.sum_eq_zero fun _ _ => mul_zero _

/-- A whole row read is the row. -/
theorem whole7 (x : Vec Ideal S1x128 .f32) : View.ld x r0_7 = x :=
  View.ld_unit_lit _ x fun a => by match a with | ⟨0, _⟩ => rfl | ⟨1, _⟩ => rfl

/-- A whole block read is the block. -/
theorem whole8 (x : Vec Ideal S384x128 .f32) : View.ld x r0_8 = x :=
  View.ld_unit_lit _ x fun a => by match a with | ⟨0, _⟩ => rfl | ⟨1, _⟩ => rfl

/-- Where an entry of a head's half of the key rows lies in the block. -/
theorem key_emb (o : Fin 2) (n : Fin 16) (r : Fin 384) (d : Fin 128) :
    (keyRect o n).emb (ix4 0 0 r d) = ix4 0 n r ⟨128 * o.val + d.val, by omega⟩ := by
  funext a
  match a with
  | ⟨0, _⟩ => exact Fin.ext ((ValueKit.rect_emb_unit_val (s := S1x16x384x256) ![0, n.val, 0, 128 * o.val] S1x1x384x128.size (keyRoom o n) (ix4 0 0 r d) 0).trans rfl)
  | ⟨1, _⟩ => exact Fin.ext ((ValueKit.rect_emb_unit_val (s := S1x16x384x256) ![0, n.val, 0, 128 * o.val] S1x1x384x128.size (keyRoom o n) (ix4 0 0 r d) 1).trans (Nat.add_zero _))
  | ⟨2, _⟩ => exact Fin.ext ((ValueKit.rect_emb_unit_val (s := S1x16x384x256) ![0, n.val, 0, 128 * o.val] S1x1x384x128.size (keyRoom o n) (ix4 0 0 r d) 2).trans (Nat.zero_add _))
  | ⟨3, _⟩ => exact Fin.ext ((ValueKit.rect_emb_unit_val (s := S1x16x384x256) ![0, n.val, 0, 128 * o.val] S1x1x384x128.size (keyRoom o n) (ix4 0 0 r d) 3).trans rfl)

/-- Where an entry of a head's values lies in the block. -/
theorem value_emb (n : Fin 16) (d : Fin 128) (r : Fin 384) : (valueRect n).emb (ix4 0 0 d r) = ix4 0 n d r := by
  funext a
  match a with
  | ⟨0, _⟩ => exact Fin.ext ((ValueKit.rect_emb_unit_val (s := S1x16x128x384) ![0, n.val, 0, 0] S1x1x128x384.size (valueRoom n) (ix4 0 0 d r) 0).trans rfl)
  | ⟨1, _⟩ => exact Fin.ext ((ValueKit.rect_emb_unit_val (s := S1x16x128x384) ![0, n.val, 0, 0] S1x1x128x384.size (valueRoom n) (ix4 0 0 d r) 1).trans (Nat.add_zero _))
  | ⟨2, _⟩ => exact Fin.ext ((ValueKit.rect_emb_unit_val (s := S1x16x128x384) ![0, n.val, 0, 0] S1x1x128x384.size (valueRoom n) (ix4 0 0 d r) 2).trans (Nat.zero_add _))
  | ⟨3, _⟩ => exact Fin.ext ((ValueKit.rect_emb_unit_val (s := S1x16x128x384) ![0, n.val, 0, 0] S1x1x128x384.size (valueRoom n) (ix4 0 0 d r) 3).trans (Nat.zero_add _))

section
variable (x0 : Vec Ideal S1x384x1024 .f32) (x1 : Vec Ideal S1x1024 .f32) (x2 : Vec Ideal S1024x384 .bf16) (x3 : Vec Ideal S1024x2560 .bf16)
  (x4 : Vec Ideal S1x256 .f32) (x5 : Vec Ideal S256x4096 .bf16) (x6 x7 : Vec Ideal S1x128 .f32) (x8 x9 x10 : Vec Ideal S384x128 .f32)

/-- An entry of a head's lanes, of the small projection `s`. -/
def blockLane (o : Fin 2) (n : Fin 16) (r : Fin 384) (d : Fin 128) : EReal :=
  ∑ k, Cert.Out.normed 0x43800000#32 (fun j : Fin 256 =>
      Cert.Out.logitAt (fun k => x0 (ix3 0 r k)) (fun k => x1 (ix2 0 k)) (fun k => x2 (ix2 k ⟨j.val, by omega⟩))) k
    * x4 (ix2 0 k) * x5 (ix2 k ⟨2048 * o.val + 128 * n.val + d.val, by omega⟩)

/-- A shared lane of the block's rows. -/
def blockShared (r : Fin 384) (d : Fin 128) : EReal :=
  Cert.Out.logitAt (fun k => x0 (ix3 0 r k)) (fun k => x1 (ix2 0 k)) (fun k => x2 (ix2 k ⟨256 + d.val, by omega⟩))

/-- The small projection of the block's rows, entry by entry. -/
theorem small_eq (r : Fin 384) (c : Fin 384) :
    small x0 x1 x2 (ix2 r c) = Cert.Out.logitAt (fun k => x0 (ix3 0 r k)) (fun k => x1 (ix2 0 k)) (fun k => x2 (ix2 k c)) := by
  unfold small
  pointwise [small_apply]

/-- A head's lanes of the block's rows. -/
theorem lanes_eq (o : Fin 2) (n : Fin 16) (r : Fin 384) (d : Fin 128) :
    lanes o n (kvs x0 x1 x2 x4 x5) (ix2 r d) = blockLane x0 x1 x2 x4 x5 o n r d := by
  rw [lanes_apply]
  unfold kvs blockLane
  pointwise [kvs_apply, small_apply]

/-- An entry of the block of gate and query lanes. -/
theorem gates_block (y : S1x384x2560.Idx) :
    out0_11 x0 x1 x2 x3 x4 x5 x6 x7 x8 x9 x10 y
      = Cert.Out.logitAt (fun k => x0 (ix3 0 (y 1) k)) (fun k => x1 (ix2 0 k)) (fun k => x3 (ix2 k (y 2))) := by
  unfold out0_11
  refine View.canon_eq_of_allAt _ _ _ (cover0_11 _ y) fun p hp z hz => ?_
  subst hz
  simp only [List.mem_cons, List.not_mem_nil, or_false] at hp
  subst hp
  obtain ⟨r, d, rfl⟩ : ∃ (r : Fin 384) (d : Fin 2560), z = ix3 0 r d := ⟨z 1, z 2, funext fun a => by
    match a with | ⟨0, _⟩ => exact Subsingleton.elim (α := Fin 1) _ _ | ⟨1, _⟩ => rfl | ⟨2, _⟩ => rfl⟩
  have e : r0_6.emb (ix3 0 r d) = ix3 0 r d := by
    funext a
    match a with
    | ⟨0, _⟩ => rfl
    | ⟨1, _⟩ => exact Fin.ext ((ValueKit.rect_emb_unit_val (s := S1x384x2560) _ S1x384x2560.size _ (ix3 0 r d) 1).trans (Nat.zero_add _))
    | ⟨2, _⟩ => exact Fin.ext ((ValueKit.rect_emb_unit_val (s := S1x384x2560) _ S1x384x2560.size _ (ix3 0 r d) 2).trans (Nat.zero_add _))
  show k0_pay6 (F := Ideal) _ _ (ix3 0 r d) = Cert.Out.logitAt (fun k => x0 (ix3 0 (r0_6.emb (ix3 0 r d) 1) k)) _ (fun k => x3 (ix2 k (r0_6.emb (ix3 0 r d) 2)))
  rw [e]
  pointwise [wide_apply]

/-- An entry of the block of values. -/
theorem values_block (y : S1x16x128x384.Idx) :
    out0_13 x0 x1 x2 x3 x4 x5 x6 x7 x8 x9 x10 y = blockLane x0 x1 x2 x4 x5 1 (y 1) (y 3) (y 2) := by
  rw [values_eq]
  refine View.canon_eq_of_allAt _ _ _ (values_cover _ y) fun p hp z hz => ?_
  subst hz
  obtain ⟨n, rfl⟩ := (List.mem_ofFn' _ _).mp hp
  obtain ⟨d, r, rfl⟩ : ∃ (d : Fin 128) (r : Fin 384), z = ix4 0 0 d r := ⟨z 2, z 3, funext fun a => by
    match a with
    | ⟨0, _⟩ => exact Subsingleton.elim (α := Fin 1) _ _
    | ⟨1, _⟩ => exact Subsingleton.elim (α := Fin 1) _ _
    | ⟨2, _⟩ => rfl
    | ⟨3, _⟩ => rfl⟩
  show valuesT (F := Ideal) _ (ix4 0 0 d r) = blockLane _ _ _ _ _ 1 ((valueRect n.rev).emb (ix4 0 0 d r) 1) ((valueRect n.rev).emb (ix4 0 0 d r) 3)
    ((valueRect n.rev).emb (ix4 0 0 d r) 2)
  rw [value_emb, valuesT_apply, lanes_eq]
  rfl

/-- The key row of the block, before the host's fillings are read. -/
def blockKey (n : Fin 16) (r : Fin 384) (c : Fin 256) : EReal :=
  if h : c.val < 128 then
    blockLane x0 x1 x2 x4 x5 0 n r ⟨c.val, h⟩
      * scaleAt (blockLane x0 x1 x2 x4 x5 0 n r) (fun e => blockShared x0 x1 x2 r e * blockShared x0 x1 x2 r e) * x6 (ix2 0 ⟨c.val, h⟩)
  else
    k0_pay9 (small x0 x1 x2) (View.ld x7 r0_7) (View.ld x8 r0_8) (View.ld x9 r0_8) (View.ld x10 r0_8) (ix2 r ⟨c.val - 128, by omega⟩)
      * scaleAt (blockLane x0 x1 x2 x4 x5 0 n r) (fun e => blockShared x0 x1 x2 r e * blockShared x0 x1 x2 r e)
      + (if c.val - 128 = 64 then Ideal.ofBits .f32 0x3F800000#32 else Ideal.ofBits .f32 0x00000000#32)

/-- An entry of the block of keys. -/
theorem keys_block (y : S1x16x384x256.Idx) :
    out0_12 x0 x1 x2 x3 x4 x5 x6 x7 x8 x9 x10 y = blockKey x0 x1 x2 x4 x5 x6 x7 x8 x9 x10 (y 1) (y 2) (y 3) := by
  rw [keys_eq]
  refine View.canon_eq_of_allAt _ _ _ (keys_cover _ _ _ _ _ y) fun p hp z hz => ?_
  subst hz
  obtain ⟨q, hq, hp⟩ := List.mem_flatten.mp hp
  obtain ⟨n, rfl⟩ := (List.mem_ofFn' _ _).mp hq
  have hl : ∀ r e, lanes 0 n.rev (kvs x0 x1 x2 x4 x5) (ix2 r e) = blockLane x0 x1 x2 x4 x5 0 n.rev r e := lanes_eq x0 x1 x2 x4 x5 0 n.rev
  have hs : ∀ r e, k0_pay8 (small x0 x1 x2) (ix2 r e) = blockShared x0 x1 x2 r e * blockShared x0 x1 x2 r e := fun r e => by
    rw [squares_apply, small_eq]
    rfl
  simp only [List.mem_cons, List.not_mem_nil, or_false] at hp
  rcases hp with rfl | rfl
  · obtain ⟨r, d, rfl⟩ : ∃ (r : Fin 384) (d : Fin 128), z = ix4 0 0 r d := ⟨z 2, z 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
    show highKey (F := Ideal) _ _ _ _ (ix4 0 0 r d) = blockKey _ _ _ _ _ _ _ _ _ _ ((keyRect 1 n.rev).emb (ix4 0 0 r d) 1) ((keyRect 1 n.rev).emb (ix4 0 0 r d) 2)
      ((keyRect 1 n.rev).emb (ix4 0 0 r d) 3)
    rw [key_emb, highKey_apply, ones_apply]
    simp only [hl, hs]
    show _ = blockKey _ _ _ _ _ _ _ _ _ _ n.rev r ⟨128 * 1 + d.val, by omega⟩
    unfold blockKey
    rw [dif_neg (by show ¬(128 * 1 + d.val < 128); omega)]
    have e : (⟨128 * 1 + d.val - 128, by omega⟩ : Fin 128) = d := Fin.ext (by show 128 * 1 + d.val - 128 = d.val; omega)
    simp only [e, show 128 * 1 + d.val - 128 = d.val by omega]
  · obtain ⟨r, d, rfl⟩ : ∃ (r : Fin 384) (d : Fin 128), z = ix4 0 0 r d := ⟨z 2, z 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
    show lowKey (F := Ideal) _ _ _ (ix4 0 0 r d) = blockKey _ _ _ _ _ _ _ _ _ _ ((keyRect 0 n.rev).emb (ix4 0 0 r d) 1) ((keyRect 0 n.rev).emb (ix4 0 0 r d) 2)
      ((keyRect 0 n.rev).emb (ix4 0 0 r d) 3)
    rw [key_emb, lowKey_apply]
    simp only [hl, hs]
    show _ = blockKey _ _ _ _ _ _ _ _ _ _ n.rev r ⟨128 * 0 + d.val, by omega⟩
    unfold blockKey
    rw [dif_pos (by show 128 * 0 + d.val < 128; omega)]
    have e : (⟨128 * 0 + d.val, by omega⟩ : Fin 128) = d := Fin.ext (by show 128 * 0 + d.val = d.val; omega)
    simp only [e]
    pointwise
end

variable (m : (ℓ : Loc nD τ sig) → Buf (Elt Ideal) ℓ)

/-- The blocks every grid point reads and writes. -/
theorem idx : ∀ t : Fin cfg0.N, win0_0.index t = ![(grid0.coords t 0).val, (grid0.coords t 1).val, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![(grid0.coords t 1).val, 0]
    ∧ win0_9.index t = ![(grid0.coords t 1).val, 0] ∧ win0_10.index t = ![(grid0.coords t 1).val, 0]
    ∧ win0_11.index t = ![(grid0.coords t 0).val, (grid0.coords t 1).val, 0]
    ∧ win0_12.index t = ![(grid0.coords t 0).val, 0, (grid0.coords t 1).val, 0]
    ∧ win0_13.index t = ![(grid0.coords t 0).val, 0, 0, (grid0.coords t 1).val] :=
  (by decide +kernel : ∀ t : Fin grid0.N, _)

section
variable (c : Dev nD) (t : Fin cfg0.N)

/-- The batch of a grid point. -/
def batch : Fin 12 := grid0.coords t 0

/-- A row of the whole array from a row of the grid point's block. -/
def row (r : Fin 384) : Fin 4224 := ⟨384 * (grid0.coords t 1).val + r.val, by
  have : (grid0.coords t 1).val < 11 := (grid0.coords t 1).isLt
  omega⟩

/-- The block of residual rows. -/
theorem block0 (r : Fin 384) (k : Fin 1024) : (iblk m c 0 t : Vec Ideal S1x384x1024 .f32) (ix3 0 r k)
    = (m ((c : Thread nD τ).loc main_arg0) : Vec Ideal S12x4224x1024 .f32) (ix3 (batch t) (row t r) k) := by
  unfold batch row
  blk_point [iblk, V_main_arg0, idx t]

/-- The weights of the residual row. -/
theorem block1 (k : Fin 1024) : (iblk m c 1 t : Vec Ideal S1x1024 .f32) (ix2 0 k)
    = (m ((c : Thread nD τ).loc main_arg1) : Vec Ideal S1x1024 .f32) (ix2 0 k) := by
  blk_point [iblk, V_main_arg1, idx t]

/-- The small projection's weights. -/
theorem block2 (k : Fin 1024) (j : Fin 384) : (iblk m c 2 t : Vec Ideal S1024x384 .bf16) (ix2 k j)
    = smallW (m ((c : Thread nD τ).loc main_arg2)) k j := by
  refine Eq.trans ?_ (smallW_apply m c k j)
  blk_point [iblk, idx t]

/-- The wide projection's weights. -/
theorem block3 (k : Fin 1024) (j : Fin 2560) : (iblk m c 3 t : Vec Ideal S1024x2560 .bf16) (ix2 k j)
    = wideW (m ((c : Thread nD τ).loc main_arg2)) k j := by
  refine Eq.trans ?_ (wideW_apply m c k j)
  blk_point [iblk, idx t]

/-- The weights of the latent row. -/
theorem block4 (k : Fin 256) : (iblk m c 4 t : Vec Ideal S1x256 .f32) (ix2 0 k)
    = (m ((c : Thread nD τ).loc main_arg3) : Vec Ideal S1x256 .f32) (ix2 0 k) := by
  blk_point [iblk, V_main_arg3, idx t]

/-- The latent row's columns. -/
theorem block5 (k : Fin 256) (j : Fin 4096) : (iblk m c 5 t : Vec Ideal S256x4096 .bf16) (ix2 k j)
    = upW (m ((c : Thread nD τ).loc main_arg4)) k j := by
  refine Eq.trans ?_ (upW_apply m c k j)
  blk_point [iblk, idx t]

/-- The gains of the plain lanes. -/
theorem block6 (j : Fin 128) : (iblk m c 6 t : Vec Ideal S1x128 .f32) (ix2 0 j)
    = (m ((c : Thread nD τ).loc main_arg5) : Vec Ideal S192 .f32) (ix1 ⟨j.val, by omega⟩) := by
  refine Eq.trans ?_ (plainGain_apply m c j)
  blk_point [iblk, idx t]

/-- The gains of the shared lanes. -/
theorem block7 (j : Fin 128) : (iblk m c 7 t : Vec Ideal S1x128 .f32) (ix2 0 j)
    = sharedGain (m ((c : Thread nD τ).loc main_arg5)) j := by
  refine Eq.trans ?_ (sharedGain_apply m c j)
  blk_point [iblk, idx t]

/-- The cosines of the block's rows. -/
theorem block8 (r : Fin 384) (j : Fin 128) : (iblk m c 8 t : Vec Ideal S384x128 .f32) (ix2 r j)
    = cosLane (m ((c : Thread nD τ).loc main_arg6)) (row t r) j := by
  refine Eq.trans ?_ (cosLane_apply m c (row t r) j)
  unfold row
  blk_point [iblk, idx t]

/-- Minus the sines of the block's rows. -/
theorem block9 (r : Fin 384) (j : Fin 128) : (iblk m c 9 t : Vec Ideal S384x128 .f32) (ix2 r j)
    = minusSinLane (m ((c : Thread nD τ).loc main_arg7)) (row t r) j := by
  refine Eq.trans ?_ (minusSinLane_apply m c (row t r) j)
  unfold row
  blk_point [iblk, idx t]

/-- The sines of the block's rows. -/
theorem block10 (r : Fin 384) (j : Fin 128) : (iblk m c 10 t : Vec Ideal S384x128 .f32) (ix2 r j)
    = plusSinLane (m ((c : Thread nD τ).loc main_arg7)) (row t r) j := by
  refine Eq.trans ?_ (plusSinLane_apply m c (row t r) j)
  unfold row
  blk_point [iblk, idx t]

/-- A projection of the block's row, with any column that agrees. -/
theorem proj_eq (r : Fin 384) (f : Fin 1024 → EReal) (j : Fin 2880)
    (h : ∀ k, f k = (m ((c : Thread nD τ).loc main_arg2) : Vec Ideal S1024x2880 .f32) (ix2 k j)) :
    Cert.Out.logitAt (fun k => (iblk m c 0 t : Vec Ideal S1x384x1024 .f32) (ix3 0 r k)) (fun k => (iblk m c 1 t : Vec Ideal S1x1024 .f32) (ix2 0 k)) f
      = rowProj (m ((c : Thread nD τ).loc main_arg0)) (m ((c : Thread nD τ).loc main_arg1)) (m ((c : Thread nD τ).loc main_arg2))
          (batch t) (row t r) j := by
  unfold rowProj projAt
  simp only [block0, block1]
  exact congrArg _ (funext h)

/-- A shared lane of the block's row: the projections' lane, or a zero. -/
theorem shared_eq (r : Fin 384) (d : Fin 128) :
    blockShared (iblk m c 0 t) (iblk m c 1 t) (iblk m c 2 t) r d
      = filled (fun e => rowProj (m ((c : Thread nD τ).loc main_arg0)) (m ((c : Thread nD τ).loc main_arg1)) (m ((c : Thread nD τ).loc main_arg2))
          (batch t) (row t r) ⟨768 + e.val, by omega⟩) d := by
  unfold blockShared filled
  by_cases h : d.val < 64
  · rw [dif_pos h]
    refine proj_eq m c t r _ _ fun k => ?_
    rw [block2]
    unfold smallW
    rw [dif_pos (by show 256 + d.val < 320; omega)]
    exact column (M := 2880) (m ((c : Thread nD τ).loc main_arg2)) k (by show 512 + (256 + d.val) = 768 + d.val; omega)
  · rw [dif_neg h]
    refine (congrArg (Cert.Out.logitAt _ _) (funext fun k => ?_)).trans (logit_zero _ _)
    refine (block2 m c t k _).trans ?_
    unfold smallW
    rw [dif_neg (by show ¬(256 + d.val < 320); omega)]

/-- A head's lane of the block's row: the target's. -/
theorem lane_eq (o : Fin 2) (n : Fin 16) (r : Fin 384) (d : Fin 128) :
    blockLane (iblk m c 0 t) (iblk m c 1 t) (iblk m c 2 t) (iblk m c 4 t) (iblk m c 5 t) o n r d
      = rowKv (m ((c : Thread nD τ).loc main_arg0)) (m ((c : Thread nD τ).loc main_arg1)) (m ((c : Thread nD τ).loc main_arg2))
          (m ((c : Thread nD τ).loc main_arg3)) (m ((c : Thread nD τ).loc main_arg4)) (batch t) (row t r) n o d := by
  unfold blockLane rowKv kvAt latentAt
  refine Finset.sum_congr rfl fun k _ => ?_
  rw [block4, block5]
  refine congrArg₂ (· * ·) (congrArg (· * _) (congrArg (fun f => Cert.Out.normed 0x43800000#32 f k) (funext fun j => ?_))) ?_
  · refine proj_eq m c t r _ _ fun k => ?_
    rw [block2]
    unfold smallW
    rw [dif_pos (by show j.val < 320; omega)]
  · unfold upW
    match o with
    | 0 =>
      rw [dif_pos (by show 2048 * 0 + 128 * n.val + d.val < 2048; omega)]
      exact column (M := 4096) (m ((c : Thread nD τ).loc main_arg4)) k
        (by show 256 * ((2048 * 0 + 128 * n.val + d.val) / 128) + (2048 * 0 + 128 * n.val + d.val) % 128 = 256 * n.val + 128 * 0 + d.val; omega)
    | 1 =>
      rw [dif_neg (by show ¬(2048 * 1 + 128 * n.val + d.val < 2048); omega)]
      exact column (M := 4096) (m ((c : Thread nD τ).loc main_arg4)) k
        (by show 256 * ((2048 * 1 + 128 * n.val + d.val - 2048) / 128) + 128 + (2048 * 1 + 128 * n.val + d.val) % 128
              = 256 * n.val + 128 * 1 + d.val; omega)

/-- A key row of the block: the target's. -/
theorem key_eq (n : Fin 16) (r : Fin 384) (l : Fin 256) :
    blockKey (iblk m c 0 t) (iblk m c 1 t) (iblk m c 2 t) (iblk m c 4 t) (iblk m c 5 t) (iblk m c 6 t) (iblk m c 7 t) (iblk m c 8 t)
        (iblk m c 9 t) (iblk m c 10 t) n r l
      = keyRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (batch t) (row t r) n l := by
  have hl : blockLane (iblk m c 0 t) (iblk m c 1 t) (iblk m c 2 t) (iblk m c 4 t) (iblk m c 5 t) 0 n r = _ := funext fun d => lane_eq m c t 0 n r d
  have hs : ∀ d, blockShared (iblk m c 0 t) (iblk m c 1 t) (iblk m c 2 t) r d = _ := shared_eq m c t r
  have hq : ∀ d : Fin 128, small (iblk m c 0 t) (iblk m c 1 t) (iblk m c 2 t) (ix2 r ⟨256 + d.val, by omega⟩) = _ := fun d =>
    (small_eq _ _ _ r _).trans (hs d)
  have hk := scale_eq (rowKv (m ((c : Thread nD τ).loc main_arg0)) (m ((c : Thread nD τ).loc main_arg1)) (m ((c : Thread nD τ).loc main_arg2))
    (m ((c : Thread nD τ).loc main_arg3)) (m ((c : Thread nD τ).loc main_arg4)) (batch t) (row t r) n 0)
    (fun e => rowProj (m ((c : Thread nD τ).loc main_arg0)) (m ((c : Thread nD τ).loc main_arg1)) (m ((c : Thread nD τ).loc main_arg2))
          (batch t) (row t r) ⟨768 + e.val, by omega⟩)
  unfold blockKey
  simp only [hl, hs]
  rw [hk]
  by_cases h : l.val < 128
  · rw [dif_pos h, block6]
    unfold keyRow keyAt
    rw [dif_pos h]
  · rw [dif_neg h]
    have hz : Ideal.ofBits .f32 0x00000000#32 = 0 := Cert.Reference2Ideal.Out.zero_bits
    have ho : Ideal.ofBits .f32 0x3F800000#32 = 1 := Cert.Reference2Ideal.Out.one_bits
    rw [hz, ho, rotated_apply]
    have hrot := rotated_eq (rowKv (m ((c : Thread nD τ).loc main_arg0)) (m ((c : Thread nD τ).loc main_arg1)) (m ((c : Thread nD τ).loc main_arg2))
      (m ((c : Thread nD τ).loc main_arg3)) (m ((c : Thread nD τ).loc main_arg4)) (batch t) (row t r) n 0)
      (fun e => rowProj (m ((c : Thread nD τ).loc main_arg0)) (m ((c : Thread nD τ).loc main_arg1)) (m ((c : Thread nD τ).loc main_arg2))
          (batch t) (row t r) ⟨768 + e.val, by omega⟩)
      (m ((c : Thread nD τ).loc main_arg5)) (m ((c : Thread nD τ).loc main_arg6)) (m ((c : Thread nD τ).loc main_arg7)) (row t r)
      ⟨l.val - 128, by omega⟩
    have e : (⟨128 + (l.val - 128), by omega⟩ : Fin 256) = l := Fin.ext (by show 128 + (l.val - 128) = l.val; omega)
    refine Eq.trans ?_ (hrot.trans (congrArg (keyAt _ _ _ _ _) e))
    refine congrArg (· + _) (congrArg (· * _) ?_)
    unfold rotatedAt
    have g : ∀ j, View.ld (iblk m c 7 t : Vec Ideal S1x128 .f32) r0_7 (ix2 0 j) = _ := fun j =>
      (congrFun (whole7 _) _).trans (block7 m c t j)
    exact congrArg₂ (· + ·) (congrArg₂ (· + ·)
        (congrArg₂ (· * ·) (congrArg₂ (· * ·) (hq _) (g _)) ((congrFun (whole8 _) _).trans (block8 m c t r _)))
        (congrArg₂ (· * ·) (congrArg₂ (· * ·) (hq ⟨_, by omega⟩) (g _)) ((congrFun (whole8 _) _).trans (block9 m c t r _))))
      (congrArg₂ (· * ·) (congrArg₂ (· * ·) (hq ⟨_, by omega⟩) (g _)) ((congrFun (whole8 _) _).trans (block10 m c t r _)))

/-- A column of the wide projection's weights: a column of the projections'. -/
theorem wide_column (k : Fin 1024) (j : Fin 2560) : (iblk m c 3 t : Vec Ideal S1024x2560 .bf16) (ix2 k j)
    = (m ((c : Thread nD τ).loc main_arg2) : Vec Ideal S1024x2880 .f32) (ix2 k (gateLane j)) := by
  rw [block3]
  unfold wideW gateLane
  by_cases h : j.val < 2048
  · rw [dif_pos h]
    exact column (M := 2880) (m ((c : Thread nD τ).loc main_arg2)) k (if_pos h).symm
  · rw [dif_neg h]
    exact column (M := 2880) (m ((c : Thread nD τ).loc main_arg2)) k (if_neg h).symm

end

/-- The array of gate and query lanes after the launch. -/
theorem gates_result (c : Dev nD) :
    (dats m 0 c).arrAt 11 (cfgs 0).N
      = gatesArr (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  refine (gates_block _ _ _ _ _ _ _ _ _ _ _ y).trans ?_
  refine (proj_eq m c t (y 1) _ (gateLane (y 2)) fun k => wide_column m c t k _).trans ?_
  show gatesArr _ _ _ (ix3 (batch t) (row t (y 1)) (y 2)) = gatesArr _ _ _ _
  unfold batch row
  blk_ext [idx t]

/-- The key array after the launch. -/
theorem keys_result (c : Dev nD) :
    (dats m 0 c).arrAt 12 (cfgs 0).N
      = keysArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 12 _ (by decide +kernel) fun t hf y => ?_
  blk_simp
  rw [after0_12]
  refine (keys_block _ _ _ _ _ _ _ _ _ _ _ y).trans ?_
  refine (key_eq m c t _ _ _).trans ?_
  show keysArr _ _ _ _ _ _ _ _ (ix4 (batch t) (y 1) (row t (y 2)) (y 3)) = keysArr _ _ _ _ _ _ _ _ _
  unfold batch row
  blk_ext [idx t]

/-- The value array after the launch. -/
theorem values_result (c : Dev nD) :
    (dats m 0 c).arrAt 13 (cfgs 0).N
      = valuesArr (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 13 _ (by decide +kernel) fun t hf y => ?_
  blk_simp
  rw [after0_13]
  refine (values_block _ _ _ _ _ _ _ _ _ _ _ y).trans ?_
  refine (lane_eq m c t 1 _ _ _).trans ?_
  show valuesArr _ _ _ _ _ (ix4 (batch t) (y 1) (y 2) (row t (y 3))) = valuesArr _ _ _ _ _ _
  unfold batch row
  blk_ext [idx t]

end Cert.Kernel3Ideal.Kv

end
-- ==== Proof.Kv.Reference.lean ====
/- The reference's latent key and value projection, entry by entry: it is the target. -/
module

public import proofs.«01_k».proof.Proof.Kv.Target
public import proofs.«01_k».proof.Proof.Out.Reference
public import proofs.«01_k».proof.Proof.Gen.Reference3Ideal.Read
public import Idealize.ShloMosaic.Lib.Pointwise
public import Idealize.ShloMosaic.Lib.Pipeline.ValueKit
public import Idealize.ShloMosaic.Lib.Pipeline.Value

@[expose] public section

set_option maxRecDepth 16384

noncomputable section

namespace Cert.Reference3Ideal.Kv

open Idealize.ShloMosaic Idealize.ShloMosaic.TcCoe Idealize.SL.Sem Cert.Reference3Ideal Cert.Reference3Ideal.Read Cert.Kv

variable (h : (⟨S12x4224x1024, .f32⟩ : BufTy).Contents (Elt Ideal)) (ln : (⟨S1x1024, .f32⟩ : BufTy).Contents (Elt Ideal))
  (w : (⟨S1024x2880, .f32⟩ : BufTy).Contents (Elt Ideal)) (g : (⟨S1x256, .f32⟩ : BufTy).Contents (Elt Ideal))
  (u : (⟨S256x4096, .f32⟩ : BufTy).Contents (Elt Ideal)) (gk : (⟨S192, .f32⟩ : BufTy).Contents (Elt Ideal))
  (co si : (⟨S4224x32, .f32⟩ : BufTy).Contents (Elt Ideal))

/-- The projections of a row. -/
theorem proj_apply (b : Fin 12) (r : Fin 4224) (c : Fin 2880) :
    val_main_v13 (F := Ideal) h ln w (ix3 b r c) = rowProj h ln w b r c := by
  pointwise [val_main_v0, val_main_cst, val_main_v1, val_main_v2, val_main_cst_0, val_main_v3, val_main_v4, val_main_cst_1,
    val_main_v5, val_main_v6, val_main_v7, val_main_v8, val_main_v9, val_main_v10, val_main_v11, val_main_v12, val_main_v13,
    rowProj, projAt, Cert.Out.logitAt, Cert.Out.normed]

/-- The latent row against a column. -/
theorem kv_apply (b : Fin 12) (r : Fin 4224) (c : Fin 4096) :
    val_main_v31 (F := Ideal) h ln w g u (ix3 b r c) = kvAt (rowProj h ln w b r) (fun i => g (ix2 0 i)) u c := by
  pointwise [val_main_v15, val_main_v16, val_main_cst_2, val_main_v17, val_main_v18, val_main_cst_3, val_main_v19, val_main_v20,
    val_main_cst_4, val_main_v21, val_main_v22, val_main_v23, val_main_v24, val_main_v25, val_main_v26, val_main_v27, val_main_v28,
    val_main_v31, proj_apply, kvAt, latentAt, Cert.Out.normed]

/-- A head's plain key lane. -/
theorem plain_apply (b : Fin 12) (r : Fin 4224) (n : Fin 16) (d : Fin 128) :
    val_main_v33 (F := Ideal) h ln w g u (ix4 b r n d) = rowKv h ln w g u b r n 0 d := by
  pointwise [val_main_v32, val_main_v33, kv_apply, rowKv]
  exact congrArg _ (Fin.ext (by simp [Nat.mul_comm]))

/-- A head's value lane. -/
theorem value_apply (b : Fin 12) (r : Fin 4224) (n : Fin 16) (d : Fin 128) :
    val_main_v34 (F := Ideal) h ln w g u (ix4 b r n d) = rowKv h ln w g u b r n 1 d := by
  pointwise [val_main_v32, val_main_v34, kv_apply, rowKv]
  exact congrArg _ (Fin.ext (by simp; omega))

/-- A key lane, before its norm. -/
theorem key_apply (b : Fin 12) (r : Fin 4224) (n : Fin 16) (d : Fin 192) :
    val_main_v37 (F := Ideal) h ln w g u (ix4 b r n d)
      = if h' : d.val < 128 then rowKv h ln w g u b r n 0 ⟨d.val, h'⟩ else rowProj h ln w b r ⟨768 + (d.val - 128), by omega⟩ := by
  pointwise [val_main_v29, val_main_v35, val_main_v36, val_main_v37, plain_apply, proj_apply]

/-- A key lane, normalised and weighted. -/
theorem normed_apply (b : Fin 12) (r : Fin 4224) (n : Fin 16) (d : Fin 192) :
    val_main_v50 (F := Ideal) h ln w g u gk (ix4 b r n d)
      = (if h' : d.val < 128 then rowKv h ln w g u b r n 0 ⟨d.val, h'⟩ else rowProj h ln w b r ⟨768 + (d.val - 128), by omega⟩)
        * keyScale (rowKv h ln w g u b r n 0) (fun e => rowProj h ln w b r ⟨768 + e.val, by omega⟩) * gk (ix1 d) := by
  pointwise [val_main_v38, val_main_cst_5, val_main_v39, val_main_v40, val_main_cst_6, val_main_v41, val_main_v42, val_main_cst_7, val_main_v43,
    val_main_v44, val_main_v45, val_main_v46, val_main_v47, val_main_v48, val_main_v49, val_main_v50, key_apply, keyScale]

/-- A key row read along the joins of the reference. -/
theorem lanes (k : Fin 128 → EReal) (p : Fin 2880 → EReal) (g : Fin 192 → EReal) (co si : Fin 32 → EReal) (t : EReal) (c : Fin 256)
    (ht : t = keyScale k fun e => p ⟨768 + e.val, by omega⟩) :
    (if h1 : c.val < 128 then
        (if h2 : c.val < 128 then k ⟨c.val, h2⟩ else p ⟨768 + (c.val - 128), by omega⟩) * t * g ⟨c.val, by omega⟩
      else if h2 : c.val - 128 < 64 then
        if h3 : c.val - 128 < 32 then
          p ⟨768 + (c.val - 128), by omega⟩ * t * g ⟨128 + (c.val - 128), by omega⟩ * co ⟨c.val - 128, h3⟩
            - p ⟨768 + (32 + (c.val - 128)), by omega⟩ * t * g ⟨128 + (32 + (c.val - 128)), by omega⟩ * si ⟨c.val - 128, h3⟩
        else
          p ⟨768 + (32 + (c.val - 128 - 32)), by omega⟩ * t * g ⟨128 + (32 + (c.val - 128 - 32)), by omega⟩ * co ⟨c.val - 128 - 32, by omega⟩
            + p ⟨768 + (c.val - 128 - 32), by omega⟩ * t * g ⟨128 + (c.val - 128 - 32), by omega⟩ * si ⟨c.val - 128 - 32, by omega⟩
      else if _h3 : c.val - 128 - 64 < 1 then 1 else 0)
    = keyAt k (fun e => p ⟨768 + e.val, by omega⟩) g co si c := by
  subst ht
  unfold keyAt
  by_cases h1 : c.val < 128
  · rw [dif_pos h1, dif_pos h1, dif_pos h1]
  rw [dif_neg h1, dif_neg h1]
  by_cases h2 : c.val < 160
  · have e : 32 + (c.val - 128) = c.val - 96 := by omega
    have e1 : 128 + (c.val - 128) = c.val := by omega
    have e2 : 128 + (c.val - 96) = c.val + 32 := by omega
    rw [dif_pos (by omega : c.val - 128 < 64), dif_pos (by omega : c.val - 128 < 32), dif_pos h2]
    simp only [e, e1, e2]
  rw [dif_neg h2]
  by_cases h3 : c.val < 192
  · have e0 : c.val - 128 - 32 = c.val - 160 := by omega
    have e : 32 + (c.val - 160) = c.val - 128 := by omega
    have e1 : 128 + (c.val - 128) = c.val := by omega
    have e2 : 128 + (c.val - 160) = c.val - 32 := by omega
    rw [dif_pos (by omega : c.val - 128 < 64), dif_neg (by omega : ¬ c.val - 128 < 32), dif_pos h3]
    simp only [e0, e, e1, e2]
  rw [dif_neg h3, dif_neg (by omega : ¬ c.val - 128 < 64)]
  by_cases h4 : c.val = 192
  · rw [dif_pos (by omega : c.val - 128 - 64 < 1), if_pos h4]
  · rw [dif_neg (by omega : ¬ c.val - 128 - 64 < 1), if_neg h4]

/-- The gate and query lanes. -/
theorem gates : val_main_v76 (F := Ideal) h ln w = gatesArr h ln w := by
  funext i
  obtain ⟨b, r, c, rfl⟩ : ∃ (b : Fin 12) (r : Fin 4224) (c : Fin 2560), i = ix3 b r c := ⟨i 0, i 1, i 2, funext fun a => by
    match a with | ⟨0, _⟩ => rfl | ⟨1, _⟩ => rfl | ⟨2, _⟩ => rfl⟩
  show _ = rowProj h ln w b r (gateLane c)
  pointwise [val_main_v14, val_main_v30, val_main_v75, val_main_v76, proj_apply]
  by_cases h0 : c.val < 2048
  · rw [dif_pos h0]; exact congrArg _ (Fin.ext (by simp [gateLane, h0]))
  · rw [dif_neg h0]; exact congrArg _ (Fin.ext (by simp [gateLane, h0]))

/-- The values. -/
theorem values : val_main_v80 (F := Ideal) h ln w g u = valuesArr h ln w g u := by
  funext i
  obtain ⟨b, n, d, r, rfl⟩ : ∃ (b : Fin 12) (n : Fin 16) (d : Fin 128) (r : Fin 4224), i = ix4 b n d r := ⟨i 0, i 1, i 2, i 3, funext fun a => by
    match a with | ⟨0, _⟩ => rfl | ⟨1, _⟩ => rfl | ⟨2, _⟩ => rfl | ⟨3, _⟩ => rfl⟩
  show _ = rowKv h ln w g u b r n 1 d
  pointwise [val_main_v79, val_main_v80, value_apply]

/-- The keys. -/
theorem keys : val_main_v78 (F := Ideal) h ln w g u gk co si = keysArr h ln w g u gk co si := by
  funext i
  obtain ⟨b, n, r, c, rfl⟩ : ∃ (b : Fin 12) (n : Fin 16) (r : Fin 4224) (c : Fin 256), i = ix4 b n r c := ⟨i 0, i 1, i 2, i 3, funext fun a => by
    match a with | ⟨0, _⟩ => rfl | ⟨1, _⟩ => rfl | ⟨2, _⟩ => rfl | ⟨3, _⟩ => rfl⟩
  show _ = keyRow h ln w g u gk co si b r n c
  pointwise [val_main_v51, val_main_v52, val_main_v53, val_main_v54, val_main_v55, val_main_v56, val_main_v57, val_main_v58,
    val_main_v59, val_main_v60, val_main_v61, val_main_v62, val_main_v63, val_main_v64, val_main_v65, val_main_v66, val_main_v67,
    val_main_v68, val_main_v69, val_main_v70, val_main_v71, val_main_cst_8, val_main_v72, val_main_cst_9, val_main_v73, val_main_v74,
    val_main_v77, val_main_v78, normed_apply]
  exact lanes (rowKv h ln w g u b r n 0) (rowProj h ln w b r) (fun d => gk (ix1 d)) (fun d => co (ix2 r d)) (fun d => si (ix2 r d)) _ c rfl

end Cert.Reference3Ideal.Kv

end
-- ==== Proof.Kv.Claim.lean ====
/- The claims of the latent key and value projection: its run from any arguments, and kernel and reference ending with
   the same three result arrays. -/
module

public import proofs.«01_k».proof.Defs
public import proofs.«01_k».proof.Proof.Kv.Result
public import proofs.«01_k».proof.Proof.Kv.Reference
public import proofs.«01_k».proof.Proof.Gen.Kernel3.Frame
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import Idealize.ShloMosaic.Lib.Claim

@[expose] public section

set_option maxRecDepth 16384

noncomputable section

namespace Cert.Kv

open Idealize.ShloMosaic Idealize.ShloMosaic.TcCoe Idealize.SL.Sem

/-- The reference's frame: its run leaves the arguments unchanged, and it declares no semaphore. -/
theorem reference_frame : Cert.quiescent_Reference3Ideal (hReference3Ideal := Cert.Reference3Ideal.Gen.facts) := fun m g _ =>
  (θ_run _ _ _).mono (fun r h => ⟨fun c => (h c).2.2.2, sem_eq_zero_of_no_sems (by decide) r.2⟩) (Cert.Reference3Ideal.Value.run m g)

/-- The named constant is the reciprocal of the count of key lanes. -/
theorem constant : Cert.preserves_Kernel3_Kernel3Ideal := IdealRules.named_const.statement Cert.Kernel3Ideal.κ "inv_dqk" .f32 0x3BAAAAAB#32 ((1 / 192 : ℝ) : EReal) rfl

/-- The kernel's run ends with the targets of its arguments as the results. -/
theorem kernel_run (m : (ℓ : Loc Cert.Kernel3Ideal.nD Cert.Kernel3Ideal.τ Cert.Kernel3Ideal.sig) → Buf (Elt Ideal) ℓ)
    (g : Dev Cert.Kernel3Ideal.nD → PrngReg) :
    θ_run (Cert.Kernel3Ideal.defs (F := Ideal)) (onTc (τ := Cert.Kernel3Ideal.τ) (Cert.Kernel3Ideal.main (F := Ideal))) ⟨m, fun _ => 0, g⟩
      (fun r => ∀ c : Dev Cert.Kernel3Ideal.nD,
        r.2.mem ((c.tc : Thread Cert.Kernel3Ideal.nD Cert.Kernel3Ideal.τ).loc Cert.Kernel3Ideal.main_v26_0)
            = gatesArr
                (m ((c.tc : Thread Cert.Kernel3Ideal.nD Cert.Kernel3Ideal.τ).loc Cert.Kernel3Ideal.main_arg0))
                (m ((c.tc : Thread Cert.Kernel3Ideal.nD Cert.Kernel3Ideal.τ).loc Cert.Kernel3Ideal.main_arg1))
                (m ((c.tc : Thread Cert.Kernel3Ideal.nD Cert.Kernel3Ideal.τ).loc Cert.Kernel3Ideal.main_arg2))
        ∧ r.2.mem ((c.tc : Thread Cert.Kernel3Ideal.nD Cert.Kernel3Ideal.τ).loc Cert.Kernel3Ideal.main_v26_1)
            = keysArr
                (m ((c.tc : Thread Cert.Kernel3Ideal.nD Cert.Kernel3Ideal.τ).loc Cert.Kernel3Ideal.main_arg0))
                (m ((c.tc : Thread Cert.Kernel3Ideal.nD Cert.Kernel3Ideal.τ).loc Cert.Kernel3Ideal.main_arg1))
                (m ((c.tc : Thread Cert.Kernel3Ideal.nD Cert.Kernel3Ideal.τ).loc Cert.Kernel3Ideal.main_arg2))
                (m ((c.tc : Thread Cert.Kernel3Ideal.nD Cert.Kernel3Ideal.τ).loc Cert.Kernel3Ideal.main_arg3))
                (m ((c.tc : Thread Cert.Kernel3Ideal.nD Cert.Kernel3Ideal.τ).loc Cert.Kernel3Ideal.main_arg4))
                (m ((c.tc : Thread Cert.Kernel3Ideal.nD Cert.Kernel3Ideal.τ).loc Cert.Kernel3Ideal.main_arg5))
                (m ((c.tc : Thread Cert.Kernel3Ideal.nD Cert.Kernel3Ideal.τ).loc Cert.Kernel3Ideal.main_arg6))
                (m ((c.tc : Thread Cert.Kernel3Ideal.nD Cert.Kernel3Ideal.τ).loc Cert.Kernel3Ideal.main_arg7))
        ∧ r.2.mem ((c.tc : Thread Cert.Kernel3Ideal.nD Cert.Kernel3Ideal.τ).loc Cert.Kernel3Ideal.main_v26_2)
            = valuesArr
                (m ((c.tc : Thread Cert.Kernel3Ideal.nD Cert.Kernel3Ideal.τ).loc Cert.Kernel3Ideal.main_arg0))
                (m ((c.tc : Thread Cert.Kernel3Ideal.nD Cert.Kernel3Ideal.τ).loc Cert.Kernel3Ideal.main_arg1))
                (m ((c.tc : Thread Cert.Kernel3Ideal.nD Cert.Kernel3Ideal.τ).loc Cert.Kernel3Ideal.main_arg2))
                (m ((c.tc : Thread Cert.Kernel3Ideal.nD Cert.Kernel3Ideal.τ).loc Cert.Kernel3Ideal.main_arg3))
                (m ((c.tc : Thread Cert.Kernel3Ideal.nD Cert.Kernel3Ideal.τ).loc Cert.Kernel3Ideal.main_arg4))) :=
  (θ_run _ _ _).mono (fun r h c => ⟨((h c).1 11).trans (Cert.Kernel3Ideal.Kv.gates_result m c),
    ((h c).1 12).trans (Cert.Kernel3Ideal.Kv.keys_result m c), ((h c).1 13).trans (Cert.Kernel3Ideal.Kv.values_result m c)⟩)
    (Cert.Kernel3Ideal.Gen.run_main m g)

/-- From equal arguments, kernel and reference end with the same three result arrays. -/
theorem projection : Cert.algebraic_Kernel3Ideal_Reference3Ideal (hKernel3Ideal := Cert.Kernel3Ideal.Gen.facts)
    (hReference3Ideal := Cert.Reference3Ideal.Gen.facts) := by
  intro m g m' g' _ hagree
  refine ⟨_, _, _, θ_run_and (kernel_run m g) (Cert.Kernel3Ideal.Gen.unchanged m g)
    |> (θ_run _ _ _).mono fun r h c => ⟨(h.1 c).1, (h.1 c).2.1, (h.1 c).2.2, h.2 c⟩, ?_⟩
  refine (θ_run _ _ _).mono (fun r h c => ⟨(h c).1.trans ?_, (h c).2.1.trans ?_, (h c).2.2.1.trans ?_, (h c).2.2.2⟩)
    (Cert.Reference3Ideal.Value.run m' g')
  · obtain ⟨e0, e1, e2, e3, e4, e5, e6, e7⟩ := hagree c
    rw [Cert.Reference3Ideal.Read.val_main_v76_eq, e0, e1, e2]
    exact Cert.Reference3Ideal.Kv.gates _ _ _
  · obtain ⟨e0, e1, e2, e3, e4, e5, e6, e7⟩ := hagree c
    rw [Cert.Reference3Ideal.Read.val_main_v78_eq, e0, e1, e2, e3, e4, e5, e6, e7]
    exact Cert.Reference3Ideal.Kv.keys _ _ _ _ _ _ _ _
  · obtain ⟨e0, e1, e2, e3, e4, e5, e6, e7⟩ := hagree c
    rw [Cert.Reference3Ideal.Read.val_main_v80_eq, e0, e1, e2, e3, e4]
    exact Cert.Reference3Ideal.Kv.values _ _ _ _ _

end Cert.Kv

end
-- ==== Proof.Mq.Target.lean ====
/- What the latent query projection computes, entry by entry over the extended reals. -/
module

public import proofs.«01_k».proof.Proof.Out.Target
public import proofs.«01_k».proof.Proof.Gen.Kernel4Ideal.Frame

@[expose] public section

noncomputable section

namespace Cert.Mq

open Idealize.ShloMosaic Cert.Kernel4Ideal

/-- The score scale, as its word spells it. -/
def scoreScale : EReal := Ideal.ofBits .f32 0x3DD53B95#32

/-- The latent row, normalised and weighted by `ln`, against one column. -/
def queryAt (x ln col : Fin 512 → EReal) : EReal := ∑ k, Cert.Out.normed 0x44000000#32 x k * ln k * col k

/-- A lane of a head's query, normalised and weighted. -/
def weighted (q g : Fin 192 → EReal) (d : Fin 192) : EReal := Cert.Out.normed 0x43400000#32 q d * g d

/-- Row `c` of a head's query column: the plain lanes, the lanes rotated, all times the score scale; the shift; zeros. -/
def rowAt (q g : Fin 192 → EReal) (co si : Fin 32 → EReal) (shift : EReal) (c : Fin 256) : EReal :=
  if h0 : c.val < 128 then weighted q g ⟨c.val, by omega⟩ * scoreScale
  else if h1 : c.val < 160 then
    (weighted q g ⟨c.val, by omega⟩ * co ⟨c.val - 128, by omega⟩ - weighted q g ⟨c.val + 32, by omega⟩ * si ⟨c.val - 128, by omega⟩) * scoreScale
  else if h2 : c.val < 192 then
    (weighted q g ⟨c.val, by omega⟩ * co ⟨c.val - 160, by omega⟩ + weighted q g ⟨c.val - 32, by omega⟩ * si ⟨c.val - 160, by omega⟩) * scoreScale
  else if c.val = 192 then shift else 0

/-- A lane of a head's query at one row. -/
def lane (p : Vec Ideal S12x4224x2560 .bf16) (ln : Vec Ideal S1x512 .f32) (w : Vec Ideal S512x3072 .f32) (b : Fin 12) (r : Fin 4224)
    (n : Fin 16) (d : Fin 192) : EReal :=
  queryAt (fun k => p (ix3 b r ⟨2048 + k.val, by omega⟩)) (fun k => ln (ix2 0 k)) (fun k => w (ix2 k ⟨192 * n.val + d.val, by omega⟩))

/-- An entry of the result. -/
def entryAt (p : Vec Ideal S12x4224x2560 .bf16) (ln : Vec Ideal S1x512 .f32) (w : Vec Ideal S512x3072 .f32) (g : Vec Ideal S192 .f32)
    (shift : Vec Ideal S_ .f32) (co si : Vec Ideal S4224x32 .f32) (b : Fin 12) (n : Fin 16) (c : Fin 256) (r : Fin 4224) : EReal :=
  rowAt (lane p ln w b r n) (fun d => g (ix1 d)) (fun d => co (ix2 r d)) (fun d => si (ix2 r d)) (shift ix0) c

/-- The result array from the argument arrays. -/
def queriesArr (p : Vec Ideal S12x4224x2560 .bf16) (ln : Vec Ideal S1x512 .f32) (w : Vec Ideal S512x3072 .f32) (g : Vec Ideal S192 .f32)
    (shift : Vec Ideal S_ .f32) (co si : Vec Ideal S4224x32 .f32) : Vec Ideal S12x16x256x4224 .bf16 := fun i =>
  entryAt p ln w g shift co si (i 0) (i 1) (i 2) (i 3)

end Cert.Mq

end
-- ==== Proof.Mq.Block.lean ====
/- What the body leaves in its output block, head by head, as functions of the projected rows. -/
module

public import proofs.«01_k».proof.Proof.Mq.Target
public import Idealize.ShloMosaic.Lib.Pointwise
public import Idealize.ShloMosaic.Lib.Pipeline.Value
public import Idealize.ShloMosaic.Lib.Pipeline.ValueKit
public import Idealize.ShloMosaic.Lib.KernelVsHost

@[expose] public section

set_option maxRecDepth 16384

noncomputable section

namespace Cert.Kernel4Ideal.Mq

open Idealize.ShloMosaic Cert.Kernel4Ideal Cert.Kernel4Ideal.Gen

/-- A head's plain lanes lie among its group's rows. -/
theorem plainSlices (n : Fin 16) : S384x384.Slices ![192 * (n.val % 2), 0] S128x384 := by
  revert n; decide

/-- Either half of a head's rotated lanes lies among its group's rows. -/
theorem halfSlices (o : Fin 2) (n : Fin 16) : S384x384.Slices ![192 * (n.val % 2) + (128 + 32 * o.val), 0] S32x384 := by
  revert o n; decide

/-- A head's plain rows lie in the block. -/
theorem plainRoom (n : Fin 16) : ∀ a, ![0, n.val, 0, 0] a + S1x1x128x384.size a ≤ S1x16x256x384.size a := by
  revert n; decide

/-- A head's rotated rows lie in the block. -/
theorem halfRoom (o : Fin 2) (n : Fin 16) : ∀ a, ![0, n.val, 128 + 32 * o.val, 0] a + S1x1x32x384.size a ≤ S1x16x256x384.size a := by
  revert o n; decide

/-- A head's last rows lie in the block. -/
theorem padRoom (n : Fin 16) : ∀ a, ![0, n.val, 192, 0] a + S1x1x64x384.size a ≤ S1x16x256x384.size a := by
  revert n; decide

/-- A group's rows lie among the weights' rows. -/
theorem groupRoom (j : Fin 8) : ∀ a, ![384 * j.val, 0] a + S384x512.size a ≤ S3072x512.size a := by
  revert j; decide

/-- Where a head's plain rows lie. -/
abbrev plainRect (n : Fin 16) : Rect S1x16x256x384 := Rect.unit (s := S1x16x256x384) ![0, n.val, 0, 0] S1x1x128x384.size (plainRoom n)

/-- Where either half of a head's rotated rows lies. -/
abbrev halfRect (o : Fin 2) (n : Fin 16) : Rect S1x16x256x384 :=
  Rect.unit (s := S1x16x256x384) ![0, n.val, 128 + 32 * o.val, 0] S1x1x32x384.size (halfRoom o n)

/-- Where a head's last rows lie. -/
abbrev padRect (n : Fin 16) : Rect S1x16x256x384 := Rect.unit (s := S1x16x256x384) ![0, n.val, 192, 0] S1x1x64x384.size (padRoom n)

/-- Where a group's weights lie. -/
abbrev groupRect (j : Fin 8) : Rect S3072x512 := Rect.unit (s := S3072x512) ![384 * j.val, 0] S384x512.size (groupRoom j)

/-- The group of a head. -/
abbrev group (n : Fin 16) : Fin 8 := ⟨n.val / 2, by omega⟩

section
variable {F : FTy → Type} [FloatOps F] [Named F]

/-- A head's plain lanes of its group's projection. -/
def plain (n : Fin 16) (q : FVec F S384x384 .f32) : FVec F S128x384 .f32 :=
  extractStridedSlice S128x384 ![192 * (n.val % 2), 0] q (plainSlices n)

/-- Either half of a head's rotated lanes of its group's projection. -/
def half (o : Fin 2) (n : Fin 16) (q : FVec F S384x384 .f32) : FVec F S32x384 .f32 :=
  extractStridedSlice S32x384 ![192 * (n.val % 2) + (128 + 32 * o.val), 0] q (halfSlices o n)

/-- One over the root of a head's mean square. -/
def scale (a : FVec F S128x384 .f32) (x y : FVec F S32x384 .f32) : FVec F S1x384 .f32 :=
  rsqrt
    (addf
      (mulf
        (addf
          (addf
            (shapeCast S1x384 (multiReduction .add [0] S384 (mulf a a) 0x00000000#32 reduces_S128x384_S384 (.inl rfl) rfl) shapeCasts_S384_S1x384)
            (shapeCast S1x384 (multiReduction .add [0] S384 (mulf x x) 0x00000000#32 reduces_S32x384_S384 (.inl rfl) rfl) shapeCasts_S384_S1x384))
          (shapeCast S1x384 (multiReduction .add [0] S384 (mulf y y) 0x00000000#32 reduces_S32x384_S384 (.inl rfl) rfl) shapeCasts_S384_S1x384))
        (broadcast S1x384 (Named.named κ "inv_dqk" 0x3BAAAAAB#32)))
      (broadcast S1x384 (Scalar.ofBits .f32 0x358637BD#32)))

/-- A head's plain rows. -/
def plainRows (a : FVec F S128x384 .f32) (s : FVec F S1x384 .f32) (ga : FVec F S128x384 .f32) : FVec F S1x1x128x384 .bf16 :=
  shapeCast S1x1x128x384 (truncf .bf16 (mulf (mulf a (broadcastTo S128x384 s broadcasts_S1x384_S128x384)) ga) bitsLt_bf16_f32)
    shapeCasts_S128x384_S1x1x128x384

/-- Half of a head's lanes, scaled and weighted. -/
def weigh (x : FVec F S32x384 .f32) (s : FVec F S1x384 .f32) (g : FVec F S32x384 .f32) : FVec F S32x384 .f32 :=
  mulf (mulf x (broadcastTo S32x384 s broadcasts_S1x384_S32x384)) g

/-- The first half, rotated. -/
def firstRows (x y co si : FVec F S32x384 .f32) : FVec F S1x1x32x384 .bf16 :=
  shapeCast S1x1x32x384 (truncf .bf16 (subf (mulf x co) (mulf y si)) bitsLt_bf16_f32) shapeCasts_S32x384_S1x1x32x384

/-- The second half, rotated. -/
def secondRows (x y co si : FVec F S32x384 .f32) : FVec F S1x1x32x384 .bf16 :=
  shapeCast S1x1x32x384 (truncf .bf16 (addf (mulf y co) (mulf x si)) bitsLt_bf16_f32) shapeCasts_S32x384_S1x1x32x384

/-- A head's scale. -/
def headScale (n : Fin 16) (q : FVec F S384x384 .f32) : FVec F S1x384 .f32 := scale (plain n q) (half 0 n q) (half 1 n q)

/-- The pieces of one head, the last stored first. -/
def headPieces (n : Fin 16) (q : FVec F S384x384 .f32) (ga : FVec F S128x384 .f32) (g1 g2 co si : FVec F S32x384 .f32)
    (pad : FVec F S64x384 .bf16) : List (View.Piece (Elt F) S1x16x256x384 .bf16) :=
  [⟨padRect n, shapeCast S1x1x64x384 pad shapeCasts_S64x384_S1x1x64x384⟩,
   ⟨halfRect 1 n, secondRows (weigh (half 0 n q) (headScale n q) g1) (weigh (half 1 n q) (headScale n q) g2) co si⟩,
   ⟨halfRect 0 n, firstRows (weigh (half 0 n q) (headScale n q) g1) (weigh (half 1 n q) (headScale n q) g2) co si⟩,
   ⟨plainRect n, plainRows (plain n q) (headScale n q) ga⟩]

/-- The pieces of the block, the last stored first. -/
def pieces (q : Fin 8 → FVec F S384x384 .f32) (ga : FVec F S128x384 .f32) (g1 g2 co si : FVec F S32x384 .f32)
    (pad : FVec F S64x384 .bf16) : List (View.Piece (Elt F) S1x16x256x384 .bf16) :=
  (List.ofFn fun n : Fin 16 => headPieces n.rev (q (group n.rev)) ga g1 g2 co si pad).flatten

variable (c : Dev nD) (i : grid0.Coords) (arg2 : Memref sig .tc .vmem S1x384x512 .bf16) (harg2 : arg2.IsWhole) (arg3 : Memref sig .tc .vmem S1x512 .f32) (harg3 : arg3.IsWhole) (arg4 : Memref sig .tc .vmem S3072x512 .bf16) (harg4 : arg4.IsWhole) (arg5 : Memref sig .tc .vmem S128x128 .f32) (harg5 : arg5.IsWhole) (arg6 : Memref sig .tc .vmem S64x128 .f32) (harg6 : arg6.IsWhole) (arg7 : Memref sig .tc .vmem S32x384 .f32) (harg7 : arg7.IsWhole) (arg8 : Memref sig .tc .vmem S32x384 .f32) (harg8 : arg8.IsWhole) (arg9 : Memref sig .tc .vmem S64x128 .f32) (harg9 : arg9.IsWhole) (arg10 : Memref sig .tc .vmem S1x16x256x384 .bf16) (harg10 : arg10.IsWhole)
    (x0 : Vec F S1x384x512 .bf16) (x1 : Vec F S1x512 .f32) (x2 : Vec F S3072x512 .bf16) (x3 : Vec F S128x128 .f32) (x4 : Vec F S64x128 .f32) (x5 : Vec F S32x384 .f32) (x6 : Vec F S32x384 .f32) (x7 : Vec F S64x128 .f32)

/-- The run's pieces are the heads' pieces, over what it reads. -/
theorem run_pieces : (kernelRun0_A c i arg2 harg2 arg3 harg3 arg4 harg4 arg5 harg5 arg6 harg6 arg7 harg7 arg8 harg8 arg9 harg9 arg10 harg10 x0 x1 x2 x3 x4 x5 x6 x7).1
    = pieces (fun j => k0_pay11
        (k0_pay4
          (View.readAt (Elt F) arg2.view (Rect.unit ![0, 0, 0] S1x384x512.size inb_S1x384x512_S1x384x512_0_0_0).toLoadRect (harg2.unread x0))
          (View.readAt (Elt F) arg3.view (Rect.unit ![0, 0] S1x512.size inb_S1x512_S1x512_0_0).toLoadRect (harg3.unread x1)))
        (View.readAt (Elt F) arg4.view (groupRect j).toLoadRect (harg4.unread x2)))
      (k0_pay5 (View.readAt (Elt F) arg5.view (Rect.unit ![0, 0] S128x128.size inb_S128x128_S128x128_0_0).toLoadRect (harg5.unread x3)))
      (k0_pay6 (View.readAt (Elt F) arg6.view (Rect.unit (s := S64x128) ![0, 0] S32x128.size inb_S64x128_S32x128_0_0).toLoadRect (harg6.unread x4)))
      (k0_pay7 (View.readAt (Elt F) arg6.view (Rect.unit (s := S64x128) ![32, 0] S32x128.size inb_S64x128_S32x128_32_0).toLoadRect (harg6.unread x4)))
      (k0_pay8 (View.readAt (Elt F) arg7.view (Rect.unit ![0, 0] S32x384.size inb_S32x384_S32x384_0_0).toLoadRect (harg7.unread x5)))
      (k0_pay9 (View.readAt (Elt F) arg8.view (Rect.unit ![0, 0] S32x384.size inb_S32x384_S32x384_0_0).toLoadRect (harg8.unread x6)))
      (k0_pay10 (View.readAt (Elt F) arg9.view (Rect.unit ![0, 0] S64x128.size inb_S64x128_S64x128_0_0).toLoadRect (harg9.unread x7))) := rfl

end

/-- One over the root of a head's mean square, as the kernel sums it. -/
def scaleAt (q : Fin 192 → EReal) : EReal :=
  Ideal.rsqrt ((∑ d : Fin 128, q ⟨d.val, by omega⟩ * q ⟨d.val, by omega⟩ + ∑ d : Fin 32, q ⟨128 + d.val, by omega⟩ * q ⟨128 + d.val, by omega⟩
      + ∑ d : Fin 32, q ⟨160 + d.val, by omega⟩ * q ⟨160 + d.val, by omega⟩) * Named.named (F := Ideal) κ "inv_dqk" (φ := .f32) 0x3BAAAAAB#32
    + Ideal.ofBits .f32 0x358637BD#32)

/-- A head's lanes of its group's projection. -/
def lanesAt (q : FVec Ideal S384x384 .f32) (n : Fin 16) (r : Fin 384) (d : Fin 192) : EReal := q (ix2 ⟨192 * (n.val % 2) + d.val, by omega⟩ r)

/-- A head's plain lane. -/
theorem plain_apply (n : Fin 16) (q : FVec Ideal S384x384 .f32) (d : Fin 128) (r : Fin 384) :
    plain n q (ix2 d r) = lanesAt q n r ⟨d.val, by omega⟩ := by
  unfold plain lanesAt
  refine extractStridedSlice_apply _ _ _ _ _ fun a => ?_
  match a with
  | ⟨0, _⟩ => rfl
  | ⟨1, _⟩ => exact (Nat.zero_add _).symm

/-- A head's rotated lane. -/
theorem half_apply (o : Fin 2) (n : Fin 16) (q : FVec Ideal S384x384 .f32) (d : Fin 32) (r : Fin 384) :
    half o n q (ix2 d r) = lanesAt q n r ⟨128 + 32 * o.val + d.val, by omega⟩ := by
  unfold half lanesAt
  refine extractStridedSlice_apply _ _ _ _ _ fun a => ?_
  match a with
  | ⟨0, _⟩ =>
    show 192 * (n.val % 2) + (128 + 32 * o.val + d.val) = 192 * (n.val % 2) + (128 + 32 * o.val) + d.val
    omega
  | ⟨1, _⟩ => exact (Nat.zero_add _).symm

/-- The scale of a head. -/
theorem headScale_apply (n : Fin 16) (q : FVec Ideal S384x384 .f32) (r : Fin 384) :
    headScale n q (ix2 0 r) = scaleAt (lanesAt q n r) := by
  pointwise [headScale, scale, scaleAt, plain_apply, half_apply]

/-- An entry of the plain rows. -/
theorem plainRows_apply (a : FVec Ideal S128x384 .f32) (s : FVec Ideal S1x384 .f32) (ga : FVec Ideal S128x384 .f32) (d : Fin 128) (r : Fin 384) :
    plainRows a s ga (ix4 0 0 d r) = a (ix2 d r) * s (ix2 0 r) * ga (ix2 d r) := by
  pointwise [plainRows]

/-- An entry of the lanes scaled and weighted. -/
theorem weigh_apply (x : FVec Ideal S32x384 .f32) (s : FVec Ideal S1x384 .f32) (g : FVec Ideal S32x384 .f32) (d : Fin 32) (r : Fin 384) :
    weigh x s g (ix2 d r) = x (ix2 d r) * s (ix2 0 r) * g (ix2 d r) := by
  pointwise [weigh]

/-- An entry of the first half, rotated. -/
theorem firstRows_apply (x y co si : FVec Ideal S32x384 .f32) (d : Fin 32) (r : Fin 384) :
    firstRows x y co si (ix4 0 0 d r) = x (ix2 d r) * co (ix2 d r) - y (ix2 d r) * si (ix2 d r) := by
  pointwise [firstRows]

/-- An entry of the second half, rotated. -/
theorem secondRows_apply (x y co si : FVec Ideal S32x384 .f32) (d : Fin 32) (r : Fin 384) :
    secondRows x y co si (ix4 0 0 d r) = y (ix2 d r) * co (ix2 d r) + x (ix2 d r) * si (ix2 d r) := by
  pointwise [secondRows]

/-- A group's projection: a weight row against the normalised, weighted latent row. -/
theorem project_apply (x : Vec Ideal S1x384x512 .bf16) (ln : Vec Ideal S1x512 .f32) (w : Vec Ideal S384x512 .bf16) (j r : Fin 384) :
    k0_pay11 (k0_pay4 x ln) w (ix2 j r)
      = ∑ k, w (ix2 j k) * (Cert.Out.normed 0x44000000#32 (fun k => x (ix3 0 r k)) k * ln (ix2 0 k)) := by
  pointwise [k0_pay11, k0_pay4, Cert.Out.normed]

/-- A value repeated over the tile's lane groups. -/
theorem tile5_apply (g : Vec Ideal S128x128 .f32) (v : Fin 128 → EReal) (h : ∀ d j, g (ix2 d j) = v d) (d : Fin 128) (r : Fin 384) :
    k0_pay5 g (ix2 d r) = v d := by
  pointwise [k0_pay5, h]
  simp only [dite_eq_ite, ite_self]

/-- A value repeated over the tile's lane groups. -/
theorem tile6_apply (g : Vec Ideal S32x128 .f32) (v : Fin 32 → EReal) (h : ∀ d j, g (ix2 d j) = v d) (d : Fin 32) (r : Fin 384) :
    k0_pay6 g (ix2 d r) = v d := by
  pointwise [k0_pay6, h]
  simp only [dite_eq_ite, ite_self]

/-- A value repeated over the tile's lane groups. -/
theorem tile7_apply (g : Vec Ideal S32x128 .f32) (v : Fin 32 → EReal) (h : ∀ d j, g (ix2 d j) = v d) (d : Fin 32) (r : Fin 384) :
    k0_pay7 g (ix2 d r) = v d := by
  pointwise [k0_pay7, h]
  simp only [dite_eq_ite, ite_self]

/-- A value repeated over the tile's lane groups. -/
theorem tile10_apply (g : Vec Ideal S64x128 .f32) (v : Fin 64 → EReal) (h : ∀ d j, g (ix2 d j) = v d) (d : Fin 64) (r : Fin 384) :
    k0_pay10 g (ix2 d r) = v d := by
  pointwise [k0_pay10, h]
  simp only [dite_eq_ite, ite_self]

/-- A group's weight rows, read. -/
theorem group_ld (x : Vec Ideal S3072x512 .bf16) (j : Fin 8) (a : Fin 384) (k : Fin 512) :
    View.ld x (groupRect j) (ix2 a k) = x (ix2 ⟨384 * j.val + a.val, by omega⟩ k) := by
  refine congrArg x (funext fun b => ?_)
  match b with
  | ⟨0, _⟩ => exact Fin.ext ((ValueKit.rect_emb_unit_val (s := S3072x512) ![384 * j.val, 0] S384x512.size (groupRoom j) (ix2 a k) 0).trans rfl)
  | ⟨1, _⟩ => exact Fin.ext ((ValueKit.rect_emb_unit_val (s := S3072x512) ![384 * j.val, 0] S384x512.size (groupRoom j) (ix2 a k) 1).trans (Nat.zero_add _))

/-- The first gains of the rotated lanes, read. -/
theorem first_ld (x : Vec Ideal S64x128 .f32) (d : Fin 32) (j : Fin 128) :
    View.ld x (Rect.unit (s := S64x128) ![0, 0] S32x128.size inb_S64x128_S32x128_0_0) (ix2 d j) = x (ix2 ⟨d.val, by omega⟩ j) := by
  refine congrArg x (funext fun b => ?_)
  match b with
  | ⟨0, _⟩ => exact Fin.ext ((ValueKit.rect_emb_unit_val (s := S64x128) ![0, 0] S32x128.size inb_S64x128_S32x128_0_0 (ix2 d j) 0).trans (Nat.zero_add _))
  | ⟨1, _⟩ => exact Fin.ext ((ValueKit.rect_emb_unit_val (s := S64x128) ![0, 0] S32x128.size inb_S64x128_S32x128_0_0 (ix2 d j) 1).trans (Nat.zero_add _))

/-- The second gains of the rotated lanes, read. -/
theorem second_ld (x : Vec Ideal S64x128 .f32) (d : Fin 32) (j : Fin 128) :
    View.ld x (Rect.unit (s := S64x128) ![32, 0] S32x128.size inb_S64x128_S32x128_32_0) (ix2 d j) = x (ix2 ⟨32 + d.val, by omega⟩ j) := by
  refine congrArg x (funext fun b => ?_)
  match b with
  | ⟨0, _⟩ => exact Fin.ext ((ValueKit.rect_emb_unit_val (s := S64x128) ![32, 0] S32x128.size inb_S64x128_S32x128_32_0 (ix2 d j) 0).trans rfl)
  | ⟨1, _⟩ => exact Fin.ext ((ValueKit.rect_emb_unit_val (s := S64x128) ![32, 0] S32x128.size inb_S64x128_S32x128_32_0 (ix2 d j) 1).trans (Nat.zero_add _))

/-- Where an entry of a head's plain rows lies in the block. -/
theorem plain_emb (n : Fin 16) (d : Fin 128) (r : Fin 384) : (plainRect n).emb (ix4 0 0 d r) = ix4 0 n ⟨d.val, by omega⟩ r := by
  funext a
  match a with
  | ⟨0, _⟩ => exact Fin.ext ((ValueKit.rect_emb_unit_val (s := S1x16x256x384) ![0, n.val, 0, 0] S1x1x128x384.size (plainRoom n) (ix4 0 0 d r) 0).trans rfl)
  | ⟨1, _⟩ => exact Fin.ext ((ValueKit.rect_emb_unit_val (s := S1x16x256x384) ![0, n.val, 0, 0] S1x1x128x384.size (plainRoom n) (ix4 0 0 d r) 1).trans (Nat.add_zero _))
  | ⟨2, _⟩ => exact Fin.ext ((ValueKit.rect_emb_unit_val (s := S1x16x256x384) ![0, n.val, 0, 0] S1x1x128x384.size (plainRoom n) (ix4 0 0 d r) 2).trans (Nat.zero_add _))
  | ⟨3, _⟩ => exact Fin.ext ((ValueKit.rect_emb_unit_val (s := S1x16x256x384) ![0, n.val, 0, 0] S1x1x128x384.size (plainRoom n) (ix4 0 0 d r) 3).trans (Nat.zero_add _))

/-- Where an entry of a head's rotated rows lies in the block. -/
theorem half_emb (o : Fin 2) (n : Fin 16) (d : Fin 32) (r : Fin 384) :
    (halfRect o n).emb (ix4 0 0 d r) = ix4 0 n ⟨128 + 32 * o.val + d.val, by omega⟩ r := by
  funext a
  match a with
  | ⟨0, _⟩ => exact Fin.ext ((ValueKit.rect_emb_unit_val (s := S1x16x256x384) ![0, n.val, 128 + 32 * o.val, 0] S1x1x32x384.size (halfRoom o n) (ix4 0 0 d r) 0).trans rfl)
  | ⟨1, _⟩ => exact Fin.ext ((ValueKit.rect_emb_unit_val (s := S1x16x256x384) ![0, n.val, 128 + 32 * o.val, 0] S1x1x32x384.size (halfRoom o n) (ix4 0 0 d r) 1).trans (Nat.add_zero _))
  | ⟨2, _⟩ => exact Fin.ext ((ValueKit.rect_emb_unit_val (s := S1x16x256x384) ![0, n.val, 128 + 32 * o.val, 0] S1x1x32x384.size (halfRoom o n) (ix4 0 0 d r) 2).trans rfl)
  | ⟨3, _⟩ => exact Fin.ext ((ValueKit.rect_emb_unit_val (s := S1x16x256x384) ![0, n.val, 128 + 32 * o.val, 0] S1x1x32x384.size (halfRoom o n) (ix4 0 0 d r) 3).trans (Nat.zero_add _))

/-- Where an entry of a head's last rows lies in the block. -/
theorem pad_emb (n : Fin 16) (d : Fin 64) (r : Fin 384) : (padRect n).emb (ix4 0 0 d r) = ix4 0 n ⟨192 + d.val, by omega⟩ r := by
  funext a
  match a with
  | ⟨0, _⟩ => exact Fin.ext ((ValueKit.rect_emb_unit_val (s := S1x16x256x384) ![0, n.val, 192, 0] S1x1x64x384.size (padRoom n) (ix4 0 0 d r) 0).trans rfl)
  | ⟨1, _⟩ => exact Fin.ext ((ValueKit.rect_emb_unit_val (s := S1x16x256x384) ![0, n.val, 192, 0] S1x1x64x384.size (padRoom n) (ix4 0 0 d r) 1).trans (Nat.add_zero _))
  | ⟨2, _⟩ => exact Fin.ext ((ValueKit.rect_emb_unit_val (s := S1x16x256x384) ![0, n.val, 192, 0] S1x1x64x384.size (padRoom n) (ix4 0 0 d r) 2).trans rfl)
  | ⟨3, _⟩ => exact Fin.ext ((ValueKit.rect_emb_unit_val (s := S1x16x256x384) ![0, n.val, 192, 0] S1x1x64x384.size (padRoom n) (ix4 0 0 d r) 3).trans (Nat.zero_add _))

/-- A head's column as the kernel computes it: `sg` the gains times the score scale, `pad` the last rows. -/
def kernelRow (q sg : Fin 192 → EReal) (co si : Fin 32 → EReal) (pad : Fin 64 → EReal) (c : Fin 256) : EReal :=
  if h0 : c.val < 128 then q ⟨c.val, by omega⟩ * scaleAt q * sg ⟨c.val, by omega⟩
  else if h1 : c.val < 160 then
    q ⟨c.val, by omega⟩ * scaleAt q * sg ⟨c.val, by omega⟩ * co ⟨c.val - 128, by omega⟩
      - q ⟨c.val + 32, by omega⟩ * scaleAt q * sg ⟨c.val + 32, by omega⟩ * si ⟨c.val - 128, by omega⟩
  else if h2 : c.val < 192 then
    q ⟨c.val, by omega⟩ * scaleAt q * sg ⟨c.val, by omega⟩ * co ⟨c.val - 160, by omega⟩
      + q ⟨c.val - 32, by omega⟩ * scaleAt q * sg ⟨c.val - 32, by omega⟩ * si ⟨c.val - 160, by omega⟩
  else pad ⟨c.val - 192, by omega⟩

/-- A head's lane of the block. -/
def blockLane (x0 : Vec Ideal S1x384x512 .bf16) (x1 : Vec Ideal S1x512 .f32) (x2 : Vec Ideal S3072x512 .bf16) (n : Fin 16) (r : Fin 384)
    (d : Fin 192) : EReal :=
  ∑ k, x2 (ix2 ⟨192 * n.val + d.val, by omega⟩ k) * (Cert.Out.normed 0x44000000#32 (fun k => x0 (ix3 0 r k)) k * x1 (ix2 0 k))

/-- Of a head's group's projection, the head's lanes. -/
theorem lanes_eq (x0 : Vec Ideal S1x384x512 .bf16) (x1 : Vec Ideal S1x512 .f32) (x2 : Vec Ideal S3072x512 .bf16) (n : Fin 16) (r : Fin 384) :
    lanesAt (k0_pay11 (k0_pay4 x0 x1) (View.ld x2 (groupRect (group n)))) n r = blockLane x0 x1 x2 n r := by
  funext d
  unfold lanesAt blockLane
  rw [project_apply]
  refine Finset.sum_congr rfl fun k _ => ?_
  refine congrArg (· * _) ((group_ld x2 (group n) _ k).trans (congrArg (fun j => x2 (ix2 j k)) (Fin.ext ?_)))
  show 384 * (n.val / 2) + (192 * (n.val % 2) + d.val) = 192 * n.val + d.val
  omega

/-- An entry of a head's pieces is the head's column's. -/
theorem head_apply (n : Fin 16) (q : FVec Ideal S384x384 .f32) (ga : FVec Ideal S128x384 .f32) (g1 g2 co si : FVec Ideal S32x384 .f32)
    (pd : FVec Ideal S64x384 .bf16) (sg : Fin 192 → EReal) (pad : Fin 64 → EReal) (C S : Fin 32 → Fin 384 → EReal) (Q : Fin 384 → Fin 192 → EReal)
    (hq : ∀ r, lanesAt q n r = Q r)
    (ha : ∀ d r, ga (ix2 d r) = sg ⟨d.val, by omega⟩) (h1 : ∀ d r, g1 (ix2 d r) = sg ⟨128 + d.val, by omega⟩)
    (h2 : ∀ d r, g2 (ix2 d r) = sg ⟨160 + d.val, by omega⟩) (hc : ∀ d r, co (ix2 d r) = C d r) (hs : ∀ d r, si (ix2 d r) = S d r)
    (hp : ∀ d r, pd (ix2 d r) = pad d) (p : View.Piece (Elt Ideal) S1x16x256x384 .bf16) (hm : p ∈ headPieces n q ga g1 g2 co si pd)
    (z : p.1.shape.Idx) :
    p.2 z = kernelRow (Q (p.1.emb z 3)) sg (fun d => C d (p.1.emb z 3)) (fun d => S d (p.1.emb z 3)) pad (p.1.emb z 2) ∧ p.1.emb z 1 = n := by
  simp only [headPieces, List.mem_cons, List.not_mem_nil, or_false] at hm
  rcases hm with rfl | rfl | rfl | rfl
  · obtain ⟨d, r, rfl⟩ : ∃ (d : Fin 64) (r : Fin 384), z = ix4 0 0 d r := ⟨z 2, z 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
    rw [pad_emb]
    refine ⟨?_, rfl⟩
    show shapeCast S1x1x64x384 pd shapeCasts_S64x384_S1x1x64x384 (ix4 0 0 d r) = kernelRow (Q r) sg (fun d => C d r) (fun d => S d r) pad ⟨192 + d.val, by omega⟩
    have e : (⟨192 + d.val - 192, by omega⟩ : Fin 64) = d := Fin.ext (by show 192 + d.val - 192 = d.val; omega)
    unfold kernelRow
    rw [dif_neg (by show ¬(192 + d.val < 128); omega), dif_neg (by show ¬(192 + d.val < 160); omega), dif_neg (by show ¬(192 + d.val < 192); omega)]
    pointwise [hp]
  · obtain ⟨d, r, rfl⟩ : ∃ (d : Fin 32) (r : Fin 384), z = ix4 0 0 d r := ⟨z 2, z 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
    rw [half_emb]
    refine ⟨?_, rfl⟩
    show secondRows (F := Ideal) _ _ _ _ (ix4 0 0 d r) = kernelRow (Q r) sg (fun d => C d r) (fun d => S d r) pad ⟨160 + d.val, by omega⟩
    rw [secondRows_apply, weigh_apply, weigh_apply, headScale_apply, half_apply, half_apply, h1, h2, hc, hs, hq]
    unfold kernelRow
    rw [dif_neg (by show ¬(160 + d.val < 128); omega), dif_neg (by show ¬(160 + d.val < 160); omega), dif_pos (by show 160 + d.val < 192; omega)]
    have e : (⟨160 + d.val - 160, by omega⟩ : Fin 32) = d := Fin.ext (by show 160 + d.val - 160 = d.val; omega)
    have e1 : (⟨160 + d.val - 32, by omega⟩ : Fin 192) = ⟨128 + d.val, by omega⟩ := Fin.ext (by show 160 + d.val - 32 = 128 + d.val; omega)
    simp only [e, e1]
    rfl
  · obtain ⟨d, r, rfl⟩ : ∃ (d : Fin 32) (r : Fin 384), z = ix4 0 0 d r := ⟨z 2, z 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
    rw [half_emb]
    refine ⟨?_, rfl⟩
    show firstRows (F := Ideal) _ _ _ _ (ix4 0 0 d r) = kernelRow (Q r) sg (fun d => C d r) (fun d => S d r) pad ⟨128 + d.val, by omega⟩
    rw [firstRows_apply, weigh_apply, weigh_apply, headScale_apply, half_apply, half_apply, h1, h2, hc, hs, hq]
    unfold kernelRow
    rw [dif_neg (by show ¬(128 + d.val < 128); omega), dif_pos (by show 128 + d.val < 160; omega)]
    have e : (⟨128 + d.val - 128, by omega⟩ : Fin 32) = d := Fin.ext (by show 128 + d.val - 128 = d.val; omega)
    have e1 : (⟨128 + d.val + 32, by omega⟩ : Fin 192) = ⟨160 + d.val, by omega⟩ := Fin.ext (by show 128 + d.val + 32 = 160 + d.val; omega)
    simp only [e, e1]
    rfl
  · obtain ⟨d, r, rfl⟩ : ∃ (d : Fin 128) (r : Fin 384), z = ix4 0 0 d r := ⟨z 2, z 3, funext fun a => by
      match a with
      | ⟨0, _⟩ => exact Subsingleton.elim (α := Fin 1) _ _
      | ⟨1, _⟩ => exact Subsingleton.elim (α := Fin 1) _ _
      | ⟨2, _⟩ => rfl
      | ⟨3, _⟩ => rfl⟩
    rw [plain_emb]
    refine ⟨?_, rfl⟩
    show plainRows (F := Ideal) _ _ _ (ix4 0 0 d r) = kernelRow (Q r) sg (fun d => C d r) (fun d => S d r) pad ⟨d.val, by omega⟩
    rw [plainRows_apply, headScale_apply, plain_apply, ha, hq]
    unfold kernelRow
    rw [dif_pos (by show d.val < 128; omega)]

section
variable (c : Dev nD) (i : grid0.Coords) (arg2 : Memref sig .tc .vmem S1x384x512 .bf16) (harg2 : arg2.IsWhole) (arg3 : Memref sig .tc .vmem S1x512 .f32) (harg3 : arg3.IsWhole) (arg4 : Memref sig .tc .vmem S3072x512 .bf16) (harg4 : arg4.IsWhole) (arg5 : Memref sig .tc .vmem S128x128 .f32) (harg5 : arg5.IsWhole) (arg6 : Memref sig .tc .vmem S64x128 .f32) (harg6 : arg6.IsWhole) (arg7 : Memref sig .tc .vmem S32x384 .f32) (harg7 : arg7.IsWhole) (arg8 : Memref sig .tc .vmem S32x384 .f32) (harg8 : arg8.IsWhole) (arg9 : Memref sig .tc .vmem S64x128 .f32) (harg9 : arg9.IsWhole) (arg10 : Memref sig .tc .vmem S1x16x256x384 .bf16) (harg10 : arg10.IsWhole)
    (x0 : Vec Ideal S1x384x512 .bf16) (x1 : Vec Ideal S1x512 .f32) (x2 : Vec Ideal S3072x512 .bf16) (x3 : Vec Ideal S128x128 .f32) (x4 : Vec Ideal S64x128 .f32) (x5 : Vec Ideal S32x384 .f32) (x6 : Vec Ideal S32x384 .f32) (x7 : Vec Ideal S64x128 .f32)

/-- The run's pieces are the heads' pieces, over the blocks it reads. -/
theorem run_eq : (kernelRun0_A c i arg2 harg2 arg3 harg3 arg4 harg4 arg5 harg5 arg6 harg6 arg7 harg7 arg8 harg8 arg9 harg9 arg10 harg10 x0 x1 x2 x3 x4 x5 x6 x7).1
    = pieces (fun j => k0_pay11 (k0_pay4 x0 x1) (View.ld x2 (groupRect j))) (k0_pay5 x3)
      (k0_pay6 (View.ld x4 (Rect.unit (s := S64x128) ![0, 0] S32x128.size inb_S64x128_S32x128_0_0)))
      (k0_pay7 (View.ld x4 (Rect.unit (s := S64x128) ![32, 0] S32x128.size inb_S64x128_S32x128_32_0)))
      (k0_pay8 x5) (k0_pay9 x6) (k0_pay10 x7) := by
  rw [run_pieces]
  simp only [View.readAt_eq_ld, Memref.IsWhole.read_unread]
  rw [View.ld_unit_lit _ x0 fun a => by match a with | ⟨0, _⟩ => rfl | ⟨1, _⟩ => rfl | ⟨2, _⟩ => rfl,
    View.ld_unit_lit _ x1 fun a => by match a with | ⟨0, _⟩ => rfl | ⟨1, _⟩ => rfl,
    View.ld_unit_lit _ x3 fun a => by match a with | ⟨0, _⟩ => rfl | ⟨1, _⟩ => rfl,
    View.ld_unit_lit _ x5 fun a => by match a with | ⟨0, _⟩ => rfl | ⟨1, _⟩ => rfl,
    View.ld_unit_lit _ x6 fun a => by match a with | ⟨0, _⟩ => rfl | ⟨1, _⟩ => rfl,
    View.ld_unit_lit _ x7 fun a => by match a with | ⟨0, _⟩ => rfl | ⟨1, _⟩ => rfl]

/-- An entry of the block: the head's column's. -/
theorem out_eq (sg : Fin 192 → EReal) (pad : Fin 64 → EReal) (h3 : ∀ d j, x3 (ix2 d j) = sg ⟨d.val, by omega⟩)
    (h4 : ∀ d j, x4 (ix2 d j) = sg ⟨128 + d.val, by omega⟩) (h7 : ∀ d j, x7 (ix2 d j) = pad d) (y : S1x16x256x384.Idx) :
    out0_A_8 c i arg2 harg2 arg3 harg3 arg4 harg4 arg5 harg5 arg6 harg6 arg7 harg7 arg8 harg8 arg9 harg9 arg10 harg10 x0 x1 x2 x3 x4 x5 x6 x7 y
      = kernelRow (blockLane x0 x1 x2 (y 1) (y 3)) sg (fun d => x5 (ix2 d (y 3))) (fun d => x6 (ix2 d (y 3))) pad (y 2) := by
  unfold out0_A_8
  have hcov := cover0_A_8 c i arg2 harg2 arg3 harg3 arg4 harg4 arg5 harg5 arg6 harg6 arg7 harg7 arg8 harg8 arg9 harg9 arg10 harg10 x0 x1 x2 x3 x4 x5 x6 x7
  rw [View.read_writes_eq_canon _ _ _ hcov]
  refine View.canon_eq_of_allAt _ _ _ (hcov y) fun p hp z hz => ?_
  subst hz
  rw [run_eq] at hp
  obtain ⟨l, hl, hp⟩ := List.mem_flatten.mp hp
  obtain ⟨n, rfl⟩ := (List.mem_ofFn' _ _).mp hl
  obtain ⟨e, en⟩ := head_apply n.rev _ _ _ _ _ _ _ sg pad (fun d r => x5 (ix2 d r)) (fun d r => x6 (ix2 d r)) (blockLane x0 x1 x2 n.rev)
    (lanes_eq x0 x1 x2 n.rev) (tile5_apply x3 _ h3)
    (tile6_apply _ (fun d => sg ⟨128 + d.val, by omega⟩) fun d j => (first_ld x4 d j).trans (h4 _ _))
    (tile7_apply _ (fun d => sg ⟨160 + d.val, by omega⟩) fun d j => (second_ld x4 d j).trans ((h4 _ _).trans (congrArg sg (Fin.ext (by show 128 + (32 + d.val) = 160 + d.val; omega)))))
    (fun d r => congrFun (shapeCast_self _ _) _) (fun d r => congrFun (shapeCast_self _ _) _)
    (tile10_apply x7 _ h7) p hp z
  rw [e, en]

end

end Cert.Kernel4Ideal.Mq

end
-- ==== Proof.Mq.Algebra.lean ====
/- The kernel's query column is the target's: the score scale, multiplied into the gains, moved outside the rotation. -/
module

public import proofs.«01_k».proof.Proof.Mq.Target
public import proofs.«01_k».proof.Proof.Mq.Block
public import proofs.«01_k».proof.Proof.Kv.Algebra

@[expose] public section

noncomputable section

namespace Cert.Mq

open Idealize.ShloMosaic Cert.Kernel4Ideal Cert.Kernel4Ideal.Mq

/-- The score scale is not negative, and finite. -/
theorem scoreScale_finite : 0 ≤ scoreScale ∧ scoreScale ≠ ⊤ := by
  obtain ⟨x, hx, e⟩ : ∃ x : ℝ, 0 ≤ x ∧ scoreScale = (x : EReal) := by
    refine ⟨_, ?_, by simp [scoreScale, Ideal.ofBits, Ideal.ieee, -EReal.coe_mul]; rfl⟩
    norm_num
  rw [e]
  exact ⟨EReal.coe_nonneg.mpr hx, EReal.coe_ne_top x⟩

/-- A sum over a head's lanes: its plain lanes, then either half of its rotated lanes. -/
theorem lanes_sum (f : Fin 192 → EReal) :
    ∑ d, f d = ∑ d : Fin 128, f ⟨d.val, by omega⟩ + ∑ d : Fin 32, f ⟨128 + d.val, by omega⟩ + ∑ d : Fin 32, f ⟨160 + d.val, by omega⟩ := by
  refine (Fin.sum_univ_add (a := 160) (b := 32) f).trans (congrArg₂ (· + ·) ?_ rfl)
  exact Fin.sum_univ_add (a := 128) (b := 32) fun d : Fin 160 => f (Fin.castAdd 32 d)

/-- A lane times the kernel's scale is the lane normalised. -/
theorem scaled_eq (q : Fin 192 → EReal) (d : Fin 192) : q d * scaleAt q = Cert.Out.normed 0x43400000#32 q d := by
  unfold scaleAt Cert.Out.normed
  rw [Cert.Kv.count_bits, Ideal.div_coe (by norm_num : (192 : ℝ) ≠ 0), lanes_sum, IdealRules.named_const.ideal_named_scalar _ _ _ _ rfl]

/-- The kernel's column is the target's. -/
theorem kernelRow_eq (q g : Fin 192 → EReal) (co si : Fin 32 → EReal) (shift : EReal) (pad : Fin 64 → EReal)
    (hp : ∀ d, pad d = if d.val = 0 then shift else 0) (c : Fin 256) :
    kernelRow q (fun d => g d * scoreScale) co si pad c = rowAt q g co si shift c := by
  have hs := scoreScale_finite
  unfold kernelRow rowAt weighted
  simp only [scaled_eq]
  by_cases h0 : c.val < 128
  · rw [dif_pos h0, dif_pos h0]
    exact (mul_assoc _ _ _).symm
  rw [dif_neg h0, dif_neg h0]
  by_cases h1 : c.val < 160
  · rw [dif_pos h1, dif_pos h1, sub_eq_add_neg, sub_eq_add_neg, EReal.right_distrib_of_nonneg_of_ne_top hs.1 hs.2, EReal.neg_mul]
    refine congrArg₂ (· + ·) ?_ (congrArg Neg.neg ?_)
    · ac_rfl
    · ac_rfl
  rw [dif_neg h1, dif_neg h1]
  by_cases h2 : c.val < 192
  · rw [dif_pos h2, dif_pos h2, EReal.right_distrib_of_nonneg_of_ne_top hs.1 hs.2]
    refine congrArg₂ (· + ·) ?_ ?_
    · ac_rfl
    · ac_rfl
  rw [dif_neg h2, dif_neg h2, hp]
  by_cases h3 : c.val = 192
  · rw [if_pos h3, if_pos (by show c.val - 192 = 0; omega)]
  · rw [if_neg h3, if_neg (by show ¬(c.val - 192 = 0); omega)]

end Cert.Mq

end
-- ==== Proof.Mq.Host.lean ====
/- What the launch reads: the weights, gains, rotations and last rows as the host prepares them. -/
module

public import proofs.«01_k».proof.Proof.Mq.Target
public import Idealize.ShloMosaic.Lib.Routing.OpsOne
public import Idealize.ShloMosaic.Lib.Routing.OpsSet
public import Idealize.ShloMosaic.Lib.StableHlo.ReadAt
public import Idealize.ShloMosaic.Lib.KernelVsHost

@[expose] public section

set_option maxRecDepth 16384

noncomputable section

namespace Cert.Kernel4Ideal.Mq

open Idealize.ShloMosaic Idealize.ShloMosaic.Routing Idealize.ShloMosaic.TcCoe Cert.Kernel4Ideal Cert.Kernel4Ideal.Gen Cert.Mq

/-- Where an update of the last rows lands: in the first of them, at its own lane. -/
theorem lands (ind : IVec S1 32) (h : (ind (ix1 0)).toInt = 0) (k : Fin 128) (d : Fin 64) (j : Fin 128) :
    scatter_S64x128_S1_S128_0_0_0_0.resultIdx? (ix1 k) ind = some (ix2 d j) ↔ d.val = 0 ∧ k.val = j.val := by
  have hw0 : scatter_S64x128_S1_S128_0_0_0_0.window (ix1 k) 0 = 0 := rfl
  have hw1 : scatter_S64x128_S1_S128_0_0_0_0.window (ix1 k) 1 = k.val := rfl
  have hs0 : scatter_S64x128_S1_S128_0_0_0_0.start (ix1 k) ind 0 = 0 := by
    refine Eq.trans ?_ h
    show (ind _).toInt = _
    refine congrArg (fun z => (ind z).toInt) (funext fun a => ?_)
    match a with
    | ⟨0, _⟩ => exact Subsingleton.elim (α := Fin 1) _ _
  have hs1 : scatter_S64x128_S1_S128_0_0_0_0.start (ix1 k) ind 1 = 0 := rfl
  refine (resultIdx?_ix2 (R := 64) (C := 128) scatter_S64x128_S1_S128_0_0_0_0 (ix1 k) ind d j).trans ?_
  rw [hw0, hw1, hs0, hs1]
  omega

/-- The last rows: the update in the first of them, what was there before in the others. -/
theorem scattered {α : Type} (x : S64x128.Idx → α) (ind : IVec S1 32) (u : S128.Idx → α) (h : (ind (ix1 0)).toInt = 0) (d : Fin 64) (j : Fin 128) :
    Host.scatter scatter_S64x128_S1_S128_0_0_0_0 (fun _ b => b) x ind u (ix2 d j) = if d.val = 0 then u (ix1 j) else x (ix2 d j) := by
  by_cases hd : d.val = 0
  · rw [if_pos hd]
    refine scatter_set_hit _ x ind u _ _ (fun k hk => ?_) (ix1 j) ((lands ind h j d j).mpr ⟨hd, rfl⟩)
    obtain ⟨k, rfl⟩ : ∃ k' : Fin 128, k = ix1 k' := ⟨k 0, funext fun a => by match a with | ⟨0, _⟩ => rfl⟩
    exact congrArg u (congrArg ix1 (Fin.ext ((lands ind h k d j).mp hk).2))
  · rw [if_neg hd]
    refine scatter_set_miss _ x ind u _ fun k hk => ?_
    obtain ⟨k, rfl⟩ : ∃ k' : Fin 128, k = ix1 k' := ⟨k 0, funext fun a => by match a with | ⟨0, _⟩ => rfl⟩
    exact hd ((lands ind h k d j).mp hk).1

/-- A gain times the score scale. -/
def scaledGain (g : Vec Ideal S192 .f32) (d : Fin 192) : EReal := g (ix1 d) * scoreScale

/-- A lane of the last rows. -/
def padAt (shift : Vec Ideal S_ .f32) (d : Fin 64) : EReal := if d.val = 0 then shift ix0 else 0

variable (m : (ℓ : Loc nD τ sig) → Buf (Elt Ideal) ℓ) (c : Dev nD)

/-- The weights, as the launch reads them. -/
theorem weights_apply (j : Fin 3072) (k : Fin 512) :
    (V m c main_v9 : Vec Ideal S3072x512 .bf16) (ix2 j k) = (m ((c : Thread nD τ).loc main_arg2) : Vec Ideal S512x3072 .f32) (ix2 k j) := by
  unfold V
  repeat after_reads_at

/-- The plain lanes' gains, as the launch reads them. -/
theorem plainGain_apply (d : Fin 128) (j : Fin 128) :
    (V m c main_v10 : Vec Ideal S128x128 .f32) (ix2 d j) = scaledGain (m ((c : Thread nD τ).loc main_arg3)) ⟨d.val, by omega⟩ := by
  unfold V scaledGain scoreScale
  repeat after_reads_at

/-- The rotated lanes' gains, as the launch reads them. -/
theorem halfGain_apply (d : Fin 64) (j : Fin 128) :
    (V m c main_v11 : Vec Ideal S64x128 .f32) (ix2 d j) = scaledGain (m ((c : Thread nD τ).loc main_arg3)) ⟨128 + d.val, by omega⟩ := by
  unfold V scaledGain scoreScale
  repeat after_reads_at

/-- The cosines, as the launch reads them. -/
theorem cos_apply (d : Fin 32) (r : Fin 4224) :
    (V m c main_v12 : Vec Ideal S32x4224 .f32) (ix2 d r) = (m ((c : Thread nD τ).loc main_arg5) : Vec Ideal S4224x32 .f32) (ix2 r d) := by
  unfold V
  repeat after_reads_at

/-- The sines, as the launch reads them. -/
theorem sin_apply (d : Fin 32) (r : Fin 4224) :
    (V m c main_v13 : Vec Ideal S32x4224 .f32) (ix2 d r) = (m ((c : Thread nD τ).loc main_arg6) : Vec Ideal S4224x32 .f32) (ix2 r d) := by
  unfold V
  repeat after_reads_at

/-- The last rows, as the launch reads them. -/
theorem pad_apply (d : Fin 64) (j : Fin 128) :
    (V m c main_v7 : Vec Ideal S64x128 .f32) (ix2 d j) = padAt (m ((c : Thread nD τ).loc main_arg4)) d := by
  unfold V padAt
  repeat after_reads_at
  refine (scattered _ _ _ rfl d j).trans ?_
  pointwise

end Cert.Kernel4Ideal.Mq

end
-- ==== Proof.Mq.Result.lean ====
/- The result array after the launch: every grid point leaves its block of the target. -/
module

public import proofs.«01_k».proof.Proof.Mq.Algebra
public import proofs.«01_k».proof.Proof.Mq.Host
public import Idealize.ShloMosaic.Lib.Pipeline.ValueKit
public import Idealize.ShloMosaic.Lib.Pipeline.Covers

@[expose] public section

set_option maxRecDepth 16384

noncomputable section

namespace Cert.Kernel4Ideal.Mq

open Idealize.ShloMosaic Idealize.ShloMosaic.TcCoe Idealize.SL.Sem Cert.Kernel4Ideal Cert.Kernel4Ideal.Gen Cert.Mq
open Idealize.ShloMosaic.Pipeline (Dat)

variable (m : (ℓ : Loc nD τ sig) → Buf (Elt Ideal) ℓ)

/-- The blocks every grid point reads and writes. -/
theorem idx : ∀ t : Fin cfg0.N, win0_0.index t = ![(grid0.coords t 0).val, (grid0.coords t 1).val, 4] ∧ win0_1.index t = ![0, 0]
    ∧ win0_2.index t = ![0, 0] ∧ win0_3.index t = ![0, 0] ∧ win0_4.index t = ![0, 0] ∧ win0_5.index t = ![0, (grid0.coords t 1).val]
    ∧ win0_6.index t = ![0, (grid0.coords t 1).val] ∧ win0_7.index t = ![0, 0]
    ∧ win0_8.index t = ![(grid0.coords t 0).val, 0, 0, (grid0.coords t 1).val] :=
  (by decide +kernel : ∀ t : Fin grid0.N, _)

section
variable (c : Dev nD) (t : Fin cfg0.N)

/-- The batch of a grid point. -/
def batch : Fin 12 := grid0.coords t 0

/-- A row of the whole array from a row of the grid point's block. -/
def row (r : Fin 384) : Fin 4224 := ⟨384 * (grid0.coords t 1).val + r.val, by
  have : (grid0.coords t 1).val < 11 := (grid0.coords t 1).isLt
  omega⟩

/-- The block of latent rows. -/
theorem block0 (r : Fin 384) (k : Fin 512) : (iblk m c 0 t : Vec Ideal S1x384x512 .bf16) (ix3 0 r k)
    = (m ((c : Thread nD τ).loc main_arg0) : Vec Ideal S12x4224x2560 .bf16) (ix3 (batch t) (row t r) ⟨2048 + k.val, by omega⟩) := by
  unfold batch row
  blk_point [iblk, V_main_arg0, idx t]

/-- The weights of the latent row. -/
theorem block1 (k : Fin 512) : (iblk m c 1 t : Vec Ideal S1x512 .f32) (ix2 0 k)
    = (m ((c : Thread nD τ).loc main_arg1) : Vec Ideal S1x512 .f32) (ix2 0 k) := by
  blk_point [iblk, V_main_arg1, idx t]

/-- The projection's weights. -/
theorem block2 (j : Fin 3072) (k : Fin 512) : (iblk m c 2 t : Vec Ideal S3072x512 .bf16) (ix2 j k)
    = (m ((c : Thread nD τ).loc main_arg2) : Vec Ideal S512x3072 .f32) (ix2 k j) := by
  refine Eq.trans ?_ (weights_apply m c j k)
  blk_point [iblk, idx t]

/-- The plain lanes' gains. -/
theorem block3 (d j : Fin 128) : (iblk m c 3 t : Vec Ideal S128x128 .f32) (ix2 d j)
    = scaledGain (m ((c : Thread nD τ).loc main_arg3)) ⟨d.val, by omega⟩ := by
  refine Eq.trans ?_ (plainGain_apply m c d j)
  blk_point [iblk, idx t]

/-- The rotated lanes' gains. -/
theorem block4 (d : Fin 64) (j : Fin 128) : (iblk m c 4 t : Vec Ideal S64x128 .f32) (ix2 d j)
    = scaledGain (m ((c : Thread nD τ).loc main_arg3)) ⟨128 + d.val, by omega⟩ := by
  refine Eq.trans ?_ (halfGain_apply m c d j)
  blk_point [iblk, idx t]

/-- The cosines of the block's rows. -/
theorem block5 (d : Fin 32) (r : Fin 384) : (iblk m c 5 t : Vec Ideal S32x384 .f32) (ix2 d r)
    = (m ((c : Thread nD τ).loc main_arg5) : Vec Ideal S4224x32 .f32) (ix2 (row t r) d) := by
  refine Eq.trans ?_ (cos_apply m c d (row t r))
  unfold row
  blk_point [iblk, idx t]

/-- The sines of the block's rows. -/
theorem block6 (d : Fin 32) (r : Fin 384) : (iblk m c 6 t : Vec Ideal S32x384 .f32) (ix2 d r)
    = (m ((c : Thread nD τ).loc main_arg6) : Vec Ideal S4224x32 .f32) (ix2 (row t r) d) := by
  refine Eq.trans ?_ (sin_apply m c d (row t r))
  unfold row
  blk_point [iblk, idx t]

/-- The last rows. -/
theorem block7 (d : Fin 64) (j : Fin 128) : (iblk m c 7 t : Vec Ideal S64x128 .f32) (ix2 d j)
    = padAt (m ((c : Thread nD τ).loc main_arg4)) d := by
  refine Eq.trans ?_ (pad_apply m c d j)
  blk_point [iblk, idx t]

/-- A head's lane of the block's row: the target's. -/
theorem lane_eq (n : Fin 16) (r : Fin 384) :
    blockLane (iblk m c 0 t) (iblk m c 1 t) (iblk m c 2 t) n r
      = lane (m ((c : Thread nD τ).loc main_arg0)) (m ((c : Thread nD τ).loc main_arg1)) (m ((c : Thread nD τ).loc main_arg2)) (batch t) (row t r) n := by
  funext d
  unfold blockLane lane queryAt
  simp only [block0, block1, block2]
  exact Finset.sum_congr rfl fun k _ => mul_comm _ _

/-- A column of the block: the target's. -/
theorem column_eq (n : Fin 16) (e : Fin 256) (r : Fin 384) :
    kernelRow (blockLane (iblk m c 0 t) (iblk m c 1 t) (iblk m c 2 t) n r) (fun d => scaledGain (m ((c : Thread nD τ).loc main_arg3)) d)
        (fun d => (iblk m c 5 t : Vec Ideal S32x384 .f32) (ix2 d r)) (fun d => (iblk m c 6 t : Vec Ideal S32x384 .f32) (ix2 d r))
        (padAt (m ((c : Thread nD τ).loc main_arg4))) e
      = queriesArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix4 (batch t) n e (row t r)) := by
  rw [lane_eq]
  simp only [block5, block6]
  exact kernelRow_eq _ (fun d => (m ((c : Thread nD τ).loc main_arg3) : Vec Ideal S192 .f32) (ix1 d)) _ _
    ((m ((c : Thread nD τ).loc main_arg4) : Vec Ideal S_ .f32) ix0) _ (fun _ => rfl) e

end

/-- The result array after the launch. -/
theorem result (c : Dev nD) :
    (dats m 0 c).arrAt 8 (cfgs 0).N
      = queriesArr (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 8 _ (by decide +kernel) fun t hf y => ?_
  blk_simp
  rw [after0_8]
  unfold outsAt0
  refine (out_eq _ _ _ _ _ _ _ _ _ _ _ _ _ _ _ _ _ _ _ _ _ _ _ _ _ _ _ _ (fun d => scaledGain (m ((c : Thread nD τ).loc main_arg3)) d)
    (padAt (m ((c : Thread nD τ).loc main_arg4))) (block3 m c t) (block4 m c t) (block7 m c t) y).trans ?_
  refine (column_eq m c t (y 1) (y 2) (y 3)).trans ?_
  show queriesArr _ _ _ _ _ _ _ (ix4 (batch t) (y 1) (y 2) (row t (y 3))) = queriesArr _ _ _ _ _ _ _ _
  unfold batch row
  blk_ext [idx t]

end Cert.Kernel4Ideal.Mq

end
-- ==== Proof.Mq.Reference.lean ====
/- The reference's latent query projection, entry by entry: it is the target. -/
module

public import proofs.«01_k».proof.Proof.Mq.Target
public import proofs.«01_k».proof.Proof.Gen.Reference4Ideal.Read
public import Idealize.ShloMosaic.Lib.Pointwise
public import Idealize.ShloMosaic.Lib.Pipeline.ValueKit
public import Idealize.ShloMosaic.Lib.Pipeline.Value

@[expose] public section

set_option maxRecDepth 16384

noncomputable section

namespace Cert.Reference4Ideal.Mq

open Idealize.ShloMosaic Idealize.ShloMosaic.TcCoe Idealize.SL.Sem Cert.Reference4Ideal Cert.Reference4Ideal.Read Cert.Mq

variable (p : (⟨S12x4224x2560, .bf16⟩ : BufTy).Contents (Elt Ideal)) (ln : (⟨S1x512, .f32⟩ : BufTy).Contents (Elt Ideal))
  (w : (⟨S512x3072, .f32⟩ : BufTy).Contents (Elt Ideal)) (g : (⟨S192, .f32⟩ : BufTy).Contents (Elt Ideal))
  (shift : (⟨S_, .f32⟩ : BufTy).Contents (Elt Ideal)) (co si : (⟨S4224x32, .f32⟩ : BufTy).Contents (Elt Ideal))

/-- The projection of a row against a column. -/
theorem proj_apply (b : Fin 12) (r : Fin 4224) (c : Fin 3072) :
    val_main_v15 (F := Ideal) p ln w (ix3 b r c)
      = queryAt (fun k => p (ix3 b r ⟨2048 + k.val, by omega⟩)) (fun k => ln (ix2 0 k)) (fun k => w (ix2 k c)) := by
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, val_main_v14, val_main_v15,
    queryAt, Cert.Out.normed]

/-- A head's lane. -/
theorem lane_apply (b : Fin 12) (r : Fin 4224) (n : Fin 16) (d : Fin 192) :
    val_main_v16 (F := Ideal) p ln w (ix4 b r n d) = lane p ln w b r n d := by
  pointwise [val_main_v16, proj_apply, lane]
  exact congrArg _ (funext fun k => congrArg w (congrArg (ix2 k) (Fin.ext (by simp [Nat.mul_comm]))))

/-- A head's lane, normalised and weighted. -/
theorem weighted_apply (b : Fin 12) (r : Fin 4224) (n : Fin 16) (d : Fin 192) :
    val_main_v29 (F := Ideal) p ln w g (ix4 b r n d) = weighted (lane p ln w b r n) (fun d => g (ix1 d)) d := by
  pointwise [val_main_v17, val_main_cst_2, val_main_v18, val_main_v19, val_main_cst_3, val_main_v20, val_main_v21, val_main_cst_4, val_main_v22,
    val_main_v23, val_main_v24, val_main_v25, val_main_v26, val_main_v27, val_main_v28, val_main_v29, lane_apply, weighted, Cert.Out.normed]

/-- The joined pieces of a column are the target's cases. -/
theorem ladder (q G : Fin 192 → EReal) (C S : Fin 32 → EReal) (z : EReal) (c : Fin 256) :
    (if h : c.val < 192 then
      (if h1 : c.val < 128 then weighted q G ⟨c.val, by omega⟩
        else if h2 : c.val - 128 < 32 then
          weighted q G ⟨128 + (c.val - 128), by omega⟩ * C ⟨c.val - 128, h2⟩
            - weighted q G ⟨128 + (32 + (c.val - 128)), by omega⟩ * S ⟨c.val - 128, h2⟩
        else
          weighted q G ⟨128 + (32 + (c.val - 128 - 32)), by omega⟩ * C ⟨c.val - 128 - 32, by omega⟩
            + weighted q G ⟨128 + (c.val - 128 - 32), by omega⟩ * S ⟨c.val - 128 - 32, by omega⟩) * scoreScale
    else if _h : c.val - 192 < 1 then z else 0) = rowAt q G C S z c := by
  have hG (a b : Fin 192) (e : a.val = b.val) : weighted q G a = weighted q G b := congrArg _ (Fin.ext e)
  have hC (a b : Fin 32) (e : a.val = b.val) : C a = C b := congrArg _ (Fin.ext e)
  have hS (a b : Fin 32) (e : a.val = b.val) : S a = S b := congrArg _ (Fin.ext e)
  unfold rowAt
  by_cases h0 : c.val < 128
  · rw [dif_pos (by omega : c.val < 192), dif_pos h0, dif_pos h0]
  by_cases h1 : c.val < 160
  · rw [dif_pos (by omega : c.val < 192), dif_neg h0, dif_neg h0, dif_pos h1, dif_pos (by omega : c.val - 128 < 32)]
    refine congrArg (· * scoreScale) (congrArg₂ (· - ·) (congrArg₂ (· * ·) (hG _ _ ?_) (hC _ _ ?_)) (congrArg₂ (· * ·) (hG _ _ ?_) (hS _ _ ?_))) <;>
      first | omega | (dsimp only; omega)
  by_cases h2 : c.val < 192
  · rw [dif_pos h2, dif_neg h0, dif_neg h0, dif_neg h1, dif_pos h2, dif_neg (by omega : ¬(c.val - 128 < 32))]
    refine congrArg (· * scoreScale) (congrArg₂ (· + ·) (congrArg₂ (· * ·) (hG _ _ ?_) (hC _ _ ?_)) (congrArg₂ (· * ·) (hG _ _ ?_) (hS _ _ ?_))) <;>
      first | omega | (dsimp only; omega)
  rw [dif_neg h2, dif_neg h0, dif_neg h1, dif_neg h2]
  by_cases h3 : c.val = 192
  · rw [if_pos h3, dif_pos (by omega)]
  · rw [if_neg h3, dif_neg (by omega)]

/-- The result. -/
theorem queries : val_main_v58 (F := Ideal) p ln w g shift co si = queriesArr p ln w g shift co si := by
  funext i
  obtain ⟨b, n, c, r, rfl⟩ : ∃ (b : Fin 12) (n : Fin 16) (c : Fin 256) (r : Fin 4224), i = ix4 b n c r := ⟨i 0, i 1, i 2, i 3, funext fun a => by
    match a with | ⟨0, _⟩ => rfl | ⟨1, _⟩ => rfl | ⟨2, _⟩ => rfl | ⟨3, _⟩ => rfl⟩
  show _ = entryAt p ln w g shift co si b n c r
  pointwise [val_main_v30, val_main_v31, val_main_v32, val_main_v33, val_main_v34, val_main_v35, val_main_v36, val_main_v37, val_main_v38,
    val_main_v39, val_main_v40, val_main_v41, val_main_v42, val_main_v43, val_main_v44, val_main_v45, val_main_v46, val_main_v47, val_main_v48,
    val_main_v49, val_main_v50, val_main_v51, val_main_cst_5, val_main_v52, val_main_v53, val_main_v54, val_main_cst_6, val_main_v55,
    val_main_v56, val_main_v57, val_main_v58, weighted_apply]
  exact ladder (lane p ln w b r n) (fun d => g (ix1 d)) (fun d => co (ix2 r d)) (fun d => si (ix2 r d)) (shift ix0) c

end Cert.Reference4Ideal.Mq

end
-- ==== Proof.Mq.Claim.lean ====
/- The claims of the latent query projection: its run from any arguments, and kernel and reference ending with the same
   result array. -/
module

public import proofs.«01_k».proof.Defs
public import proofs.«01_k».proof.Proof.Mq.Result
public import proofs.«01_k».proof.Proof.Mq.Reference
public import proofs.«01_k».proof.Proof.Gen.Kernel4.Frame
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import Idealize.ShloMosaic.Lib.Claim

@[expose] public section

set_option maxRecDepth 16384

noncomputable section

namespace Cert.Mq

open Idealize.ShloMosaic Idealize.ShloMosaic.TcCoe Idealize.SL.Sem

/-- The reference's frame: its run leaves the arguments unchanged, and it declares no semaphore. -/
theorem reference_frame : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

/-- The named constant is the reciprocal of the count of a query's lanes. -/
theorem constant : Cert.preserves_Kernel4_Kernel4Ideal := IdealRules.named_const.statement Cert.Kernel4Ideal.κ "inv_dqk" .f32 0x3BAAAAAB#32 ((1 / 192 : ℝ) : EReal) rfl

/-- The kernel's run ends with the target of its arguments as the result. -/
theorem kernel_run (m : (ℓ : Loc Cert.Kernel4Ideal.nD Cert.Kernel4Ideal.τ Cert.Kernel4Ideal.sig) → Buf (Elt Ideal) ℓ)
    (g : Dev Cert.Kernel4Ideal.nD → PrngReg) :
    θ_run (Cert.Kernel4Ideal.defs (F := Ideal)) (onTc (τ := Cert.Kernel4Ideal.τ) (Cert.Kernel4Ideal.main (F := Ideal))) ⟨m, fun _ => 0, g⟩
      (fun r => ∀ c : Dev Cert.Kernel4Ideal.nD,
        r.2.mem ((c.tc : Thread Cert.Kernel4Ideal.nD Cert.Kernel4Ideal.τ).loc Cert.Kernel4Ideal.main_v14)
            = queriesArr
                (m ((c.tc : Thread Cert.Kernel4Ideal.nD Cert.Kernel4Ideal.τ).loc Cert.Kernel4Ideal.main_arg0))
                (m ((c.tc : Thread Cert.Kernel4Ideal.nD Cert.Kernel4Ideal.τ).loc Cert.Kernel4Ideal.main_arg1))
                (m ((c.tc : Thread Cert.Kernel4Ideal.nD Cert.Kernel4Ideal.τ).loc Cert.Kernel4Ideal.main_arg2))
                (m ((c.tc : Thread Cert.Kernel4Ideal.nD Cert.Kernel4Ideal.τ).loc Cert.Kernel4Ideal.main_arg3))
                (m ((c.tc : Thread Cert.Kernel4Ideal.nD Cert.Kernel4Ideal.τ).loc Cert.Kernel4Ideal.main_arg4))
                (m ((c.tc : Thread Cert.Kernel4Ideal.nD Cert.Kernel4Ideal.τ).loc Cert.Kernel4Ideal.main_arg5))
                (m ((c.tc : Thread Cert.Kernel4Ideal.nD Cert.Kernel4Ideal.τ).loc Cert.Kernel4Ideal.main_arg6))) :=
  (θ_run _ _ _).mono (fun r h c => ((h c).1 8).trans (Cert.Kernel4Ideal.Mq.result m c)) (Cert.Kernel4Ideal.Gen.run_main m g)

/-- From equal arguments, kernel and reference end with the same result array. -/
theorem projection : Cert.algebraic_Kernel4Ideal_Reference4Ideal (hKernel4Ideal := Cert.Kernel4Ideal.Gen.facts)
    (hReference4Ideal := Cert.Reference4Ideal.Gen.facts) := by
  intro m g m' g' _ hagree
  refine ⟨_, θ_run_and (kernel_run m g) (Cert.Kernel4Ideal.Gen.unchanged m g) |> (θ_run _ _ _).mono fun r h c => ⟨h.1 c, h.2 c⟩, ?_⟩
  refine (θ_run _ _ _).mono (fun r h c => ⟨(h c).1.trans ?_, (h c).2⟩) (Cert.Reference4Ideal.Value.run m' g')
  obtain ⟨e0, e1, e2, e3, e4, e5, e6⟩ := hagree c
  rw [Cert.Reference4Ideal.Read.val_main_v58_eq, e0, e1, e2, e3, e4, e5, e6]
  exact Cert.Reference4Ideal.Mq.queries _ _ _ _ _ _ _

end Cert.Mq

end
-- ==== Proof.Qkv.Pieces.lean ====
/- What the body leaves in its two output blocks, tile by tile. -/
module

public import proofs.«01_k».proof.Proof.Gen.Kernel5Ideal.Frame

@[expose] public section

set_option maxRecDepth 16384

noncomputable section

namespace Cert.Kernel5Ideal.Qkv

open Idealize.ShloMosaic Cert.Kernel5Ideal Cert.Kernel5Ideal.Gen

/-- A tile's rows lie in the output block. -/
theorem tileRoom (j : Fin 4) (s : Fin 11) (l : Fin 8) :
    ∀ a, ![0, 64 * s.val, 1024 * j.val + 128 * l.val] a + S1x64x128.size a ≤ S1x704x4096.size a := by
  revert j s l; decide

/-- A tile's rows and the eight on either side lie in the projected rows. -/
theorem stripRoom (j : Fin 4) (s : Fin 11) (l : Fin 8) :
    ∀ a, ![j.val, 64 * s.val, 128 * l.val] a + S1x80x128.size a ≤ S4x720x1024.size a := by
  revert j s l; decide

/-- A group of lanes' projected rows lie among the projected rows. -/
theorem stagedRoom (j : Fin 4) : ∀ a, ![j.val, 0, 0] a + S1x720x1024.size a ≤ S4x720x1024.size a := by
  revert j; decide

/-- A group of lanes' columns lie among the projection's columns. -/
theorem columnRoom (j : Fin 4) : ∀ a, ![0, 1024 * j.val] a + S1024x1024.size a ≤ S1024x4096.size a := by
  revert j; decide

/-- A tap's lanes lie among the taps. -/
theorem tapRoom (k : Fin 5) (j : Fin 4) (l : Fin 8) : ∀ a, ![k.val, 1024 * j.val + 128 * l.val] a + S1x128.size a ≤ S8x4096.size a := by
  revert k j l; decide

/-- Where a tile lies in the output block. -/
abbrev tileRect (j : Fin 4) (s : Fin 11) (l : Fin 8) : Rect S1x704x4096 :=
  Rect.unit (s := S1x704x4096) ![0, 64 * s.val, 1024 * j.val + 128 * l.val] S1x64x128.size (tileRoom j s l)

/-- Where the rows a tile is computed from lie among the projected rows. -/
abbrev stripRect (j : Fin 4) (s : Fin 11) (l : Fin 8) : Rect S4x720x1024 :=
  Rect.unit (s := S4x720x1024) ![j.val, 64 * s.val, 128 * l.val] S1x80x128.size (stripRoom j s l)

/-- Where a group of lanes' projected rows lie. -/
abbrev stagedRect (j : Fin 4) : Rect S4x720x1024 := Rect.unit (s := S4x720x1024) ![j.val, 0, 0] S1x720x1024.size (stagedRoom j)

/-- Where a group of lanes' columns lie. -/
abbrev columnRect (j : Fin 4) : Rect S1024x4096 := Rect.unit (s := S1024x4096) ![0, 1024 * j.val] S1024x1024.size (columnRoom j)

/-- Where a tap's lanes lie. -/
abbrev tapRect (k : Fin 5) (j : Fin 4) (l : Fin 8) : Rect S8x4096 :=
  Rect.unit (s := S8x4096) ![k.val, 1024 * j.val + 128 * l.val] S1x128.size (tapRoom k j l)

section
variable {F : FTy → Type} [FloatOps F]

/-- The tile's own rows of the rows it is computed from. -/
def middle (x : FVec F S80x128 .f32) : FVec F S64x128 .f32 := extractStridedSlice S64x128 ![8, 0] x slices_S80x128_o8_0_S64x128

/-- The tile's rows, shifted. -/
def shifted (n : BitVec 32) (x : FVec F S80x128 .f32) : FVec F S64x128 .f32 := middle (dynamicRotate 0 n none x rotates_S80x128_d0)

/-- A tap, for every row of the tile. -/
def tap (w : Vec F S1x128 .f32) : FVec F S64x128 .f32 :=
  broadcastTo S64x128 (shapeCast S1x128 w shapeCasts_S1x128_S1x128) broadcasts_S1x128_S64x128

/-- The convolution. -/
def conv (x : Vec F S1x80x128 .f32) (w : Fin 5 → Vec F S1x128 .f32) : FVec F S64x128 .f32 :=
  addf
    (addf
      (addf
        (addf (mulf (middle (shapeCast S80x128 x shapeCasts_S1x80x128_S80x128)) (tap (w 2)))
          (mulf (shifted 1#32 (shapeCast S80x128 x shapeCasts_S1x80x128_S80x128)) (tap (w 1))))
        (mulf (shifted 79#32 (shapeCast S80x128 x shapeCasts_S1x80x128_S80x128)) (tap (w 3))))
      (mulf (shifted 2#32 (shapeCast S80x128 x shapeCasts_S1x80x128_S80x128)) (tap (w 0))))
    (mulf (shifted 78#32 (shapeCast S80x128 x shapeCasts_S1x80x128_S80x128)) (tap (w 4)))

/-- A value times its logistic. -/
def silu (a : FVec F S64x128 .f32) : FVec F S64x128 .f32 := mulf a (logistic a)

/-- Rows scaled to length one, times a constant. -/
def unitRows (q : BitVec 32) (y : FVec F S64x128 .f32) : FVec F S64x128 .f32 :=
  mulf y
    (broadcastTo S64x128
      (mulf
        (rsqrt
          (addf (shapeCast S64x1 (multiReduction .add [1] S64 (mulf y y) 0x00000000#32 reduces_S64x128_S64 (.inl rfl) rfl) shapeCasts_S64_S64x1)
            (broadcast S64x1 (Scalar.ofBits .f32 0x358637BD#32))))
        (broadcast S64x1 (Scalar.ofBits .f32 q)))
      broadcasts_S64x1_S64x128)

/-- A tile as stored. -/
def stored (y : FVec F S64x128 .f32) : FVec F S1x64x128 .bf16 :=
  shapeCast S1x64x128 (truncf .bf16 y bitsLt_bf16_f32) shapeCasts_S64x128_S1x64x128

/-- A tile: queries and keys scaled to length one, values as they are. -/
def tile (j : Fin 4) (y : FVec F S64x128 .f32) : FVec F S1x64x128 .bf16 :=
  match j with
  | 0 => stored (unitRows 0x3DB504F3#32 y)
  | 1 => stored (unitRows 0x3F800000#32 y)
  | _ => stored y

/-- The piece of a tile. -/
def tilePiece (x : Fin 4 → Fin 11 → Fin 8 → Vec F S1x80x128 .f32) (w : Fin 5 → Fin 4 → Fin 8 → Vec F S1x128 .f32) (j : Fin 4) (s : Fin 11)
    (l : Fin 8) : View.Piece (Elt F) S1x704x4096 .bf16 :=
  ⟨tileRect j s l, tile j (silu (conv (x j s l) fun k => w k j l))⟩

/-- The pieces of a row of tiles, the last stored first. -/
def rowPieces (x : Fin 4 → Fin 11 → Fin 8 → Vec F S1x80x128 .f32) (w : Fin 5 → Fin 4 → Fin 8 → Vec F S1x128 .f32) (j : Fin 4) (s : Fin 11) :
    List (View.Piece (Elt F) S1x704x4096 .bf16) :=
  [tilePiece x w j s 7, tilePiece x w j s 6, tilePiece x w j s 5, tilePiece x w j s 4, tilePiece x w j s 3, tilePiece x w j s 2,
    tilePiece x w j s 1, tilePiece x w j s 0]

/-- The pieces of a group of lanes, before those stored earlier. -/
def groupPieces (x : Fin 4 → Fin 11 → Fin 8 → Vec F S1x80x128 .f32) (w : Fin 5 → Fin 4 → Fin 8 → Vec F S1x128 .f32) (j : Fin 4) :
    List (View.Piece (Elt F) S1x704x4096 .bf16) :=
  rowPieces x w j 10 ++ (rowPieces x w j 9 ++ (rowPieces x w j 8 ++ (rowPieces x w j 7 ++ (rowPieces x w j 6 ++ (rowPieces x w j 5
    ++ (rowPieces x w j 4 ++ (rowPieces x w j 3 ++ (rowPieces x w j 2 ++ (rowPieces x w j 1 ++ rowPieces x w j 0)))))))))

/-- The pieces of the output block. -/
def pieces (x : Fin 4 → Fin 11 → Fin 8 → Vec F S1x80x128 .f32) (w : Fin 5 → Fin 4 → Fin 8 → Vec F S1x128 .f32) :
    List (View.Piece (Elt F) S1x704x4096 .bf16) :=
  groupPieces x w 3 ++ (groupPieces x w 2 ++ (groupPieces x w 1 ++ groupPieces x w 0))

/-- The rows projected to a group of lanes. -/
def project (x : FVec F S720x1024 .bf16) (w : Vec F S1024x1024 .bf16) : FVec F S1x720x1024 .f32 :=
  shapeCast S1x720x1024
    (matmul dot_S720x1024_S1024x1024_S720x1024_1_0_0_1_n_n none x (shapeCast S1024x1024 w shapeCasts_S1024x1024_S1024x1024)
      (constant S720x1024 .f32 0x00000000#32))
    shapeCasts_S720x1024_S1x720x1024

/-- A group of lanes' projected rows, stored. -/
def stagedPiece (p : Fin 4 → FVec F S1x720x1024 .f32) (j : Fin 4) : View.Piece (Elt F) S4x720x1024 .f32 := ⟨stagedRect j, p j⟩

/-- The projected rows stored when a group of lanes is convolved. -/
def staged (p : Fin 4 → FVec F S1x720x1024 .f32) (j : Fin 4) : List (View.Piece (Elt F) S4x720x1024 .f32) :=
  match j with
  | 0 => [stagedPiece p 1, stagedPiece p 0]
  | 1 => [stagedPiece p 2, stagedPiece p 1, stagedPiece p 0]
  | _ => [stagedPiece p 3, stagedPiece p 2, stagedPiece p 1, stagedPiece p 0]

variable (c : Dev nD) (i : grid0.Coords) (arg2 : Memref sig .tc .vmem S1x8x1024 .f32) (harg2 : arg2.IsWhole) (arg3 : Memref sig .tc .vmem S1x704x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S1024x256 .bf16) (harg7 : arg7.IsWhole) (arg8 : Memref sig .tc .vmem S8x4096 .f32) (harg8 : arg8.IsWhole) (arg9 : Memref sig .tc .vmem S1x704x4096 .bf16) (harg9 : arg9.IsWhole) (arg10 : Memref sig .tc .vmem S1x704x256 .f32) (harg10 : arg10.IsWhole) (arg11 : Memref sig .tc .vmem S4x720x1024 .f32) (harg11 : arg11.IsWhole)
    (x0 : Vec F S1x8x1024 .f32) (x1 : Vec F S1x704x1024 .f32) (x2 : Vec F S1x8x1024 .f32) (x3 : Vec F S1x1024 .f32) (x4 : Vec F S1024x4096 .bf16) (x5 : Vec F S1024x256 .bf16) (x6 : Vec F S8x4096 .f32)

/-- The run's tiles, over what it reads. -/
theorem run_pieces : (kernelRun0_A c i arg2 harg2 arg3 harg3 arg4 harg4 arg5 harg5 arg6 harg6 arg7 harg7 arg8 harg8 arg9 harg9 arg10 harg10 arg11 harg11 x0 x1 x2 x3 x4 x5 x6).1
    = pieces
      (fun j s l => arg11.view.readCov
        (staged (fun j => project
          (k0_pay2
            (View.readAt (Elt F) arg2.view (Rect.unit ![0, 0, 0] S1x8x1024.size inb_S1x8x1024_S1x8x1024_0_0_0).toLoadRect (harg2.unread x0))
            (View.readAt (Elt F) arg3.view (Rect.unit ![0, 0, 0] S1x704x1024.size inb_S1x704x1024_S1x704x1024_0_0_0).toLoadRect (harg3.unread x1))
            (View.readAt (Elt F) arg4.view (Rect.unit ![0, 0, 0] S1x8x1024.size inb_S1x8x1024_S1x8x1024_0_0_0).toLoadRect (harg4.unread x2))
            (View.readAt (Elt F) arg5.view (Rect.unit ![0, 0] S1x1024.size inb_S1x1024_S1x1024_0_0).toLoadRect (harg5.unread x3)))
          (View.readAt (Elt F) arg6.view (columnRect j).toLoadRect (harg6.unread x4))) j)
        (stripRect j s l).toLoadRect)
      (fun k j l => View.readAt (Elt F) arg8.view (tapRect k j l).toLoadRect (harg8.unread x6)) := rfl

end

end Cert.Kernel5Ideal.Qkv

end
-- ==== Proof.Qkv.Target.lean ====
/- What the convolved projection computes, entry by entry over the extended reals. -/
module

public import proofs.«01_k».proof.Proof.Out.Target
public import proofs.«01_k».proof.Proof.Gen.Kernel5Ideal.Frame

@[expose] public section

noncomputable section

namespace Cert.Qkv

open Idealize.ShloMosaic Cert.Kernel5Ideal

/-- The rows are a ring: the row `k` after row `r`. -/
def ring (r : Fin 4224) (k : ℕ) : Fin 4224 := ⟨(r.val + k) % 4224, Nat.mod_lt _ (by decide)⟩

/-- A row, normalised and weighted by `ln`, against one column. -/
def projAt (x ln col : Fin 1024 → EReal) : EReal := ∑ k, Cert.Out.normed 0x44800000#32 x k * ln k * col k

/-- The convolution along the ring: two rows before, one before, the row itself, one after, two after. -/
def convAt (p : Fin 4224 → EReal) (w : Fin 5 → EReal) (r : Fin 4224) : EReal :=
  p (ring r 4222) * w 0 + p (ring r 4223) * w 1 + p (ring r 0) * w 2 + p (ring r 1) * w 3 + p (ring r 2) * w 4

/-- A value times its logistic. -/
def siluAt (a : EReal) : EReal := a * Ideal.logistic a

/-- A lane over the length of its head (the small term as its word spells it). -/
def unitAt (y : Fin 128 → EReal) (d : Fin 128) : EReal := y d * Ideal.rsqrt (∑ j, y j * y j + Ideal.ofBits .f32 0x358637BD#32)

/-- A column: queries over their heads' lengths, scaled; keys over theirs; values as they are. -/
def mixedAt (y : Fin 4096 → EReal) (c : Fin 4096) : EReal :=
  if c.val < 1024 then
    unitAt (fun d => y ⟨128 * (c.val / 128) + d.val, by omega⟩) ⟨c.val % 128, by omega⟩ * Ideal.ofBits .f32 0x3DB504F3#32
  else if c.val < 2048 then unitAt (fun d => y ⟨128 * (c.val / 128) + d.val, by omega⟩) ⟨c.val % 128, by omega⟩
  else y c

/-- A column of the gates: a direction's two rows of logits, then zeros. -/
def gateAt (p : Fin 6176 → EReal) (c : Fin 256) : EReal :=
  if h : c.val % 128 < 16 then p ⟨6144 + 16 * (c.val % 128 / 8) + 8 * (c.val / 128) + c.val % 8, by omega⟩ else 0

/-- A projected entry from the argument arrays. -/
def entryAt (x : Vec Ideal S12x4224x1024 .f32) (ln : Vec Ideal S1x1024 .f32) (w : Vec Ideal S1024x6176 .f32) (b : Fin 12) (r : Fin 4224)
    (c : Fin 6176) : EReal :=
  projAt (fun k => x (ix3 b r k)) (fun k => ln (ix2 0 k)) (fun k => w (ix2 k c))

/-- A convolved entry from the argument arrays. -/
def convolvedAt (x : Vec Ideal S12x4224x1024 .f32) (ln : Vec Ideal S1x1024 .f32) (w : Vec Ideal S1024x6176 .f32) (f : Vec Ideal S5x4096 .f32)
    (b : Fin 12) (r : Fin 4224) (c : Fin 4096) : EReal :=
  siluAt (convAt (fun r => entryAt x ln w b r ⟨c.val, by omega⟩) (fun k => f (ix2 k c)) r)

/-- The first result array from the argument arrays. -/
def mixedArr (x : Vec Ideal S12x4224x1024 .f32) (ln : Vec Ideal S1x1024 .f32) (w : Vec Ideal S1024x6176 .f32) (f : Vec Ideal S5x4096 .f32) :
    Vec Ideal S12x4224x4096 .bf16 := fun i => mixedAt (convolvedAt x ln w f (i 0) (i 1)) (i 2)

/-- The second result array from the argument arrays. -/
def gatesArr (x : Vec Ideal S12x4224x1024 .f32) (ln : Vec Ideal S1x1024 .f32) (w : Vec Ideal S1024x6176 .f32) : Vec Ideal S12x4224x256 .f32 :=
  fun i => gateAt (entryAt x ln w (i 0) (i 1)) (i 2)

end Cert.Qkv

end
-- ==== Proof.Qkv.Block.lean ====
/- An entry of a tile, as a function of the blocks the body reads. -/
module

public import proofs.«01_k».proof.Proof.Qkv.Pieces
public import proofs.«01_k».proof.Proof.Qkv.Target
public import proofs.«01_k».proof.Proof.Out.Reference
public import Idealize.ShloMosaic.Lib.Pointwise
public import Idealize.ShloMosaic.Lib.Pipeline.Value
public import Idealize.ShloMosaic.Lib.Pipeline.ValueKit
public import Idealize.ShloMosaic.Lib.KernelVsHost

@[expose] public section

set_option maxRecDepth 16384

noncomputable section

namespace Cert.Kernel5Ideal.Qkv

open Idealize.ShloMosaic Cert.Kernel5Ideal Cert.Kernel5Ideal.Gen Cert.Qkv

/-- The rows the body normalises: those before the block, the block's, those after it. -/
def stripAt (x0 : Vec Ideal S1x8x1024 .f32) (x1 : Vec Ideal S1x704x1024 .f32) (x2 : Vec Ideal S1x8x1024 .f32) (e : Fin 720) (k : Fin 1024) : EReal :=
  if h : e.val < 8 then x0 (ix3 0 ⟨e.val, h⟩ k)
  else if h1 : e.val - 8 < 704 then x1 (ix3 0 ⟨e.val - 8, h1⟩ k) else x2 (ix3 0 ⟨e.val - 8 - 704, by omega⟩ k)

/-- A normalised row's entry. -/
theorem normal_apply (x0 : Vec Ideal S1x8x1024 .f32) (x1 : Vec Ideal S1x704x1024 .f32) (x2 : Vec Ideal S1x8x1024 .f32) (x3 : Vec Ideal S1x1024 .f32)
    (e : Fin 720) (k : Fin 1024) :
    k0_pay2 x0 x1 x2 x3 (ix2 e k) = Cert.Out.normed 0x44800000#32 (stripAt x0 x1 x2 e) k * x3 (ix2 0 k) := by
  pointwise [k0_pay2, Cert.Out.normed, stripAt]

/-- A projected row's entry. -/
theorem project_apply (q : FVec Ideal S720x1024 .bf16) (w : Vec Ideal S1024x1024 .bf16) (e : Fin 720) (l : Fin 1024) :
    project q w (ix3 0 e l) = ∑ k : Fin 1024, q (ix2 e k) * w (ix2 k l) := by
  pointwise [project]

/-- A gate's entry. -/
theorem gate_apply (x0 : Vec Ideal S1x8x1024 .f32) (x1 : Vec Ideal S1x704x1024 .f32) (x2 : Vec Ideal S1x8x1024 .f32) (x3 : Vec Ideal S1x1024 .f32)
    (x5 : Vec Ideal S1024x256 .bf16) (r : Fin 704) (j : Fin 256) :
    k0_pay3 x0 x1 x2 x3 x5 (ix3 0 r j)
      = projAt (stripAt x0 x1 x2 ⟨8 + r.val, by omega⟩) (fun k => x3 (ix2 0 k)) (fun k => x5 (ix2 k j)) := by
  pointwise [k0_pay3, normal_apply, projAt]

/-- A row of the tile, from the rows it is computed from. -/
theorem middle_apply (x : FVec Ideal S80x128 .f32) (r : Fin 64) (d : Fin 128) : middle x (ix2 r d) = x (ix2 ⟨8 + r.val, by omega⟩ d) := by
  pointwise [middle]

/-- A row of the tile, shifted. -/
theorem shifted_apply (n : BitVec 32) (k : ℕ) (h : n.toNat + k = 80) (x : FVec Ideal S80x128 .f32) (r : Fin 64) (d : Fin 128) :
    shifted n x (ix2 r d) = x (ix2 ⟨(8 + r.val + k) % 80, by omega⟩ d) := by
  unfold shifted
  rw [middle_apply]
  refine dynamicRotate_apply _ _ _ _ _ _ fun b => ?_
  match b with
  | ⟨0, _⟩ =>
    show (8 + r.val + k) % 80 = (8 + r.val + 80 - n.toNat % 80) % 80
    omega
  | ⟨1, _⟩ => rfl

/-- A tap's lane. -/
theorem tap_apply (w : Vec Ideal S1x128 .f32) (r : Fin 64) (d : Fin 128) : tap w (ix2 r d) = w (ix2 0 d) := by
  pointwise [tap]

/-- The rows as read. -/
theorem cast_apply (x : Vec Ideal S1x80x128 .f32) (e : Fin 80) (d : Fin 128) :
    shapeCast S80x128 x shapeCasts_S1x80x128_S80x128 (ix2 e d) = x (ix3 0 e d) := by
  pointwise

/-- A convolved entry: the row's own tap first, then the taps one away, then two. -/
theorem conv_apply (x : Vec Ideal S1x80x128 .f32) (w : Fin 5 → Vec Ideal S1x128 .f32) (r : Fin 64) (d : Fin 128) :
    conv x w (ix2 r d) =
      x (ix3 0 ⟨6 + r.val, by omega⟩ d) * w 0 (ix2 0 d) + x (ix3 0 ⟨7 + r.val, by omega⟩ d) * w 1 (ix2 0 d)
        + x (ix3 0 ⟨8 + r.val, by omega⟩ d) * w 2 (ix2 0 d) + x (ix3 0 ⟨9 + r.val, by omega⟩ d) * w 3 (ix2 0 d)
        + x (ix3 0 ⟨10 + r.val, by omega⟩ d) * w 4 (ix2 0 d) := by
  have hs (n : BitVec 32) (k : ℕ) (h : n.toNat + k = 80) (e : Fin 80) (he : e.val = (8 + r.val + k) % 80) :
      shifted (F := Ideal) n (shapeCast S80x128 x shapeCasts_S1x80x128_S80x128) (ix2 r d) = x (ix3 0 e d) := by
    rw [shifted_apply n k h, cast_apply]
    exact congrArg (fun e => x (ix3 0 e d)) (Fin.ext he.symm)
  show middle _ (ix2 r d) * tap _ (ix2 r d) + shifted _ _ (ix2 r d) * tap _ (ix2 r d) + shifted _ _ (ix2 r d) * tap _ (ix2 r d)
    + shifted _ _ (ix2 r d) * tap _ (ix2 r d) + shifted _ _ (ix2 r d) * tap _ (ix2 r d) = _
  rw [middle_apply, cast_apply, hs 1#32 79 rfl ⟨7 + r.val, by omega⟩ (by dsimp only; omega), hs 79#32 1 rfl ⟨9 + r.val, by omega⟩ (by dsimp only; omega),
    hs 2#32 78 rfl ⟨6 + r.val, by omega⟩ (by dsimp only; omega), hs 78#32 2 rfl ⟨10 + r.val, by omega⟩ (by dsimp only; omega)]
  simp only [tap_apply]
  ac_rfl

/-- A row's entry over its length, times a constant. -/
theorem unitRows_apply (q : BitVec 32) (y : FVec Ideal S64x128 .f32) (r : Fin 64) (d : Fin 128) :
    unitRows q y (ix2 r d) = unitAt (fun d => y (ix2 r d)) d * Ideal.ofBits .f32 q := by
  have h : unitRows q y (ix2 r d)
      = y (ix2 r d) * (Ideal.rsqrt (∑ j : Fin 128, y (ix2 r j) * y (ix2 r j) + Ideal.ofBits .f32 0x358637BD#32) * Ideal.ofBits .f32 q) := by
    pointwise [unitRows]
  exact h.trans (mul_assoc _ _ _).symm

/-- A stored entry. -/
theorem stored_apply (y : FVec Ideal S64x128 .f32) (r : Fin 64) (d : Fin 128) : stored y (ix3 0 r d) = y (ix2 r d) := by
  pointwise [stored]

/-- A tile's entry: the target's column. -/
theorem tile_apply (j : Fin 4) (l : Fin 8) (y : FVec Ideal S64x128 .f32) (r : Fin 64) (d : Fin 128) (Y : Fin 4096 → EReal)
    (h : ∀ d : Fin 128, y (ix2 r d) = Y ⟨1024 * j.val + 128 * l.val + d.val, by omega⟩) :
    tile j y (ix3 0 r d) = mixedAt Y ⟨1024 * j.val + 128 * l.val + d.val, by omega⟩ := by
  have hu : j.val < 2 → unitAt (fun d => y (ix2 r d)) d
      = unitAt (fun e => Y ⟨128 * ((1024 * j.val + 128 * l.val + d.val) / 128) + e.val, by omega⟩)
          ⟨(1024 * j.val + 128 * l.val + d.val) % 128, by omega⟩ := fun _ =>
    congrArg₂ unitAt (funext fun e => (h e).trans (congrArg Y (Fin.ext (by dsimp only; omega)))) (Fin.ext (by dsimp only; omega))
  unfold mixedAt
  dsimp only
  match j, h, hu with
  | 0, h, hu =>
    rw [if_pos (by show 1024 * 0 + 128 * l.val + d.val < 1024; omega)]
    exact (stored_apply _ r d).trans ((unitRows_apply _ _ r d).trans (congrArg (· * _) (hu (by decide))))
  | 1, h, hu =>
    rw [if_neg (by show ¬(1024 * 1 + 128 * l.val + d.val < 1024); omega), if_pos (by show 1024 * 1 + 128 * l.val + d.val < 2048; omega)]
    refine (stored_apply _ r d).trans ((unitRows_apply _ _ r d).trans ?_)
    rw [show Ideal.ofBits .f32 0x3F800000#32 = 1 from Cert.Reference2Ideal.Out.one_bits, mul_one]
    exact hu (by decide)
  | 2, h, hu =>
    rw [if_neg (by show ¬(1024 * 2 + 128 * l.val + d.val < 1024); omega), if_neg (by show ¬(1024 * 2 + 128 * l.val + d.val < 2048); omega)]
    exact (stored_apply _ r d).trans (h d)
  | 3, h, hu =>
    rw [if_neg (by show ¬(1024 * 3 + 128 * l.val + d.val < 1024); omega), if_neg (by show ¬(1024 * 3 + 128 * l.val + d.val < 2048); omega)]
    exact (stored_apply _ r d).trans (h d)

/-- Every piece staged is some group's. -/
theorem mem_staged (p : Fin 4 → FVec Ideal S1x720x1024 .f32) (j : Fin 4) (q : View.Piece (Elt Ideal) S4x720x1024 .f32) (hq : q ∈ staged p j) :
    ∃ i, q = stagedPiece p i := by
  match j with
  | 0 => simp only [staged, List.mem_cons, List.not_mem_nil, or_false] at hq; rcases hq with rfl | rfl <;> exact ⟨_, rfl⟩
  | 1 => simp only [staged, List.mem_cons, List.not_mem_nil, or_false] at hq; rcases hq with rfl | rfl | rfl <;> exact ⟨_, rfl⟩
  | 2 => simp only [staged, List.mem_cons, List.not_mem_nil, or_false] at hq; rcases hq with rfl | rfl | rfl | rfl <;> exact ⟨_, rfl⟩
  | 3 => simp only [staged, List.mem_cons, List.not_mem_nil, or_false] at hq; rcases hq with rfl | rfl | rfl | rfl <;> exact ⟨_, rfl⟩

/-- The group being convolved is staged. -/
theorem staged_mem (p : Fin 4 → FVec Ideal S1x720x1024 .f32) (j : Fin 4) : stagedPiece p j ∈ staged p j := by
  match j with
  | 0 => exact List.mem_cons_of_mem _ List.mem_cons_self
  | 1 => exact List.mem_cons_of_mem _ List.mem_cons_self
  | 2 => exact List.mem_cons_of_mem _ List.mem_cons_self
  | 3 => exact List.mem_cons_self

/-- Where an entry of a group's projected rows lies. -/
theorem staged_emb (j : Fin 4) (e : Fin 720) (l : Fin 1024) : (stagedRect j).emb (ix3 0 e l) = ix3 j e l := by
  funext a
  match a with
  | ⟨0, _⟩ => exact Fin.ext ((ValueKit.rect_emb_unit_val (s := S4x720x1024) ![j.val, 0, 0] S1x720x1024.size (stagedRoom j) (ix3 0 e l) 0).trans rfl)
  | ⟨1, _⟩ => exact Fin.ext ((ValueKit.rect_emb_unit_val (s := S4x720x1024) ![j.val, 0, 0] S1x720x1024.size (stagedRoom j) (ix3 0 e l) 1).trans (Nat.zero_add _))
  | ⟨2, _⟩ => exact Fin.ext ((ValueKit.rect_emb_unit_val (s := S4x720x1024) ![j.val, 0, 0] S1x720x1024.size (stagedRoom j) (ix3 0 e l) 2).trans (Nat.zero_add _))

/-- Where an entry of a tile's rows lies. -/
theorem strip_idx (j : Fin 4) (s : Fin 11) (l : Fin 8) (e : Fin 80) (d : Fin 128) :
    (stripRect j s l).toLoadRect.idx (ix3 0 e d) = ix3 j ⟨64 * s.val + e.val, by omega⟩ ⟨128 * l.val + d.val, by omega⟩ := by
  show (stripRect j s l).emb (ix3 0 e d) = _
  funext a
  match a with
  | ⟨0, _⟩ => exact Fin.ext ((ValueKit.rect_emb_unit_val (s := S4x720x1024) ![j.val, 64 * s.val, 128 * l.val] S1x80x128.size (stripRoom j s l) (ix3 0 e d) 0).trans rfl)
  | ⟨1, _⟩ => exact Fin.ext ((ValueKit.rect_emb_unit_val (s := S4x720x1024) ![j.val, 64 * s.val, 128 * l.val] S1x80x128.size (stripRoom j s l) (ix3 0 e d) 1).trans rfl)
  | ⟨2, _⟩ => exact Fin.ext ((ValueKit.rect_emb_unit_val (s := S4x720x1024) ![j.val, 64 * s.val, 128 * l.val] S1x80x128.size (stripRoom j s l) (ix3 0 e d) 2).trans rfl)

/-- What the staged rows hold where a group's lie. -/
theorem staged_canon (p : Fin 4 → FVec Ideal S1x720x1024 .f32) (j : Fin 4) (e : Fin 720) (l : Fin 1024) :
    View.canon (staged p j) (ix3 j e l) = p j (ix3 0 e l) := by
  refine View.canon_eq_of_allAt _ _ _ ⟨stagedPiece p j, staged_mem p j, ?_⟩ fun q hq z hz => ?_
  · rw [← staged_emb j e l]
    exact (stagedRect j).idx_mem _
  · obtain ⟨i, rfl⟩ := mem_staged p j q hq
    obtain ⟨e', l', rfl⟩ : ∃ (e' : Fin 720) (l' : Fin 1024), z = ix3 0 e' l' := ⟨z 1, z 2, funext fun a => by
      match a with | ⟨0, _⟩ => exact Subsingleton.elim (α := Fin 1) _ _ | ⟨1, _⟩ => rfl | ⟨2, _⟩ => rfl⟩
    have hz' : ix3 i e' l' = ix3 j e l := (staged_emb i e' l').symm.trans hz
    obtain rfl : i = j := congrFun hz' 0
    obtain rfl : e' = e := congrFun hz' 1
    obtain rfl : l' = l := congrFun hz' 2
    rfl

/-- A tile's rows, read. -/
theorem strip_read {sig' : RefSig} {κ' : Kind} {sp : Space} (v : View sig' κ' sp S4x720x1024 .f32) (p : Fin 4 → FVec Ideal S1x720x1024 .f32) (j : Fin 4) (s : Fin 11) (l : Fin 8)
    (e : Fin 80) (d : Fin 128) :
    v.readCov (Val := Elt Ideal) (staged p j) (stripRect j s l).toLoadRect (ix3 0 e d)
      = p j (ix3 0 ⟨64 * s.val + e.val, by omega⟩ ⟨128 * l.val + d.val, by omega⟩) := by
  rw [View.readCov_eq_canon']
  show View.canon _ ((stripRect j s l).toLoadRect.idx (ix3 0 e d)) = _
  rw [strip_idx, staged_canon]

/-- A group's columns, read. -/
theorem column_ld (x : Vec Ideal S1024x4096 .bf16) (j : Fin 4) (k l : Fin 1024) :
    View.ld x (columnRect j) (ix2 k l) = x (ix2 k ⟨1024 * j.val + l.val, by omega⟩) := by
  refine congrArg x (funext fun a => ?_)
  match a with
  | ⟨0, _⟩ => exact Fin.ext ((ValueKit.rect_emb_unit_val (s := S1024x4096) ![0, 1024 * j.val] S1024x1024.size (columnRoom j) (ix2 k l) 0).trans (Nat.zero_add _))
  | ⟨1, _⟩ => exact Fin.ext ((ValueKit.rect_emb_unit_val (s := S1024x4096) ![0, 1024 * j.val] S1024x1024.size (columnRoom j) (ix2 k l) 1).trans rfl)

/-- A tap's lanes, read. -/
theorem tap_ld (x : Vec Ideal S8x4096 .f32) (k : Fin 5) (j : Fin 4) (l : Fin 8) (d : Fin 128) :
    View.ld x (tapRect k j l) (ix2 0 d) = x (ix2 ⟨k.val, by omega⟩ ⟨1024 * j.val + 128 * l.val + d.val, by omega⟩) := by
  refine congrArg x (funext fun a => ?_)
  match a with
  | ⟨0, _⟩ => exact Fin.ext ((ValueKit.rect_emb_unit_val (s := S8x4096) ![k.val, 1024 * j.val + 128 * l.val] S1x128.size (tapRoom k j l) (ix2 0 d) 0).trans rfl)
  | ⟨1, _⟩ => exact Fin.ext ((ValueKit.rect_emb_unit_val (s := S8x4096) ![k.val, 1024 * j.val + 128 * l.val] S1x128.size (tapRoom k j l) (ix2 0 d) 1).trans rfl)

/-- Where an entry of a tile lies. -/
theorem tile_emb (j : Fin 4) (s : Fin 11) (l : Fin 8) (r : Fin 64) (d : Fin 128) :
    (tileRect j s l).emb (ix3 0 r d) = ix3 0 ⟨64 * s.val + r.val, by omega⟩ ⟨1024 * j.val + 128 * l.val + d.val, by omega⟩ := by
  funext a
  match a with
  | ⟨0, _⟩ => exact Fin.ext ((ValueKit.rect_emb_unit_val (s := S1x704x4096) ![0, 64 * s.val, 1024 * j.val + 128 * l.val] S1x64x128.size (tileRoom j s l) (ix3 0 r d) 0).trans rfl)
  | ⟨1, _⟩ => exact Fin.ext ((ValueKit.rect_emb_unit_val (s := S1x704x4096) ![0, 64 * s.val, 1024 * j.val + 128 * l.val] S1x64x128.size (tileRoom j s l) (ix3 0 r d) 1).trans rfl)
  | ⟨2, _⟩ => exact Fin.ext ((ValueKit.rect_emb_unit_val (s := S1x704x4096) ![0, 64 * s.val, 1024 * j.val + 128 * l.val] S1x64x128.size (tileRoom j s l) (ix3 0 r d) 2).trans rfl)

/-- Every piece of the block is some tile's. -/
theorem mem_pieces (x : Fin 4 → Fin 11 → Fin 8 → Vec Ideal S1x80x128 .f32) (w : Fin 5 → Fin 4 → Fin 8 → Vec Ideal S1x128 .f32)
    (q : View.Piece (Elt Ideal) S1x704x4096 .bf16) (hq : q ∈ pieces x w) : ∃ j s l, q = tilePiece x w j s l := by
  have hrow (j : Fin 4) (s : Fin 11) (h : q ∈ rowPieces x w j s) : ∃ j s l, q = tilePiece x w j s l := by
    simp only [rowPieces, List.mem_cons, List.not_mem_nil, or_false] at h
    rcases h with h | h | h | h | h | h | h | h <;> exact ⟨_, _, _, h⟩
  have hgroup (j : Fin 4) (h : q ∈ groupPieces x w j) : ∃ j s l, q = tilePiece x w j s l := by
    simp only [groupPieces, List.mem_append] at h
    rcases h with h | h | h | h | h | h | h | h | h | h | h <;> exact hrow _ _ h
  simp only [pieces, List.mem_append] at hq
  rcases hq with h | h | h | h <;> exact hgroup _ h

end Cert.Kernel5Ideal.Qkv

end
-- ==== Proof.Qkv.Tiles.lean ====
/- What the body leaves in its two output blocks, entry by entry. -/
module

public import proofs.«01_k».proof.Proof.Qkv.Block

@[expose] public section

set_option maxRecDepth 16384

noncomputable section

namespace Cert.Kernel5Ideal.Qkv

open Idealize.ShloMosaic Cert.Kernel5Ideal Cert.Kernel5Ideal.Gen Cert.Qkv

/-- A projected entry of the rows the body normalises. -/
def blockProj (x0 : Vec Ideal S1x8x1024 .f32) (x1 : Vec Ideal S1x704x1024 .f32) (x2 : Vec Ideal S1x8x1024 .f32) (x3 : Vec Ideal S1x1024 .f32)
    (x4 : Vec Ideal S1024x4096 .bf16) (c : Fin 4096) (e : Fin 720) : EReal :=
  projAt (stripAt x0 x1 x2 e) (fun k => x3 (ix2 0 k)) (fun k => x4 (ix2 k c))

/-- A convolved row of the block. -/
def blockConv (x0 : Vec Ideal S1x8x1024 .f32) (x1 : Vec Ideal S1x704x1024 .f32) (x2 : Vec Ideal S1x8x1024 .f32) (x3 : Vec Ideal S1x1024 .f32)
    (x4 : Vec Ideal S1024x4096 .bf16) (x6 : Vec Ideal S8x4096 .f32) (r : Fin 704) (c : Fin 4096) : EReal :=
  siluAt (blockProj x0 x1 x2 x3 x4 c ⟨6 + r.val, by omega⟩ * x6 (ix2 0 c) + blockProj x0 x1 x2 x3 x4 c ⟨7 + r.val, by omega⟩ * x6 (ix2 1 c)
    + blockProj x0 x1 x2 x3 x4 c ⟨8 + r.val, by omega⟩ * x6 (ix2 2 c) + blockProj x0 x1 x2 x3 x4 c ⟨9 + r.val, by omega⟩ * x6 (ix2 3 c)
    + blockProj x0 x1 x2 x3 x4 c ⟨10 + r.val, by omega⟩ * x6 (ix2 4 c))

/-- A tile's rows, read: projected entries. -/
theorem strip_proj {sig' : RefSig} {κ' : Kind} {sp : Space} (v : View sig' κ' sp S4x720x1024 .f32) (x0 : Vec Ideal S1x8x1024 .f32) (x1 : Vec Ideal S1x704x1024 .f32) (x2 : Vec Ideal S1x8x1024 .f32)
    (x3 : Vec Ideal S1x1024 .f32) (x4 : Vec Ideal S1024x4096 .bf16) (j : Fin 4) (s : Fin 11) (l : Fin 8) (e : Fin 80) (d : Fin 128)
    (e' : Fin 720) (he : e'.val = 64 * s.val + e.val) :
    v.readCov (Val := Elt Ideal) (staged (fun j => project (k0_pay2 x0 x1 x2 x3) (View.ld x4 (columnRect j))) j) (stripRect j s l).toLoadRect (ix3 0 e d)
      = blockProj x0 x1 x2 x3 x4 ⟨1024 * j.val + 128 * l.val + d.val, by omega⟩ e' := by
  rw [strip_read, show (⟨64 * s.val + e.val, by omega⟩ : Fin 720) = e' from Fin.ext he.symm, project_apply]
  unfold blockProj projAt
  refine Finset.sum_congr rfl fun k _ => congrArg₂ (· * ·) (normal_apply x0 x1 x2 x3 _ k) ((column_ld x4 j k _).trans ?_)
  exact congrArg (fun c => x4 (ix2 k c)) (Fin.ext (by dsimp only; omega))

variable (c : Dev nD) (i : grid0.Coords) (arg2 : Memref sig .tc .vmem S1x8x1024 .f32) (harg2 : arg2.IsWhole) (arg3 : Memref sig .tc .vmem S1x704x1024 .f32) (harg3 : arg3.IsWhole) (arg4 : Memref sig .tc .vmem S1x8x1024 .f32) (harg4 : arg4.IsWhole) (arg5 : Memref sig .tc .vmem S1x1024 .f32) (harg5 : arg5.IsWhole) (arg6 : Memref sig .tc .vmem S1024x4096 .bf16) (harg6 : arg6.IsWhole) (arg7 : Memref sig .tc .vmem S1024x256 .bf16) (harg7 : arg7.IsWhole) (arg8 : Memref sig .tc .vmem S8x4096 .f32) (harg8 : arg8.IsWhole) (arg9 : Memref sig .tc .vmem S1x704x4096 .bf16) (harg9 : arg9.IsWhole) (arg10 : Memref sig .tc .vmem S1x704x256 .f32) (harg10 : arg10.IsWhole) (arg11 : Memref sig .tc .vmem S4x720x1024 .f32) (harg11 : arg11.IsWhole)
    (x0 : Vec Ideal S1x8x1024 .f32) (x1 : Vec Ideal S1x704x1024 .f32) (x2 : Vec Ideal S1x8x1024 .f32) (x3 : Vec Ideal S1x1024 .f32) (x4 : Vec Ideal S1024x4096 .bf16) (x5 : Vec Ideal S1024x256 .bf16) (x6 : Vec Ideal S8x4096 .f32)

/-- The run's tiles, over the blocks. -/
theorem run_eq : (kernelRun0_A c i arg2 harg2 arg3 harg3 arg4 harg4 arg5 harg5 arg6 harg6 arg7 harg7 arg8 harg8 arg9 harg9 arg10 harg10 arg11 harg11 x0 x1 x2 x3 x4 x5 x6).1
    = pieces (fun j s l => arg11.view.readCov (staged (fun j => project (k0_pay2 x0 x1 x2 x3) (View.ld x4 (columnRect j))) j) (stripRect j s l).toLoadRect)
        (fun k j l => View.ld x6 (tapRect k j l)) := by
  rw [run_pieces]
  simp only [View.readAt_eq_ld, Memref.IsWhole.read_unread]
  rw [View.ld_unit_lit _ x0 fun a => by match a with | ⟨0, _⟩ => rfl | ⟨1, _⟩ => rfl | ⟨2, _⟩ => rfl,
    View.ld_unit_lit _ x1 fun a => by match a with | ⟨0, _⟩ => rfl | ⟨1, _⟩ => rfl | ⟨2, _⟩ => rfl,
    View.ld_unit_lit _ x2 fun a => by match a with | ⟨0, _⟩ => rfl | ⟨1, _⟩ => rfl | ⟨2, _⟩ => rfl,
    View.ld_unit_lit _ x3 fun a => by match a with | ⟨0, _⟩ => rfl | ⟨1, _⟩ => rfl]

/-- The run's gates, over what it reads. -/
theorem run_gates : (kernelRun0_A c i arg2 harg2 arg3 harg3 arg4 harg4 arg5 harg5 arg6 harg6 arg7 harg7 arg8 harg8 arg9 harg9 arg10 harg10 arg11 harg11 x0 x1 x2 x3 x4 x5 x6).2.1
    = [(⟨Rect.unit ![0, 0, 0] S1x704x256.size inb_S1x704x256_S1x704x256_0_0_0, k0_pay3
          (View.readAt (Elt Ideal) arg2.view (Rect.unit ![0, 0, 0] S1x8x1024.size inb_S1x8x1024_S1x8x1024_0_0_0).toLoadRect (harg2.unread x0))
          (View.readAt (Elt Ideal) arg3.view (Rect.unit ![0, 0, 0] S1x704x1024.size inb_S1x704x1024_S1x704x1024_0_0_0).toLoadRect (harg3.unread x1))
          (View.readAt (Elt Ideal) arg4.view (Rect.unit ![0, 0, 0] S1x8x1024.size inb_S1x8x1024_S1x8x1024_0_0_0).toLoadRect (harg4.unread x2))
          (View.readAt (Elt Ideal) arg5.view (Rect.unit ![0, 0] S1x1024.size inb_S1x1024_S1x1024_0_0).toLoadRect (harg5.unread x3))
          (View.readAt (Elt Ideal) arg7.view (Rect.unit ![0, 0] S1024x256.size inb_S1024x256_S1024x256_0_0).toLoadRect (harg7.unread x5))⟩
        : View.Piece (Elt Ideal) S1x704x256 .f32)] := rfl

/-- An entry of the first output block. -/
theorem mixed_eq (y : S1x704x4096.Idx) :
    out0_A_7 c i arg2 harg2 arg3 harg3 arg4 harg4 arg5 harg5 arg6 harg6 arg7 harg7 arg8 harg8 arg9 harg9 arg10 harg10 arg11 harg11 x0 x1 x2 x3 x4 x5 x6 y = mixedAt (blockConv x0 x1 x2 x3 x4 x6 (y 1)) (y 2) := by
  unfold out0_A_7
  have hcov := cover0_A_7 c i arg2 harg2 arg3 harg3 arg4 harg4 arg5 harg5 arg6 harg6 arg7 harg7 arg8 harg8 arg9 harg9 arg10 harg10 arg11 harg11 x0 x1 x2 x3 x4 x5 x6
  rw [View.read_writes_eq_canon _ _ _ hcov]
  refine View.canon_eq_of_allAt _ _ _ (hcov y) fun p hp z hz => ?_
  subst hz
  rw [run_eq] at hp
  obtain ⟨j, s, l, rfl⟩ := mem_pieces _ _ p hp
  obtain ⟨r, d, rfl⟩ : ∃ (r : Fin 64) (d : Fin 128), z = ix3 0 r d := ⟨z 1, z 2, funext fun a => by
    match a with | ⟨0, _⟩ => exact Subsingleton.elim (α := Fin 1) _ _ | ⟨1, _⟩ => rfl | ⟨2, _⟩ => rfl⟩
  show tile (F := Ideal) j _ (ix3 0 r d) = mixedAt (blockConv x0 x1 x2 x3 x4 x6 ((tileRect j s l).emb (ix3 0 r d) 1)) ((tileRect j s l).emb (ix3 0 r d) 2)
  rw [tile_emb]
  refine tile_apply j l _ r d (blockConv x0 x1 x2 x3 x4 x6 ⟨64 * s.val + r.val, by omega⟩) fun d => ?_
  show siluAt (conv (F := Ideal) _ _ (ix2 r d)) = _
  refine congrArg siluAt ((conv_apply _ _ r d).trans ?_)
  refine congrArg₂ (· + ·) (congrArg₂ (· + ·) (congrArg₂ (· + ·) (congrArg₂ (· + ·) ?_ ?_) ?_) ?_) ?_
  · exact congrArg₂ (· * ·) (strip_proj _ x0 x1 x2 x3 x4 j s l _ d _ (by dsimp only; omega)) (tap_ld x6 0 j l d)
  · exact congrArg₂ (· * ·) (strip_proj _ x0 x1 x2 x3 x4 j s l _ d _ (by dsimp only; omega)) (tap_ld x6 1 j l d)
  · exact congrArg₂ (· * ·) (strip_proj _ x0 x1 x2 x3 x4 j s l _ d _ (by dsimp only; omega)) (tap_ld x6 2 j l d)
  · exact congrArg₂ (· * ·) (strip_proj _ x0 x1 x2 x3 x4 j s l _ d _ (by dsimp only; omega)) (tap_ld x6 3 j l d)
  · exact congrArg₂ (· * ·) (strip_proj _ x0 x1 x2 x3 x4 j s l _ d _ (by dsimp only; omega)) (tap_ld x6 4 j l d)

/-- An entry of the second output block. -/
theorem gates_eq (r : Fin 704) (j : Fin 256) :
    out0_A_8 c i arg2 harg2 arg3 harg3 arg4 harg4 arg5 harg5 arg6 harg6 arg7 harg7 arg8 harg8 arg9 harg9 arg10 harg10 arg11 harg11 x0 x1 x2 x3 x4 x5 x6 (ix3 0 r j)
      = projAt (stripAt x0 x1 x2 ⟨8 + r.val, by omega⟩) (fun k => x3 (ix2 0 k)) (fun k => x5 (ix2 k j)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5 x6), run_gates]
  simp only [View.readAt_eq_ld, Memref.IsWhole.read_unread]
  rw [View.ld_unit_lit _ x0 fun a => by match a with | ⟨0, _⟩ => rfl | ⟨1, _⟩ => rfl | ⟨2, _⟩ => rfl,
    View.ld_unit_lit _ x1 fun a => by match a with | ⟨0, _⟩ => rfl | ⟨1, _⟩ => rfl | ⟨2, _⟩ => rfl,
    View.ld_unit_lit _ x2 fun a => by match a with | ⟨0, _⟩ => rfl | ⟨1, _⟩ => rfl | ⟨2, _⟩ => rfl,
    View.ld_unit_lit _ x3 fun a => by match a with | ⟨0, _⟩ => rfl | ⟨1, _⟩ => rfl,
    View.ld_unit_lit _ x5 fun a => by match a with | ⟨0, _⟩ => rfl | ⟨1, _⟩ => rfl,
    View.canon_cons_unit_lit _ _ _ fun a => by match a with | ⟨0, _⟩ => rfl | ⟨1, _⟩ => rfl | ⟨2, _⟩ => rfl]
  exact gate_apply x0 x1 x2 x3 x5 r j

end Cert.Kernel5Ideal.Qkv

end
-- ==== Proof.Qkv.Host.lean ====
/- What the launch reads: the weights, gate weights and taps as the host prepares them. -/
module

public import proofs.«01_k».proof.Proof.Qkv.Target
public import Idealize.ShloMosaic.Lib.Routing.OpsOne
public import Idealize.ShloMosaic.Lib.StableHlo.ReadAt
public import Idealize.ShloMosaic.Lib.KernelVsHost

@[expose] public section

set_option maxRecDepth 16384

noncomputable section

namespace Cert.Kernel5Ideal.Qkv

open Idealize.ShloMosaic Idealize.ShloMosaic.Routing Idealize.ShloMosaic.TcCoe Cert.Kernel5Ideal Cert.Kernel5Ideal.Gen Cert.Qkv

/-- The joined columns are the target's cases. -/
theorem joined (y : Fin 6176 → EReal) (z : EReal) (hz : z = 0) (j : Fin 256) :
    (if h : j.val < 128 then
      if h1 : j.val < 16 then
        if h2 : j.val < 8 then y ⟨6144 + j.val, by omega⟩ else y ⟨6144 + (16 + (j.val - 8)), by omega⟩
      else z
    else
      if h1 : j.val - 128 < 16 then
        if h2 : j.val - 128 < 8 then y ⟨6144 + (8 + (j.val - 128)), by omega⟩ else y ⟨6144 + (24 + (j.val - 128 - 8)), by omega⟩
      else z) = gateAt y j := by
  have hy (a b : Fin 6176) (e : a.val = b.val) : y a = y b := congrArg y (Fin.ext e)
  unfold gateAt
  by_cases h : j.val < 128
  · rw [dif_pos h]
    by_cases h1 : j.val < 16
    · rw [dif_pos h1, dif_pos (by omega : j.val % 128 < 16)]
      by_cases h2 : j.val < 8
      · rw [dif_pos h2]
        exact hy _ _ (by dsimp only; omega)
      · rw [dif_neg h2]
        exact hy _ _ (by dsimp only; omega)
    · rw [dif_neg h1, dif_neg (by omega : ¬(j.val % 128 < 16)), hz]
  · rw [dif_neg h]
    by_cases h1 : j.val - 128 < 16
    · rw [dif_pos h1, dif_pos (by omega : j.val % 128 < 16)]
      by_cases h2 : j.val - 128 < 8
      · rw [dif_pos h2]
        exact hy _ _ (by dsimp only; omega)
      · rw [dif_neg h2]
        exact hy _ _ (by dsimp only; omega)
    · rw [dif_neg h1, dif_neg (by omega : ¬(j.val % 128 < 16)), hz]

/-- The padding is zero. -/
theorem zero_pad : (FloatOps.sitofp (F := Ideal) .f32 (0#32 : BitVec 32) : EReal) = 0 := by
  show (((0#32 : BitVec 32).toInt : ℝ) : EReal) = 0
  simp

variable (m : (ℓ : Loc nD τ sig) → Buf (Elt Ideal) ℓ) (c : Dev nD)

/-- The weights, as the launch reads them. -/
theorem weights_apply (k : Fin 1024) (j : Fin 4096) :
    (V m c main_v16 : Vec Ideal S1024x4096 .bf16) (ix2 k j) = (m ((c : Thread nD τ).loc main_arg2) : Vec Ideal S1024x6176 .f32) (ix2 k ⟨j.val, by omega⟩) := by
  unfold V
  repeat after_reads_at

/-- The taps, as the launch reads them. -/
theorem taps_apply (k : Fin 5) (j : Fin 4096) :
    (V m c main_v14 : Vec Ideal S8x4096 .f32) (ix2 ⟨k.val, by omega⟩ j) = (m ((c : Thread nD τ).loc main_arg3) : Vec Ideal S5x4096 .f32) (ix2 k j) := by
  unfold V
  repeat after_reads_at

/-- The gates' weights, as the launch reads them. -/
theorem gateWeights_apply (k : Fin 1024) (j : Fin 256) :
    (V m c main_v18 : Vec Ideal S1024x256 .bf16) (ix2 k j)
      = gateAt (fun j => (m ((c : Thread nD τ).loc main_arg2) : Vec Ideal S1024x6176 .f32) (ix2 k j)) j := by
  unfold V
  repeat after_reads_at
  exact joined (fun j => (m ((c : Thread nD τ).loc main_arg2) : Vec Ideal S1024x6176 .f32) (ix2 k j)) _ zero_pad j

end Cert.Kernel5Ideal.Qkv

end
-- ==== Proof.Qkv.Result.lean ====
/- The result arrays after the launch: every grid point leaves its blocks of the target. -/
module

public import proofs.«01_k».proof.Proof.Qkv.Tiles
public import proofs.«01_k».proof.Proof.Qkv.Host
public import Idealize.ShloMosaic.Lib.Pipeline.ValueKit
public import Idealize.ShloMosaic.Lib.Pipeline.Covers

@[expose] public section

set_option maxRecDepth 16384

noncomputable section

namespace Cert.Kernel5Ideal.Qkv

open Idealize.ShloMosaic Idealize.ShloMosaic.TcCoe Idealize.SL.Sem Cert.Kernel5Ideal Cert.Kernel5Ideal.Gen Cert.Qkv
open Idealize.ShloMosaic.Pipeline (Dat)

variable (m : (ℓ : Loc nD τ sig) → Buf (Elt Ideal) ℓ)

/-- The blocks every grid point reads and writes. -/
theorem idx : ∀ t : Fin cfg0.N, win0_0.index t = ![(grid0.coords t 0).val, ((grid0.coords t 1).val * 88 + 527) % 528, 0]
    ∧ win0_1.index t = ![(grid0.coords t 0).val, (grid0.coords t 1).val, 0]
    ∧ win0_2.index t = ![(grid0.coords t 0).val, ((grid0.coords t 1).val * 88 + 88) % 528, 0]
    ∧ win0_3.index t = ![0, 0] ∧ win0_4.index t = ![0, 0] ∧ win0_5.index t = ![0, 0] ∧ win0_6.index t = ![0, 0]
    ∧ win0_7.index t = ![(grid0.coords t 0).val, (grid0.coords t 1).val, 0]
    ∧ win0_8.index t = ![(grid0.coords t 0).val, (grid0.coords t 1).val, 0] :=
  (by decide +kernel : ∀ t : Fin grid0.N, _)

section
variable (c : Dev nD) (t : Fin cfg0.N)

/-- The batch of a grid point. -/
def batch : Fin 12 := grid0.coords t 0

/-- There are six blocks of rows. -/
theorem blocks : (grid0.coords t 1).val < 6 := (grid0.coords t 1).isLt

/-- A row of the whole array from a row of the grid point's block. -/
def row (r : Fin 704) : Fin 4224 := ⟨704 * (grid0.coords t 1).val + r.val, by
  have := blocks t
  omega⟩

/-- A row of the whole array from a row of those the body normalises. -/
def stripRow (e : Fin 720) : Fin 4224 := ⟨(704 * (grid0.coords t 1).val + e.val + 4216) % 4224, Nat.mod_lt _ (by decide)⟩

/-- The rows before the block. -/
theorem block0 (e : Fin 8) (k : Fin 1024) : (iblk m c 0 t : Vec Ideal S1x8x1024 .f32) (ix3 0 e k)
    = (m ((c : Thread nD τ).loc main_arg0) : Vec Ideal S12x4224x1024 .f32)
        (ix3 (batch t) ⟨((grid0.coords t 1).val * 88 + 527) % 528 * 8 + e.val, by omega⟩ k) := by
  unfold batch
  blk_point [iblk, V_main_arg0, idx t]

/-- The rows of the block. -/
theorem block1 (r : Fin 704) (k : Fin 1024) : (iblk m c 1 t : Vec Ideal S1x704x1024 .f32) (ix3 0 r k)
    = (m ((c : Thread nD τ).loc main_arg0) : Vec Ideal S12x4224x1024 .f32) (ix3 (batch t) (row t r) k) := by
  unfold batch row
  blk_point [iblk, V_main_arg0, idx t]

/-- The rows after the block. -/
theorem block2 (e : Fin 8) (k : Fin 1024) : (iblk m c 2 t : Vec Ideal S1x8x1024 .f32) (ix3 0 e k)
    = (m ((c : Thread nD τ).loc main_arg0) : Vec Ideal S12x4224x1024 .f32)
        (ix3 (batch t) ⟨((grid0.coords t 1).val * 88 + 88) % 528 * 8 + e.val, by omega⟩ k) := by
  unfold batch
  blk_point [iblk, V_main_arg0, idx t]

/-- The rows' weights. -/
theorem block3 (k : Fin 1024) : (iblk m c 3 t : Vec Ideal S1x1024 .f32) (ix2 0 k)
    = (m ((c : Thread nD τ).loc main_arg1) : Vec Ideal S1x1024 .f32) (ix2 0 k) := by
  blk_point [iblk, V_main_arg1, idx t]

/-- The projection's weights. -/
theorem block4 (k : Fin 1024) (j : Fin 4096) : (iblk m c 4 t : Vec Ideal S1024x4096 .bf16) (ix2 k j)
    = (m ((c : Thread nD τ).loc main_arg2) : Vec Ideal S1024x6176 .f32) (ix2 k ⟨j.val, by omega⟩) := by
  refine Eq.trans ?_ (weights_apply m c k j)
  blk_point [iblk, idx t]

/-- The gates' weights. -/
theorem block5 (k : Fin 1024) (j : Fin 256) : (iblk m c 5 t : Vec Ideal S1024x256 .bf16) (ix2 k j)
    = gateAt (fun j => (m ((c : Thread nD τ).loc main_arg2) : Vec Ideal S1024x6176 .f32) (ix2 k j)) j := by
  refine Eq.trans ?_ (gateWeights_apply m c k j)
  blk_point [iblk, idx t]

/-- The taps. -/
theorem block6 (k : Fin 5) (j : Fin 4096) : (iblk m c 6 t : Vec Ideal S8x4096 .f32) (ix2 ⟨k.val, by omega⟩ j)
    = (m ((c : Thread nD τ).loc main_arg3) : Vec Ideal S5x4096 .f32) (ix2 k j) := by
  refine Eq.trans ?_ (taps_apply m c k j)
  blk_point [iblk, idx t]

/-- The rows the body normalises: rows of the ring. -/
theorem strip_eq (e : Fin 720) : stripAt (iblk m c 0 t) (iblk m c 1 t) (iblk m c 2 t) e
    = fun k => (m ((c : Thread nD τ).loc main_arg0) : Vec Ideal S12x4224x1024 .f32) (ix3 (batch t) (stripRow t e) k) := by
  funext k
  have hb := blocks t
  unfold stripAt
  by_cases h : e.val < 8
  · rw [dif_pos h, block0]
    exact congrArg (fun r => (m ((c : Thread nD τ).loc main_arg0) : Vec Ideal S12x4224x1024 .f32) (ix3 (batch t) r k))
      (Fin.ext (by unfold stripRow; dsimp only; omega))
  rw [dif_neg h]
  by_cases h1 : e.val - 8 < 704
  · rw [dif_pos h1, block1]
    exact congrArg (fun r => (m ((c : Thread nD τ).loc main_arg0) : Vec Ideal S12x4224x1024 .f32) (ix3 (batch t) r k))
      (Fin.ext (by unfold stripRow row; dsimp only; omega))
  · rw [dif_neg h1, block2]
    exact congrArg (fun r => (m ((c : Thread nD τ).loc main_arg0) : Vec Ideal S12x4224x1024 .f32) (ix3 (batch t) r k))
      (Fin.ext (by unfold stripRow; dsimp only; omega))

/-- A projected entry of the block: the target's. -/
theorem proj_eq (j : Fin 4096) (e : Fin 720) (R : Fin 4224) (h : stripRow t e = R) :
    blockProj (iblk m c 0 t) (iblk m c 1 t) (iblk m c 2 t) (iblk m c 3 t) (iblk m c 4 t) j e
      = entryAt (m ((c : Thread nD τ).loc main_arg0)) (m ((c : Thread nD τ).loc main_arg1)) (m ((c : Thread nD τ).loc main_arg2))
          (batch t) R ⟨j.val, by omega⟩ := by
  subst h
  unfold blockProj entryAt
  rw [strip_eq]
  simp only [block3, block4]

/-- A convolved entry of the block: the target's. -/
theorem conv_eq (r : Fin 704) :
    blockConv (iblk m c 0 t) (iblk m c 1 t) (iblk m c 2 t) (iblk m c 3 t) (iblk m c 4 t) (iblk m c 6 t) r
      = convolvedAt (m ((c : Thread nD τ).loc main_arg0)) (m ((c : Thread nD τ).loc main_arg1)) (m ((c : Thread nD τ).loc main_arg2))
          (m ((c : Thread nD τ).loc main_arg3)) (batch t) (row t r) := by
  funext j
  have hb := blocks t
  unfold blockConv convolvedAt convAt
  refine congrArg siluAt ?_
  refine congrArg₂ (· + ·) (congrArg₂ (· + ·) (congrArg₂ (· + ·) (congrArg₂ (· + ·) ?_ ?_) ?_) ?_) ?_
  · exact congrArg₂ (· * ·) (proj_eq m c t j _ _ (Fin.ext (by unfold stripRow ring row; dsimp only; omega))) (block6 m c t 0 j)
  · exact congrArg₂ (· * ·) (proj_eq m c t j _ _ (Fin.ext (by unfold stripRow ring row; dsimp only; omega))) (block6 m c t 1 j)
  · exact congrArg₂ (· * ·) (proj_eq m c t j _ _ (Fin.ext (by unfold stripRow ring row; dsimp only; omega))) (block6 m c t 2 j)
  · exact congrArg₂ (· * ·) (proj_eq m c t j _ _ (Fin.ext (by unfold stripRow ring row; dsimp only; omega))) (block6 m c t 3 j)
  · exact congrArg₂ (· * ·) (proj_eq m c t j _ _ (Fin.ext (by unfold stripRow ring row; dsimp only; omega))) (block6 m c t 4 j)

/-- A first entry of the block: the target's. -/
theorem mixedEntry_eq (r : Fin 704) (j : Fin 4096) :
    mixedAt (blockConv (iblk m c 0 t) (iblk m c 1 t) (iblk m c 2 t) (iblk m c 3 t) (iblk m c 4 t) (iblk m c 6 t) r) j
      = mixedArr (m ((c : Thread nD τ).loc main_arg0)) (m ((c : Thread nD τ).loc main_arg1)) (m ((c : Thread nD τ).loc main_arg2))
          (m ((c : Thread nD τ).loc main_arg3)) (ix3 (batch t) (row t r) j) := by
  rw [conv_eq]
  rfl

/-- A projection against the padded columns: the padded projections. -/
theorem gate_proj (x ln : Fin 1024 → EReal) (w : Fin 1024 → Fin 6176 → EReal) (j : Fin 256) :
    projAt x ln (fun k => gateAt (w k) j) = gateAt (fun c => projAt x ln fun k => w k c) j := by
  unfold gateAt
  by_cases h : j.val % 128 < 16
  · simp only [dif_pos h]
  · simp only [dif_neg h]
    unfold projAt
    simp only [mul_zero, Finset.sum_const_zero]

/-- A second entry of the block: the target's. -/
theorem gateEntry_eq (r : Fin 704) (j : Fin 256) :
    projAt (stripAt (iblk m c 0 t) (iblk m c 1 t) (iblk m c 2 t) ⟨8 + r.val, by omega⟩)
        (fun k => (iblk m c 3 t : Vec Ideal S1x1024 .f32) (ix2 0 k)) (fun k => (iblk m c 5 t : Vec Ideal S1024x256 .bf16) (ix2 k j))
      = gatesArr (m ((c : Thread nD τ).loc main_arg0)) (m ((c : Thread nD τ).loc main_arg1)) (m ((c : Thread nD τ).loc main_arg2))
          (ix3 (batch t) (row t r) j) := by
  have hb := blocks t
  have e : stripRow t ⟨8 + r.val, by omega⟩ = row t r := Fin.ext (by unfold stripRow row; dsimp only; omega)
  rw [strip_eq, e]
  simp only [block3, block5]
  exact gate_proj _ _ _ j

end

/-- The first result array after the launch. -/
theorem mixed_result (c : Dev nD) :
    (dats m 0 c).arrAt 7 (cfgs 0).N
      = mixedArr (m ((c : Thread nD τ).loc main_arg0)) (m ((c : Thread nD τ).loc main_arg1)) (m ((c : Thread nD τ).loc main_arg2))
          (m ((c : Thread nD τ).loc main_arg3)) := by
  refine (dats m 0 c).arrAt_eq_of_covers 7 _ (by decide +kernel) fun t hf y => ?_
  blk_simp
  rw [after0_7]
  unfold outsAt0
  dsimp only
  refine (mixed_eq _ _ _ _ _ _ _ _ _ _ _ _ _ _ _ _ _ _ _ _ _ _ _ _ _ _ _ _ _ y).trans ?_
  refine (mixedEntry_eq m c t (y 1) (y 2)).trans ?_
  show mixedArr _ _ _ _ (ix3 (batch t) (row t (y 1)) (y 2)) = mixedArr _ _ _ _ _
  unfold batch row
  blk_ext [idx t]

/-- The second result array after the launch. -/
theorem gates_result (c : Dev nD) :
    (dats m 0 c).arrAt 8 (cfgs 0).N
      = gatesArr (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  unfold outsAt0
  dsimp only
  obtain ⟨r, j, rfl⟩ : ∃ (r : Fin 704) (j : Fin 256), y = ix3 0 r j := ⟨y 1, y 2, funext fun a => by
    match a with | ⟨0, _⟩ => exact Subsingleton.elim (α := Fin 1) _ _ | ⟨1, _⟩ => rfl | ⟨2, _⟩ => rfl⟩
  refine (gates_eq _ _ _ _ _ _ _ _ _ _ _ _ _ _ _ _ _ _ _ _ _ _ _ _ _ _ _ _ _ r j).trans ?_
  refine (gateEntry_eq m c t r j).trans ?_
  show gatesArr _ _ _ (ix3 (batch t) (row t r) j) = gatesArr _ _ _ _
  unfold batch row
  blk_ext [idx t]

end Cert.Kernel5Ideal.Qkv

end
-- ==== Proof.Qkv.Rolls.lean ====
/- The reference's projection, entry by entry, its rows moved along the ring. -/
module

public import proofs.«01_k».proof.Proof.Qkv.Target
public import proofs.«01_k».proof.Proof.Gen.Reference5Ideal.Read
public import Idealize.ShloMosaic.Lib.Pointwise
public import Idealize.ShloMosaic.Lib.Pipeline.ValueKit
public import Idealize.ShloMosaic.Lib.Pipeline.Value
public import Idealize.ShloMosaic.Lib.KernelVsHost

@[expose] public section

set_option maxRecDepth 16384

noncomputable section

namespace Cert.Reference5Ideal.Qkv

open Idealize.ShloMosaic Idealize.ShloMosaic.TcCoe Idealize.SL.Sem Cert.Reference5Ideal Cert.Reference5Ideal.Read Cert.Qkv

variable (x : (⟨S12x4224x1024, .f32⟩ : BufTy).Contents (Elt Ideal)) (ln : (⟨S1x1024, .f32⟩ : BufTy).Contents (Elt Ideal))
  (w : (⟨S1024x6176, .f32⟩ : BufTy).Contents (Elt Ideal)) (f : (⟨S5x4096, .f32⟩ : BufTy).Contents (Elt Ideal))

/-- The projection of a row against a column. -/
theorem proj_apply (b : Fin 12) (r : Fin 4224) (c : Fin 6176) : val_main_v13 (F := Ideal) x ln w (ix3 b r c) = entryAt x ln w b r c := by
  pointwise [val_main_v0, val_main_v1, val_main_cst, val_main_v2, val_main_v3, val_main_cst_0, val_main_v4, val_main_v5, val_main_cst_1,
    val_main_v6, val_main_v7, val_main_v8, val_main_v9, val_main_v10, val_main_v11, val_main_v12, val_main_v13, entryAt, projAt, Cert.Out.normed]

/-- The projection's first columns. -/
theorem first_apply (b : Fin 12) (r : Fin 4224) (c : Fin 4096) :
    val_main_v14 (F := Ideal) x ln w (ix3 b r c) = entryAt x ln w b r ⟨c.val, by omega⟩ := by
  pointwise [val_main_v14, proj_apply]

/-- The rows two before. -/
theorem roll2_apply (b : Fin 12) (r : Fin 4224) (c : Fin 4096) :
    val_main_v15 (F := Ideal) x ln w (ix3 b r c) = entryAt x ln w b (ring r 4222) ⟨c.val, by omega⟩ := by
  pointwise [val_main_v15, val_main_call0_v0, val_main_call0_v1, first_apply]
  split <;> exact congrArg (fun r => entryAt x ln w b r _) (Fin.ext (by unfold ring; dsimp only; omega))

/-- The rows one before. -/
theorem roll1_apply (b : Fin 12) (r : Fin 4224) (c : Fin 4096) :
    val_main_v21 (F := Ideal) x ln w (ix3 b r c) = entryAt x ln w b (ring r 4223) ⟨c.val, by omega⟩ := by
  pointwise [val_main_v21, val_main_call1_v0, val_main_call1_v1, first_apply]
  split <;> exact congrArg (fun r => entryAt x ln w b r _) (Fin.ext (by unfold ring; dsimp only; omega))

/-- The rows themselves. -/
theorem roll0_apply (b : Fin 12) (r : Fin 4224) (c : Fin 4096) :
    val_main_v28 (F := Ideal) x ln w (ix3 b r c) = entryAt x ln w b (ring r 0) ⟨c.val, by omega⟩ := by
  pointwise [val_main_v28, val_main_call2_v0, val_main_call2_v1, first_apply]
  exact congrArg (fun r => entryAt x ln w b r _) (Fin.ext (by unfold ring; dsimp only; omega))

/-- The rows one after. -/
theorem rollUp1_apply (b : Fin 12) (r : Fin 4224) (c : Fin 4096) :
    val_main_v35 (F := Ideal) x ln w (ix3 b r c) = entryAt x ln w b (ring r 1) ⟨c.val, by omega⟩ := by
  pointwise [val_main_v35, val_main_call3_v0, val_main_call3_v1, first_apply]
  split <;> exact congrArg (fun r => entryAt x ln w b r _) (Fin.ext (by unfold ring; dsimp only; omega))

/-- The rows two after. -/
theorem rollUp2_apply (b : Fin 12) (r : Fin 4224) (c : Fin 4096) :
    val_main_v42 (F := Ideal) x ln w (ix3 b r c) = entryAt x ln w b (ring r 2) ⟨c.val, by omega⟩ := by
  pointwise [val_main_v42, val_main_call4_v0, val_main_call4_v1, first_apply]
  split <;> exact congrArg (fun r => entryAt x ln w b r _) (Fin.ext (by unfold ring; dsimp only; omega))

end Cert.Reference5Ideal.Qkv

end
-- ==== Proof.Qkv.Convolution.lean ====
/- The reference's convolution, entry by entry. -/
module

public import proofs.«01_k».proof.Proof.Qkv.Rolls
public import proofs.«01_k».proof.Proof.Gen.Reference5Ideal.Read
public import Idealize.ShloMosaic.Lib.Pointwise
public import Idealize.ShloMosaic.Lib.Pipeline.ValueKit
public import Idealize.ShloMosaic.Lib.Pipeline.Value
public import Idealize.ShloMosaic.Lib.KernelVsHost

@[expose] public section

set_option maxRecDepth 16384

noncomputable section

namespace Cert.Reference5Ideal.Qkv

open Idealize.ShloMosaic Idealize.ShloMosaic.TcCoe Idealize.SL.Sem Cert.Reference5Ideal Cert.Reference5Ideal.Read Cert.Qkv

variable (x : (⟨S12x4224x1024, .f32⟩ : BufTy).Contents (Elt Ideal)) (ln : (⟨S1x1024, .f32⟩ : BufTy).Contents (Elt Ideal))
  (w : (⟨S1024x6176, .f32⟩ : BufTy).Contents (Elt Ideal)) (f : (⟨S5x4096, .f32⟩ : BufTy).Contents (Elt Ideal))

/-- The convolution. -/
theorem conv_apply (b : Fin 12) (r : Fin 4224) (c : Fin 4096) :
    val_main_v48 (F := Ideal) x ln w f (ix3 b r c)
      = convAt (fun r => entryAt x ln w b r ⟨c.val, by omega⟩) (fun k => f (ix2 k c)) r := by
  pointwise [val_main_v16, val_main_v17, val_main_v18, val_main_v19, val_main_v20, val_main_v22, val_main_v23, val_main_v24, val_main_v25,
    val_main_v26, val_main_v27, val_main_v29, val_main_v30, val_main_v31, val_main_v32, val_main_v33, val_main_v34, val_main_v36, val_main_v37,
    val_main_v38, val_main_v39, val_main_v40, val_main_v41, val_main_v43, val_main_v44, val_main_v45, val_main_v46, val_main_v47, val_main_v48,
    roll2_apply, roll1_apply, roll0_apply, rollUp1_apply, rollUp2_apply, convAt]

end Cert.Reference5Ideal.Qkv

end
-- ==== Proof.Qkv.Reference.lean ====
/- The reference's convolved projection, entry by entry: it is the target. -/
module

public import proofs.«01_k».proof.Proof.Qkv.Convolution
public import proofs.«01_k».proof.Proof.Out.Reference
public import proofs.«01_k».proof.Proof.Gen.Reference5Ideal.Read
public import Idealize.ShloMosaic.Lib.Pointwise
public import Idealize.ShloMosaic.Lib.Pipeline.ValueKit
public import Idealize.ShloMosaic.Lib.Pipeline.Value
public import Idealize.ShloMosaic.Lib.KernelVsHost

@[expose] public section

set_option maxRecDepth 16384

noncomputable section

namespace Cert.Reference5Ideal.Qkv

open Idealize.ShloMosaic Idealize.ShloMosaic.TcCoe Idealize.SL.Sem Cert.Reference5Ideal Cert.Reference5Ideal.Read Cert.Qkv

variable (x : (⟨S12x4224x1024, .f32⟩ : BufTy).Contents (Elt Ideal)) (ln : (⟨S1x1024, .f32⟩ : BufTy).Contents (Elt Ideal))
  (w : (⟨S1024x6176, .f32⟩ : BufTy).Contents (Elt Ideal)) (f : (⟨S5x4096, .f32⟩ : BufTy).Contents (Elt Ideal))

/-- The convolution times its logistic. -/
theorem silu_apply (b : Fin 12) (r : Fin 4224) (c : Fin 4096) :
    val_main_v49 (F := Ideal) x ln w f (ix3 b r c) = convolvedAt x ln w f b r c := by
  refine Eq.trans ?_ (congrArg siluAt (conv_apply x ln w f b r c))
  rw [val_main_v49_apply, val_main_call5_v5_apply, val_main_call5_v4_apply, val_main_call5_v3_apply, val_main_call5_v2_apply,
    val_main_call5_v1_apply, val_main_call5_v0_apply, val_main_call5_cst_apply, val_main_call5_cst_0_apply, Cert.Reference2Ideal.Out.one_bits]
  rfl

/-- A query's lane. -/
theorem queryLane_apply (b : Fin 12) (r : Fin 4224) (n : Fin 8) (d : Fin 128) :
    val_main_v51 (F := Ideal) x ln w f (ix4 b r n d) = convolvedAt x ln w f b r ⟨128 * n.val + d.val, by omega⟩ := by
  have e : idx_main_v51 (ix4 b r n d) = ix3 b r ⟨128 * n.val + d.val, by omega⟩ := by
    funext a
    match a with
    | ⟨0, _⟩ => exact Fin.ext (by show (((b.val * 4224 + r.val) * 8 + n.val) * 128 + d.val) / 4325376 = b.val; omega)
    | ⟨1, _⟩ => exact Fin.ext (by show (((b.val * 4224 + r.val) * 8 + n.val) * 128 + d.val) / 1024 % 4224 = r.val; omega)
    | ⟨2, _⟩ => exact Fin.ext (by show (((b.val * 4224 + r.val) * 8 + n.val) * 128 + d.val) % 1024 = 128 * n.val + d.val; omega)
  have e' : idx_main_v50 (ix3 b r (⟨128 * n.val + d.val, by omega⟩ : Fin 1024)) = ix3 b r ⟨128 * n.val + d.val, by omega⟩ := by
    funext a
    match a with | ⟨0, _⟩ => rfl | ⟨1, _⟩ => rfl | ⟨2, _⟩ => rfl
  rw [val_main_v51_apply, e, val_main_v50_apply, e', silu_apply]

/-- A key's lane. -/
theorem keyLane_apply (b : Fin 12) (r : Fin 4224) (n : Fin 8) (d : Fin 128) :
    val_main_v63 (F := Ideal) x ln w f (ix4 b r n d) = convolvedAt x ln w f b r ⟨1024 + (128 * n.val + d.val), by omega⟩ := by
  have e : idx_main_v63 (ix4 b r n d) = ix3 b r ⟨128 * n.val + d.val, by omega⟩ := by
    funext a
    match a with
    | ⟨0, _⟩ => exact Fin.ext (by show (((b.val * 4224 + r.val) * 8 + n.val) * 128 + d.val) / 4325376 = b.val; omega)
    | ⟨1, _⟩ => exact Fin.ext (by show (((b.val * 4224 + r.val) * 8 + n.val) * 128 + d.val) / 1024 % 4224 = r.val; omega)
    | ⟨2, _⟩ => exact Fin.ext (by show (((b.val * 4224 + r.val) * 8 + n.val) * 128 + d.val) % 1024 = 128 * n.val + d.val; omega)
  have e' : idx_main_v62 (ix3 b r (⟨128 * n.val + d.val, by omega⟩ : Fin 1024)) = ix3 b r ⟨1024 + (128 * n.val + d.val), by omega⟩ := by
    funext a
    match a with | ⟨0, _⟩ => rfl | ⟨1, _⟩ => rfl | ⟨2, _⟩ => rfl
  rw [val_main_v63_apply, e, val_main_v62_apply, e', silu_apply]

/-- A query's lane over its head's length, scaled. -/
theorem query_apply (b : Fin 12) (r : Fin 4224) (n : Fin 8) (d : Fin 128) :
    val_main_v61 (F := Ideal) x ln w f (ix4 b r n d)
      = unitAt (fun d => convolvedAt x ln w f b r ⟨128 * n.val + d.val, by omega⟩) d * Ideal.ofBits .f32 0x3DB504F3#32 := by
  have e (k : Fin 128) : idx_main_v53 (idx_main_v54 (idx_main_v58 (ix4 b r n d))) k = ix4 b r n k := by
    funext a
    match a with | ⟨0, _⟩ => rfl | ⟨1, _⟩ => rfl | ⟨2, _⟩ => rfl | ⟨3, _⟩ => rfl
  have s (k : Fin 128) : val_main_v52 (F := Ideal) x ln w f (idx_main_v53 (idx_main_v54 (idx_main_v58 (ix4 b r n d))) k)
      = convolvedAt x ln w f b r ⟨128 * n.val + k.val, by omega⟩ * convolvedAt x ln w f b r ⟨128 * n.val + k.val, by omega⟩ := by
    rw [e, val_main_v52_apply, queryLane_apply]
    rfl
  unfold unitAt
  rw [val_main_v61_apply, val_main_v60_apply, val_main_cst_4_apply, val_main_v59_apply, val_main_v58_apply, val_main_v57_apply, val_main_v56_apply, val_main_v54_apply, val_main_v53_apply,
    val_main_v55_apply, val_main_cst_3_apply, val_main_cst_2_apply, queryLane_apply, Finset.sum_congr rfl fun k _ => s k]
  exact congrArg (fun t => convolvedAt x ln w f b r ⟨128 * n.val + d.val, by omega⟩ * Ideal.rsqrt (t + Ideal.ofBits .f32 0x358637BD#32) * Ideal.ofBits .f32 0x3DB504F3#32)
    ((congrArg (· + _) Cert.Reference2Ideal.Out.zero_bits).trans (zero_add _))

/-- A key's lane over its head's length. -/
theorem key_apply (b : Fin 12) (r : Fin 4224) (n : Fin 8) (d : Fin 128) :
    val_main_v71 (F := Ideal) x ln w f (ix4 b r n d)
      = unitAt (fun d => convolvedAt x ln w f b r ⟨1024 + (128 * n.val + d.val), by omega⟩) d := by
  have e (k : Fin 128) : idx_main_v65 (idx_main_v66 (idx_main_v70 (ix4 b r n d))) k = ix4 b r n k := by
    funext a
    match a with | ⟨0, _⟩ => rfl | ⟨1, _⟩ => rfl | ⟨2, _⟩ => rfl | ⟨3, _⟩ => rfl
  have s (k : Fin 128) : val_main_v64 (F := Ideal) x ln w f (idx_main_v65 (idx_main_v66 (idx_main_v70 (ix4 b r n d))) k)
      = convolvedAt x ln w f b r ⟨1024 + (128 * n.val + k.val), by omega⟩ * convolvedAt x ln w f b r ⟨1024 + (128 * n.val + k.val), by omega⟩ := by
    rw [e, val_main_v64_apply, keyLane_apply]
    rfl
  unfold unitAt
  rw [val_main_v71_apply, val_main_v70_apply, val_main_v69_apply, val_main_v68_apply, val_main_v66_apply, val_main_v65_apply,
    val_main_v67_apply, val_main_cst_6_apply, val_main_cst_5_apply, keyLane_apply, Finset.sum_congr rfl fun k _ => s k]
  exact congrArg (fun t => convolvedAt x ln w f b r ⟨1024 + (128 * n.val + d.val), by omega⟩ * Ideal.rsqrt (t + Ideal.ofBits .f32 0x358637BD#32))
    ((congrArg (· + _) Cert.Reference2Ideal.Out.zero_bits).trans (zero_add _))

/-- A query's column. -/
theorem queryColumn_apply (b : Fin 12) (r : Fin 4224) (c : Fin 1024) :
    val_main_v72 (F := Ideal) x ln w f (ix3 b r c)
      = unitAt (fun d => convolvedAt x ln w f b r ⟨128 * (c.val / 128) + d.val, by omega⟩) ⟨c.val % 128, by omega⟩
        * Ideal.ofBits .f32 0x3DB504F3#32 := by
  have e : idx_main_v72 (ix3 b r c) = ix4 b r ⟨c.val / 128, by omega⟩ ⟨c.val % 128, by omega⟩ := by
    funext a
    match a with
    | ⟨0, _⟩ => exact Fin.ext (by show ((b.val * 4224 + r.val) * 1024 + c.val) / 4325376 = b.val; omega)
    | ⟨1, _⟩ => exact Fin.ext (by show ((b.val * 4224 + r.val) * 1024 + c.val) / 1024 % 4224 = r.val; omega)
    | ⟨2, _⟩ => exact Fin.ext (by show ((b.val * 4224 + r.val) * 1024 + c.val) / 128 % 8 = c.val / 128; omega)
    | ⟨3, _⟩ => exact Fin.ext (by show ((b.val * 4224 + r.val) * 1024 + c.val) % 128 = c.val % 128; omega)
  rw [val_main_v72_apply, e, query_apply]

/-- A key's column. -/
theorem keyColumn_apply (b : Fin 12) (r : Fin 4224) (c : Fin 1024) :
    val_main_v73 (F := Ideal) x ln w f (ix3 b r c)
      = unitAt (fun d => convolvedAt x ln w f b r ⟨1024 + (128 * (c.val / 128) + d.val), by omega⟩) ⟨c.val % 128, by omega⟩ := by
  have e : idx_main_v73 (ix3 b r c) = ix4 b r ⟨c.val / 128, by omega⟩ ⟨c.val % 128, by omega⟩ := by
    funext a
    match a with
    | ⟨0, _⟩ => exact Fin.ext (by show ((b.val * 4224 + r.val) * 1024 + c.val) / 4325376 = b.val; omega)
    | ⟨1, _⟩ => exact Fin.ext (by show ((b.val * 4224 + r.val) * 1024 + c.val) / 1024 % 4224 = r.val; omega)
    | ⟨2, _⟩ => exact Fin.ext (by show ((b.val * 4224 + r.val) * 1024 + c.val) / 128 % 8 = c.val / 128; omega)
    | ⟨3, _⟩ => exact Fin.ext (by show ((b.val * 4224 + r.val) * 1024 + c.val) % 128 = c.val % 128; omega)
  rw [val_main_v73_apply, e, key_apply]

/-- The joined columns are the target's cases. -/
theorem columns (y : Fin 4096 → EReal) (s : EReal) (c : Fin 4096) (hs : s = Ideal.ofBits .f32 0x3DB504F3#32) :
    (if h : c.val < 1024 then unitAt (fun d => y ⟨128 * (c.val / 128) + d.val, by omega⟩) ⟨c.val % 128, by omega⟩ * s
    else if h1 : c.val - 1024 < 1024 then
      unitAt (fun d => y ⟨1024 + (128 * ((c.val - 1024) / 128) + d.val), by omega⟩) ⟨(c.val - 1024) % 128, by omega⟩
    else y ⟨2048 + (c.val - 1024 - 1024), by omega⟩) = mixedAt y c := by
  unfold mixedAt
  by_cases h : c.val < 1024
  · rw [dif_pos h, if_pos h, hs]
  rw [dif_neg h, if_neg h]
  by_cases h1 : c.val < 2048
  · rw [dif_pos (by omega : c.val - 1024 < 1024), if_pos h1]
    exact congrArg₂ unitAt (funext fun d => congrArg y (Fin.ext (by dsimp only; omega))) (Fin.ext (by dsimp only; omega))
  · rw [dif_neg (by omega : ¬(c.val - 1024 < 1024)), if_neg h1]
    exact congrArg y (Fin.ext (by dsimp only; omega))

/-- The first result. -/
theorem mixed : val_main_v81 (F := Ideal) x ln w f = mixedArr x ln w f := by
  funext i
  obtain ⟨b, r, c, rfl⟩ : ∃ (b : Fin 12) (r : Fin 4224) (c : Fin 4096), i = ix3 b r c := ⟨i 0, i 1, i 2, funext fun a => by
    match a with | ⟨0, _⟩ => rfl | ⟨1, _⟩ => rfl | ⟨2, _⟩ => rfl⟩
  show _ = mixedAt (convolvedAt x ln w f b r) c
  refine Eq.trans ?_ (columns (convolvedAt x ln w f b r) _ c rfl)
  pointwise [val_main_v74, val_main_v75, val_main_v81, queryColumn_apply, keyColumn_apply, silu_apply]

end Cert.Reference5Ideal.Qkv

end
-- ==== Proof.Qkv.Gates.lean ====
/- The reference's gates, entry by entry: they are the target's. -/
module

public import proofs.«01_k».proof.Proof.Qkv.Rolls
public import proofs.«01_k».proof.Proof.Out.Reference
public import proofs.«01_k».proof.Proof.Gen.Reference5Ideal.Read
public import Idealize.ShloMosaic.Lib.Pointwise
public import Idealize.ShloMosaic.Lib.Pipeline.ValueKit
public import Idealize.ShloMosaic.Lib.Pipeline.Value
public import Idealize.ShloMosaic.Lib.KernelVsHost

@[expose] public section

set_option maxRecDepth 16384

noncomputable section

namespace Cert.Reference5Ideal.Qkv

open Idealize.ShloMosaic Idealize.ShloMosaic.TcCoe Idealize.SL.Sem Cert.Reference5Ideal Cert.Reference5Ideal.Read Cert.Qkv

variable (x : (⟨S12x4224x1024, .f32⟩ : BufTy).Contents (Elt Ideal)) (ln : (⟨S1x1024, .f32⟩ : BufTy).Contents (Elt Ideal))
  (w : (⟨S1024x6176, .f32⟩ : BufTy).Contents (Elt Ideal)) (f : (⟨S5x4096, .f32⟩ : BufTy).Contents (Elt Ideal))

/-- A direction's gate logit. -/
theorem logit_apply (b : Fin 12) (r : Fin 4224) (d : Fin 2) (e : Fin 16) :
    val_main_v79 (F := Ideal) x ln w (ix4 b r d e) = entryAt x ln w b r ⟨6144 + (16 * (e.val / 8) + 8 * d.val + e.val % 8), by omega⟩ := by
  have h3 : idx_main_v79 (ix4 b r d e) = ix5 b r d ⟨e.val / 8, by omega⟩ ⟨e.val % 8, by omega⟩ := by
    funext a
    match a with
    | ⟨0, _⟩ => exact Fin.ext (by show (((b.val * 4224 + r.val) * 2 + d.val) * 16 + e.val) / 135168 = b.val; omega)
    | ⟨1, _⟩ => exact Fin.ext (by show (((b.val * 4224 + r.val) * 2 + d.val) * 16 + e.val) / 32 % 4224 = r.val; omega)
    | ⟨2, _⟩ => exact Fin.ext (by show (((b.val * 4224 + r.val) * 2 + d.val) * 16 + e.val) / 16 % 2 = d.val; omega)
    | ⟨3, _⟩ => exact Fin.ext (by show (((b.val * 4224 + r.val) * 2 + d.val) * 16 + e.val) / 8 % 2 = e.val / 8; omega)
    | ⟨4, _⟩ => exact Fin.ext (by show (((b.val * 4224 + r.val) * 2 + d.val) * 16 + e.val) % 8 = e.val % 8; omega)
  have h2 (a : Fin 2) (h : Fin 8) : idx_main_v78 (ix5 b r d a h) = ix5 b r a d h := by
    funext k
    match k with | ⟨0, _⟩ => rfl | ⟨1, _⟩ => rfl | ⟨2, _⟩ => rfl | ⟨3, _⟩ => rfl | ⟨4, _⟩ => rfl
  have h1 (a : Fin 2) (h : Fin 8) : idx_main_v77 (ix5 b r a d h) = ix3 b r ⟨16 * a.val + 8 * d.val + h.val, by omega⟩ := by
    funext k
    match k with
    | ⟨0, _⟩ => exact Fin.ext (by show ((((b.val * 4224 + r.val) * 2 + a.val) * 2 + d.val) * 8 + h.val) / 135168 = b.val; omega)
    | ⟨1, _⟩ => exact Fin.ext (by show ((((b.val * 4224 + r.val) * 2 + a.val) * 2 + d.val) * 8 + h.val) / 32 % 4224 = r.val; omega)
    | ⟨2, _⟩ => exact Fin.ext (by show ((((b.val * 4224 + r.val) * 2 + a.val) * 2 + d.val) * 8 + h.val) % 32 = 16 * a.val + 8 * d.val + h.val; omega)
  have h0 (c : Fin 32) : idx_main_v76 (ix3 b r c) = ix3 b r ⟨6144 + c.val, by omega⟩ := by
    funext k
    match k with | ⟨0, _⟩ => rfl | ⟨1, _⟩ => rfl | ⟨2, _⟩ => rfl
  rw [val_main_v79_apply, h3, val_main_v78_apply, h2, val_main_v77_apply, h1, val_main_v76_apply, h0, proj_apply]

/-- The padded columns are the target's cases. -/
theorem padded (y : Fin 6176 → EReal) (z : EReal) (hz : z = 0) (c : Fin 256) :
    (if h : c.val / 128 < 2 ∧ c.val % 128 < 16 then
      y ⟨6144 + (16 * (c.val % 128 / 8) + 8 * (c.val / 128) + c.val % 128 % 8), by omega⟩
    else z) = gateAt y c := by
  unfold gateAt
  by_cases h : c.val % 128 < 16
  · rw [dif_pos ⟨by omega, h⟩, dif_pos h]
    exact congrArg y (Fin.ext (by dsimp only; omega))
  · rw [dif_neg fun k => h k.2, dif_neg h, hz]

/-- The padding is zero. -/
theorem zero_pad : (FloatOps.sitofp (F := Ideal) .f32 (0#32 : BitVec 32) : EReal) = 0 := by
  show (((0#32 : BitVec 32).toInt : ℝ) : EReal) = 0
  simp

/-- The second result. -/
theorem gates : val_main_v82 (F := Ideal) x ln w = gatesArr x ln w := by
  funext i
  obtain ⟨b, r, c, rfl⟩ : ∃ (b : Fin 12) (r : Fin 4224) (c : Fin 256), i = ix3 b r c := ⟨i 0, i 1, i 2, funext fun a => by
    match a with | ⟨0, _⟩ => rfl | ⟨1, _⟩ => rfl | ⟨2, _⟩ => rfl⟩
  show _ = gateAt (entryAt x ln w b r) c
  refine Eq.trans ?_ (padded (entryAt x ln w b r) _ zero_pad c)
  pointwise [val_main_c, val_main_call6_v0, val_main_v80, val_main_v82, logit_apply]

end Cert.Reference5Ideal.Qkv

end
-- ==== Proof.Qkv.Claim.lean ====
/- The claims of the convolved projection: its run from any arguments, and kernel and reference ending with the same two
   result arrays. -/
module

public import proofs.«01_k».proof.Defs
public import proofs.«01_k».proof.Proof.Qkv.Result
public import proofs.«01_k».proof.Proof.Qkv.Reference
public import proofs.«01_k».proof.Proof.Qkv.Gates
public import proofs.«01_k».proof.Proof.Gen.Kernel5.Frame
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import Idealize.ShloMosaic.Lib.Claim

@[expose] public section

set_option maxRecDepth 16384

noncomputable section

namespace Cert.Qkv

open Idealize.ShloMosaic Idealize.ShloMosaic.TcCoe Idealize.SL.Sem

/-- The reference's frame: its run leaves the arguments unchanged, and it declares no semaphore. -/
theorem reference_frame : Cert.quiescent_Reference5Ideal (hReference5Ideal := Cert.Reference5Ideal.Gen.facts) := fun m g _ =>
  (θ_run _ _ _).mono (fun r h => ⟨fun c => (h c).2.2, sem_eq_zero_of_no_sems (by decide) r.2⟩) (Cert.Reference5Ideal.Value.run m g)

/-- The kernel's run ends with the targets of its arguments as the results. -/
theorem kernel_run (m : (ℓ : Loc Cert.Kernel5Ideal.nD Cert.Kernel5Ideal.τ Cert.Kernel5Ideal.sig) → Buf (Elt Ideal) ℓ)
    (g : Dev Cert.Kernel5Ideal.nD → PrngReg) :
    θ_run (Cert.Kernel5Ideal.defs (F := Ideal)) (onTc (τ := Cert.Kernel5Ideal.τ) (Cert.Kernel5Ideal.main (F := Ideal))) ⟨m, fun _ => 0, g⟩
      (fun r => ∀ c : Dev Cert.Kernel5Ideal.nD,
        r.2.mem ((c.tc : Thread Cert.Kernel5Ideal.nD Cert.Kernel5Ideal.τ).loc Cert.Kernel5Ideal.main_v19_0)
            = mixedArr
                (m ((c.tc : Thread Cert.Kernel5Ideal.nD Cert.Kernel5Ideal.τ).loc Cert.Kernel5Ideal.main_arg0))
                (m ((c.tc : Thread Cert.Kernel5Ideal.nD Cert.Kernel5Ideal.τ).loc Cert.Kernel5Ideal.main_arg1))
                (m ((c.tc : Thread Cert.Kernel5Ideal.nD Cert.Kernel5Ideal.τ).loc Cert.Kernel5Ideal.main_arg2))
                (m ((c.tc : Thread Cert.Kernel5Ideal.nD Cert.Kernel5Ideal.τ).loc Cert.Kernel5Ideal.main_arg3))
        ∧ r.2.mem ((c.tc : Thread Cert.Kernel5Ideal.nD Cert.Kernel5Ideal.τ).loc Cert.Kernel5Ideal.main_v19_1)
            = gatesArr
                (m ((c.tc : Thread Cert.Kernel5Ideal.nD Cert.Kernel5Ideal.τ).loc Cert.Kernel5Ideal.main_arg0))
                (m ((c.tc : Thread Cert.Kernel5Ideal.nD Cert.Kernel5Ideal.τ).loc Cert.Kernel5Ideal.main_arg1))
                (m ((c.tc : Thread Cert.Kernel5Ideal.nD Cert.Kernel5Ideal.τ).loc Cert.Kernel5Ideal.main_arg2))) :=
  (θ_run _ _ _).mono (fun r h c => ⟨((h c).1 7).trans (Cert.Kernel5Ideal.Qkv.mixed_result m c),
    ((h c).1 8).trans (Cert.Kernel5Ideal.Qkv.gates_result m c)⟩)
    (Cert.Kernel5Ideal.Gen.run_main m g)

/-- From equal arguments, kernel and reference end with the same two result arrays. -/
theorem projection : Cert.algebraic_Kernel5Ideal_Reference5Ideal (hKernel5Ideal := Cert.Kernel5Ideal.Gen.facts)
    (hReference5Ideal := Cert.Reference5Ideal.Gen.facts) := by
  intro m g m' g' _ hagree
  refine ⟨_, _, θ_run_and (kernel_run m g) (Cert.Kernel5Ideal.Gen.unchanged m g)
    |> (θ_run _ _ _).mono fun r h c => ⟨(h.1 c).1, (h.1 c).2, h.2 c⟩, ?_⟩
  refine (θ_run _ _ _).mono (fun r h c => ⟨(h c).1.trans ?_, (h c).2.1.trans ?_, (h c).2.2⟩)
    (Cert.Reference5Ideal.Value.run m' g')
  · obtain ⟨e0, e1, e2, e3⟩ := hagree c
    rw [Cert.Reference5Ideal.Read.val_main_v81_eq]
    show Cert.Reference5Ideal.Read.val_main_v81 (F := Ideal)
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3)) = _
    rw [e0, e1, e2, e3]
    exact Cert.Reference5Ideal.Qkv.mixed _ _ _ _
  · obtain ⟨e0, e1, e2, e3⟩ := hagree c
    rw [Cert.Reference5Ideal.Read.val_main_v82_eq]
    show Cert.Reference5Ideal.Read.val_main_v82 (F := Ideal)
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))
      (m' ((c.tc : Thread Cert.Reference5Ideal.nD Cert.Reference5Ideal.τ).loc Cert.Reference5Ideal.main_arg2)) = _
    rw [e0, e1, e2]
    exact Cert.Reference5Ideal.Qkv.gates _ _ _

end Cert.Qkv

end
-- ==== Proof.lean ====
/- The claims of the attention, proved. -/
module

public import proofs.«01_k».proof.Defs
public import proofs.«01_k».proof.Proof.Attn.Frame
public import proofs.«01_k».proof.Proof.Attn.Bits
public import proofs.«01_k».proof.Proof.Attn.Reference
public import proofs.«01_k».proof.Proof.Attn.Claim
public import proofs.«01_k».proof.Proof.Out.Claim
public import proofs.«01_k».proof.Proof.Kv.Claim
public import proofs.«01_k».proof.Proof.Mq.Claim
public import proofs.«01_k».proof.Proof.Qkv.Claim
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- From equal arguments, queries and keys being numbers, kernel and reference end with the same result array. -/
theorem attention : Cert.algebraic_KernelIdeal_ReferenceIdeal_pre_finite_scores (hKernelIdeal := Cert.KernelIdeal.Gen.facts)
    (hReferenceIdeal := Cert.ReferenceIdeal.Gen.facts) (hPre_finite_scores := Cert.Attn.preFacts) := by
  intro m g m' g' hpre hagree
  have hr := Cert.Attn.real_of_pre m hpre
  refine ⟨_, θ_run_and (Cert.Attn.kernel_run m g hr) (Cert.KernelIdeal.Attn.unchanged m g) |> (θ_run _ _ _).mono fun r h c => ⟨h.1 c, h.2 c⟩, ?_⟩
  refine (θ_run _ _ _).mono (fun r h c => ⟨(h c).1.trans ?_, (h c).2⟩) (Cert.ReferenceIdeal.Value.run m' g')
  obtain ⟨_, e1, e2, e3⟩ := hagree c
  rw [Cert.ReferenceIdeal.Read.val_main_v28_eq, e1, e2, e3]
  exact Cert.ReferenceIdeal.Attn.result _ _ _ (hr c).1 (hr c).2

/-- The claims: the frames of each kernel as printed and at the exact reading, and of its reference; that the exact
    reading keeps the program; and that kernel and reference compute the same attention, the same gated projection, the
    same gates, keys and values, the same queries, and the same convolved projection. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Attn.preFacts,
  fun m g _ => Cert.Kernel.Attn.frame m g, fun m g _ => Cert.KernelIdeal.Attn.frame m g,
  fun m g _ => Cert.KernelIdeal.Attn.frame m g, fun m g _ => Cert.ReferenceIdeal.Attn.frame m g,
  fun m g _ => Cert.ReferenceIdeal.Attn.frame m g,
  fun m g _ => Cert.Kernel2.Gen.frame m g, fun m g _ => Cert.Kernel2Ideal.Gen.frame m g,
  Cert.Out.reference_frame,
  fun m g _ => Cert.Kernel3.Gen.frame m g, fun m g _ => Cert.Kernel3Ideal.Gen.frame m g,
  Cert.Kv.reference_frame,
  fun m g _ => Cert.Kernel4.Gen.frame m g, fun m g _ => Cert.Kernel4Ideal.Gen.frame m g,
  Cert.Mq.reference_frame,
  fun m g _ => Cert.Kernel5.Gen.frame m g, fun m g _ => Cert.Kernel5Ideal.Gen.frame m g,
  Cert.Qkv.reference_frame,
  trivial, attention, trivial, Cert.Out.projection, Cert.Kv.constant, Cert.Kv.projection,
  Cert.Mq.constant, Cert.Mq.projection, trivial, Cert.Qkv.projection⟩

end Cert.Proof

end
